-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojIdeal_finite [hPre_finite : Cert.Pre_finite.Facts] (m : (ℓ : Loc Cert.InprojIdeal.nD Cert.InprojIdeal.τ Cert.InprojIdeal.sig) → Buf (Elt Ideal) ℓ) : Prop :=
  ∀ c : Dev Cert.InprojIdeal.nD,
    (Cert.Pre_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2))).1 = (fun _ => 1#1)
    ∧ (Cert.Pre_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2))).2 = (fun _ => 1#1)

def Pre_InprojRefIdeal (m : (ℓ : Loc Cert.InprojRefIdeal.nD Cert.InprojRefIdeal.τ Cert.InprojRefIdeal.sig) → Buf (Elt Ideal) ℓ) : Prop :=
  True

def Pre_InprojRefIdeal_finite [hPre_finite : Cert.Pre_finite.Facts] (m : (ℓ : Loc Cert.InprojRefIdeal.nD Cert.InprojRefIdeal.τ Cert.InprojRefIdeal.sig) → Buf (Elt Ideal) ℓ) : Prop :=
  ∀ c : Dev Cert.InprojRefIdeal.nD,
    (Cert.Pre_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2))).1 = (fun _ => 1#1)
    ∧ (Cert.Pre_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2))).2 = (fun _ => 1#1)

def Pre_Memkv (m : (ℓ : Loc Cert.Memkv.nD Cert.Memkv.τ Cert.Memkv.sig) → Buf (Elt Bits) ℓ) : Prop :=
  True

def Pre_MemkvIdeal (m : (ℓ : Loc Cert.MemkvIdeal.nD Cert.MemkvIdeal.τ Cert.MemkvIdeal.sig) → Buf (Elt Ideal) ℓ) : Prop :=
  True

def Pre_MemkvRefIdeal (m : (ℓ : Loc Cert.MemkvRefIdeal.nD Cert.MemkvRefIdeal.τ Cert.MemkvRefIdeal.sig) → Buf (Elt Ideal) ℓ) : Prop :=
  True

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossIdeal_finite_keys [hPre_finite_keys : Cert.Pre_finite_keys.Facts] (m : (ℓ : Loc Cert.CrossIdeal.nD Cert.CrossIdeal.τ Cert.CrossIdeal.sig) → Buf (Elt Ideal) ℓ) : Prop :=
  ∀ c : Dev Cert.CrossIdeal.nD,
    (Cert.Pre_finite_keys.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4)) (m ((c.tc : Thread Cert.CrossIdeal.nD Cert.CrossIdeal.τ).loc Cert.CrossIdeal.main_arg5)) (m ((c.tc : Thread Cert.CrossIdeal.nD Cert.CrossIdeal.τ).loc Cert.CrossIdeal.main_arg6)) (m ((c.tc : Thread Cert.CrossIdeal.nD Cert.CrossIdeal.τ).loc Cert.CrossIdeal.main_arg7)) (m ((c.tc : Thread Cert.CrossIdeal.nD Cert.CrossIdeal.τ).loc Cert.CrossIdeal.main_arg8)) (m ((c.tc : Thread Cert.CrossIdeal.nD Cert.CrossIdeal.τ).loc Cert.CrossIdeal.main_arg9)) (m ((c.tc : Thread Cert.CrossIdeal.nD Cert.CrossIdeal.τ).loc Cert.CrossIdeal.main_arg10))).1 = (fun _ => 1#1)
    ∧ (Cert.Pre_finite_keys.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4)) (m ((c.tc : Thread Cert.CrossIdeal.nD Cert.CrossIdeal.τ).loc Cert.CrossIdeal.main_arg5)) (m ((c.tc : Thread Cert.CrossIdeal.nD Cert.CrossIdeal.τ).loc Cert.CrossIdeal.main_arg6)) (m ((c.tc : Thread Cert.CrossIdeal.nD Cert.CrossIdeal.τ).loc Cert.CrossIdeal.main_arg7)) (m ((c.tc : Thread Cert.CrossIdeal.nD Cert.CrossIdeal.τ).loc Cert.CrossIdeal.main_arg8)) (m ((c.tc : Thread Cert.CrossIdeal.nD Cert.CrossIdeal.τ).loc Cert.CrossIdeal.main_arg9)) (m ((c.tc : Thread Cert.CrossIdeal.nD Cert.CrossIdeal.τ).loc Cert.CrossIdeal.main_arg10))).2 = (fun _ => 1#1)

def Pre_CrossRefIdeal (m : (ℓ : Loc Cert.CrossRefIdeal.nD Cert.CrossRefIdeal.τ Cert.CrossRefIdeal.sig) → Buf (Elt Ideal) ℓ) : Prop :=
  True

def Pre_CrossRefIdeal_finite_keys [hPre_finite_keys : Cert.Pre_finite_keys.Facts] (m : (ℓ : Loc Cert.CrossRefIdeal.nD Cert.CrossRefIdeal.τ Cert.CrossRefIdeal.sig) → Buf (Elt Ideal) ℓ) : Prop :=
  ∀ c : Dev Cert.CrossRefIdeal.nD,
    (Cert.Pre_finite_keys.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2)) (m ((c.tc : Thread Cert.CrossRefIdeal.nD Cert.CrossRefIdeal.τ).loc Cert.CrossRefIdeal.main_arg3)) (m ((c.tc : Thread Cert.CrossRefIdeal.nD Cert.CrossRefIdeal.τ).loc Cert.CrossRefIdeal.main_arg4)) (m ((c.tc : Thread Cert.CrossRefIdeal.nD Cert.CrossRefIdeal.τ).loc Cert.CrossRefIdeal.main_arg5)) (m ((c.tc : Thread Cert.CrossRefIdeal.nD Cert.CrossRefIdeal.τ).loc Cert.CrossRefIdeal.main_arg6)) (m ((c.tc : Thread Cert.CrossRefIdeal.nD Cert.CrossRefIdeal.τ).loc Cert.CrossRefIdeal.main_arg7)) (m ((c.tc : Thread Cert.CrossRefIdeal.nD Cert.CrossRefIdeal.τ).loc Cert.CrossRefIdeal.main_arg8)) (m ((c.tc : Thread Cert.CrossRefIdeal.nD Cert.CrossRefIdeal.τ).loc Cert.CrossRefIdeal.main_arg9)) (m ((c.tc : Thread Cert.CrossRefIdeal.nD Cert.CrossRefIdeal.τ).loc Cert.CrossRefIdeal.main_arg10))).1 = (fun _ => 1#1)
    ∧ (Cert.Pre_finite_keys.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2)) (m ((c.tc : Thread Cert.CrossRefIdeal.nD Cert.CrossRefIdeal.τ).loc Cert.CrossRefIdeal.main_arg3)) (m ((c.tc : Thread Cert.CrossRefIdeal.nD Cert.CrossRefIdeal.τ).loc Cert.CrossRefIdeal.main_arg4)) (m ((c.tc : Thread Cert.CrossRefIdeal.nD Cert.CrossRefIdeal.τ).loc Cert.CrossRefIdeal.main_arg5)) (m ((c.tc : Thread Cert.CrossRefIdeal.nD Cert.CrossRefIdeal.τ).loc Cert.CrossRefIdeal.main_arg6)) (m ((c.tc : Thread Cert.CrossRefIdeal.nD Cert.CrossRefIdeal.τ).loc Cert.CrossRefIdeal.main_arg7)) (m ((c.tc : Thread Cert.CrossRefIdeal.nD Cert.CrossRefIdeal.τ).loc Cert.CrossRefIdeal.main_arg8)) (m ((c.tc : Thread Cert.CrossRefIdeal.nD Cert.CrossRefIdeal.τ).loc Cert.CrossRefIdeal.main_arg9)) (m ((c.tc : Thread Cert.CrossRefIdeal.nD Cert.CrossRefIdeal.τ).loc Cert.CrossRefIdeal.main_arg10))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojIdeal_pre_finite [hInprojIdeal : Cert.InprojIdeal.Facts] [hPre_finite : Cert.Pre_finite.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal_finite m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2))
      ∧ r.2.sem = fun _ => 0)

def quiescent_InprojRefIdeal_pre_finite [hInprojRefIdeal : Cert.InprojRefIdeal.Facts] [hPre_finite : Cert.Pre_finite.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal_finite m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2))
      ∧ r.2.sem = fun _ => 0)

def quiescent_Memkv [hMemkv : Cert.Memkv.Facts] : Prop :=
  ∀ (m : (ℓ : Loc Cert.Memkv.nD Cert.Memkv.τ Cert.Memkv.sig) → Buf (Elt Bits) ℓ) (g : Dev Cert.Memkv.nD → PrngReg), Pre_Memkv m →
    θ_run (Cert.Memkv.defs (F := Bits)) (onTc (τ := Cert.Memkv.τ) (Cert.Memkv.main (F := Bits))) ⟨m, fun _ => 0, g⟩ (fun r => (∀ c : Dev Cert.Memkv.nD,
      r.2.mem ((c.tc : Thread Cert.Memkv.nD Cert.Memkv.τ).loc Cert.Memkv.main_arg0) = m ((c.tc : Thread Cert.Memkv.nD Cert.Memkv.τ).loc Cert.Memkv.main_arg0)
      ∧ r.2.mem ((c.tc : Thread Cert.Memkv.nD Cert.Memkv.τ).loc Cert.Memkv.main_arg1) = m ((c.tc : Thread Cert.Memkv.nD Cert.Memkv.τ).loc Cert.Memkv.main_arg1)
      ∧ r.2.mem ((c.tc : Thread Cert.Memkv.nD Cert.Memkv.τ).loc Cert.Memkv.main_arg2) = m ((c.tc : Thread Cert.Memkv.nD Cert.Memkv.τ).loc Cert.Memkv.main_arg2)
      ∧ r.2.mem ((c.tc : Thread Cert.Memkv.nD Cert.Memkv.τ).loc Cert.Memkv.main_arg3) = m ((c.tc : Thread Cert.Memkv.nD Cert.Memkv.τ).loc Cert.Memkv.main_arg3))
      ∧ r.2.sem = fun _ => 0)

def quiescent_MemkvIdeal [hMemkvIdeal : Cert.MemkvIdeal.Facts] : Prop :=
  ∀ (m : (ℓ : Loc Cert.MemkvIdeal.nD Cert.MemkvIdeal.τ Cert.MemkvIdeal.sig) → Buf (Elt Ideal) ℓ) (g : Dev Cert.MemkvIdeal.nD → PrngReg), Pre_MemkvIdeal m →
    θ_run (Cert.MemkvIdeal.defs (F := Ideal)) (onTc (τ := Cert.MemkvIdeal.τ) (Cert.MemkvIdeal.main (F := Ideal))) ⟨m, fun _ => 0, g⟩ (fun r => (∀ c : Dev Cert.MemkvIdeal.nD,
      r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
      ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
      ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2)
      ∧ r.2.mem ((c.tc : Thread Cert.MemkvIdeal.nD Cert.MemkvIdeal.τ).loc Cert.MemkvIdeal.main_arg3) = m ((c.tc : Thread Cert.MemkvIdeal.nD Cert.MemkvIdeal.τ).loc Cert.MemkvIdeal.main_arg3))
      ∧ r.2.sem = fun _ => 0)

def quiescent_MemkvRefIdeal [hMemkvRefIdeal : Cert.MemkvRefIdeal.Facts] : Prop :=
  ∀ (m : (ℓ : Loc Cert.MemkvRefIdeal.nD Cert.MemkvRefIdeal.τ Cert.MemkvRefIdeal.sig) → Buf (Elt Ideal) ℓ) (g : Dev Cert.MemkvRefIdeal.nD → PrngReg), Pre_MemkvRefIdeal m →
    θ_run (Cert.MemkvRefIdeal.defs (F := Ideal)) (onTc (τ := Cert.MemkvRefIdeal.τ) (Cert.MemkvRefIdeal.main (F := Ideal))) ⟨m, fun _ => 0, g⟩ (fun r => (∀ c : Dev Cert.MemkvRefIdeal.nD,
      r.2.mem ((c.tc : Thread Cert.MemkvRefIdeal.nD Cert.MemkvRefIdeal.τ).loc Cert.MemkvRefIdeal.main_arg0) = m ((c.tc : Thread Cert.MemkvRefIdeal.nD Cert.MemkvRefIdeal.τ).loc Cert.MemkvRefIdeal.main_arg0)
      ∧ r.2.mem ((c.tc : Thread Cert.MemkvRefIdeal.nD Cert.MemkvRefIdeal.τ).loc Cert.MemkvRefIdeal.main_arg1) = m ((c.tc : Thread Cert.MemkvRefIdeal.nD Cert.MemkvRefIdeal.τ).loc Cert.MemkvRefIdeal.main_arg1)
      ∧ r.2.mem ((c.tc : Thread Cert.MemkvRefIdeal.nD Cert.MemkvRefIdeal.τ).loc Cert.MemkvRefIdeal.main_arg2) = m ((c.tc : Thread Cert.MemkvRefIdeal.nD Cert.MemkvRefIdeal.τ).loc Cert.MemkvRefIdeal.main_arg2)
      ∧ r.2.mem ((c.tc : Thread Cert.MemkvRefIdeal.nD Cert.MemkvRefIdeal.τ).loc Cert.MemkvRefIdeal.main_arg3) = m ((c.tc : Thread Cert.MemkvRefIdeal.nD Cert.MemkvRefIdeal.τ).loc Cert.MemkvRefIdeal.main_arg3))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2)
      ∧ r.2.mem ((c.tc : Thread Cert.Cross.nD Cert.Cross.τ).loc Cert.Cross.main_arg3) = m ((c.tc : Thread Cert.Cross.nD Cert.Cross.τ).loc Cert.Cross.main_arg3)
      ∧ r.2.mem ((c.tc : Thread Cert.Cross.nD Cert.Cross.τ).loc Cert.Cross.main_arg4) = m ((c.tc : Thread Cert.Cross.nD Cert.Cross.τ).loc Cert.Cross.main_arg4)
      ∧ r.2.mem ((c.tc : Thread Cert.Cross.nD Cert.Cross.τ).loc Cert.Cross.main_arg5) = m ((c.tc : Thread Cert.Cross.nD Cert.Cross.τ).loc Cert.Cross.main_arg5)
      ∧ r.2.mem ((c.tc : Thread Cert.Cross.nD Cert.Cross.τ).loc Cert.Cross.main_arg6) = m ((c.tc : Thread Cert.Cross.nD Cert.Cross.τ).loc Cert.Cross.main_arg6)
      ∧ r.2.mem ((c.tc : Thread Cert.Cross.nD Cert.Cross.τ).loc Cert.Cross.main_arg7) = m ((c.tc : Thread Cert.Cross.nD Cert.Cross.τ).loc Cert.Cross.main_arg7)
      ∧ r.2.mem ((c.tc : Thread Cert.Cross.nD Cert.Cross.τ).loc Cert.Cross.main_arg8) = m ((c.tc : Thread Cert.Cross.nD Cert.Cross.τ).loc Cert.Cross.main_arg8)
      ∧ r.2.mem ((c.tc : Thread Cert.Cross.nD Cert.Cross.τ).loc Cert.Cross.main_arg9) = m ((c.tc : Thread Cert.Cross.nD Cert.Cross.τ).loc Cert.Cross.main_arg9)
      ∧ r.2.mem ((c.tc : Thread Cert.Cross.nD Cert.Cross.τ).loc Cert.Cross.main_arg10) = m ((c.tc : Thread Cert.Cross.nD Cert.Cross.τ).loc Cert.Cross.main_arg10))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
      ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
      ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6)
      ∧ r.2.mem ((c.tc : Thread Cert.CrossIdeal.nD Cert.CrossIdeal.τ).loc Cert.CrossIdeal.main_arg7) = m ((c.tc : Thread Cert.CrossIdeal.nD Cert.CrossIdeal.τ).loc Cert.CrossIdeal.main_arg7)
      ∧ r.2.mem ((c.tc : Thread Cert.CrossIdeal.nD Cert.CrossIdeal.τ).loc Cert.CrossIdeal.main_arg8) = m ((c.tc : Thread Cert.CrossIdeal.nD Cert.CrossIdeal.τ).loc Cert.CrossIdeal.main_arg8)
      ∧ r.2.mem ((c.tc : Thread Cert.CrossIdeal.nD Cert.CrossIdeal.τ).loc Cert.CrossIdeal.main_arg9) = m ((c.tc : Thread Cert.CrossIdeal.nD Cert.CrossIdeal.τ).loc Cert.CrossIdeal.main_arg9)
      ∧ r.2.mem ((c.tc : Thread Cert.CrossIdeal.nD Cert.CrossIdeal.τ).loc Cert.CrossIdeal.main_arg10) = m ((c.tc : Thread Cert.CrossIdeal.nD Cert.CrossIdeal.τ).loc Cert.CrossIdeal.main_arg10))
      ∧ r.2.sem = fun _ => 0)

def quiescent_CrossIdeal_pre_finite_keys [hCrossIdeal : Cert.CrossIdeal.Facts] [hPre_finite_keys : Cert.Pre_finite_keys.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal_finite_keys m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
      ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
      ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6)
      ∧ r.2.mem ((c.tc : Thread Cert.CrossIdeal.nD Cert.CrossIdeal.τ).loc Cert.CrossIdeal.main_arg7) = m ((c.tc : Thread Cert.CrossIdeal.nD Cert.CrossIdeal.τ).loc Cert.CrossIdeal.main_arg7)
      ∧ r.2.mem ((c.tc : Thread Cert.CrossIdeal.nD Cert.CrossIdeal.τ).loc Cert.CrossIdeal.main_arg8) = m ((c.tc : Thread Cert.CrossIdeal.nD Cert.CrossIdeal.τ).loc Cert.CrossIdeal.main_arg8)
      ∧ r.2.mem ((c.tc : Thread Cert.CrossIdeal.nD Cert.CrossIdeal.τ).loc Cert.CrossIdeal.main_arg9) = m ((c.tc : Thread Cert.CrossIdeal.nD Cert.CrossIdeal.τ).loc Cert.CrossIdeal.main_arg9)
      ∧ r.2.mem ((c.tc : Thread Cert.CrossIdeal.nD Cert.CrossIdeal.τ).loc Cert.CrossIdeal.main_arg10) = m ((c.tc : Thread Cert.CrossIdeal.nD Cert.CrossIdeal.τ).loc Cert.CrossIdeal.main_arg10))
      ∧ r.2.sem = fun _ => 0)

def quiescent_CrossRefIdeal [hCrossRefIdeal : Cert.CrossRefIdeal.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4)
      ∧ r.2.mem ((c.tc : Thread Cert.CrossRefIdeal.nD Cert.CrossRefIdeal.τ).loc Cert.CrossRefIdeal.main_arg5) = m ((c.tc : Thread Cert.CrossRefIdeal.nD Cert.CrossRefIdeal.τ).loc Cert.CrossRefIdeal.main_arg5)
      ∧ r.2.mem ((c.tc : Thread Cert.CrossRefIdeal.nD Cert.CrossRefIdeal.τ).loc Cert.CrossRefIdeal.main_arg6) = m ((c.tc : Thread Cert.CrossRefIdeal.nD Cert.CrossRefIdeal.τ).loc Cert.CrossRefIdeal.main_arg6)
      ∧ r.2.mem ((c.tc : Thread Cert.CrossRefIdeal.nD Cert.CrossRefIdeal.τ).loc Cert.CrossRefIdeal.main_arg7) = m ((c.tc : Thread Cert.CrossRefIdeal.nD Cert.CrossRefIdeal.τ).loc Cert.CrossRefIdeal.main_arg7)
      ∧ r.2.mem ((c.tc : Thread Cert.CrossRefIdeal.nD Cert.CrossRefIdeal.τ).loc Cert.CrossRefIdeal.main_arg8) = m ((c.tc : Thread Cert.CrossRefIdeal.nD Cert.CrossRefIdeal.τ).loc Cert.CrossRefIdeal.main_arg8)
      ∧ r.2.mem ((c.tc : Thread Cert.CrossRefIdeal.nD Cert.CrossRefIdeal.τ).loc Cert.CrossRefIdeal.main_arg9) = m ((c.tc : Thread Cert.CrossRefIdeal.nD Cert.CrossRefIdeal.τ).loc Cert.CrossRefIdeal.main_arg9)
      ∧ r.2.mem ((c.tc : Thread Cert.CrossRefIdeal.nD Cert.CrossRefIdeal.τ).loc Cert.CrossRefIdeal.main_arg10) = m ((c.tc : Thread Cert.CrossRefIdeal.nD Cert.CrossRefIdeal.τ).loc Cert.CrossRefIdeal.main_arg10))
      ∧ r.2.sem = fun _ => 0)

def quiescent_CrossRefIdeal_pre_finite_keys [hCrossRefIdeal : Cert.CrossRefIdeal.Facts] [hPre_finite_keys : Cert.Pre_finite_keys.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal_finite_keys m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4)
      ∧ r.2.mem ((c.tc : Thread Cert.CrossRefIdeal.nD Cert.CrossRefIdeal.τ).loc Cert.CrossRefIdeal.main_arg5) = m ((c.tc : Thread Cert.CrossRefIdeal.nD Cert.CrossRefIdeal.τ).loc Cert.CrossRefIdeal.main_arg5)
      ∧ r.2.mem ((c.tc : Thread Cert.CrossRefIdeal.nD Cert.CrossRefIdeal.τ).loc Cert.CrossRefIdeal.main_arg6) = m ((c.tc : Thread Cert.CrossRefIdeal.nD Cert.CrossRefIdeal.τ).loc Cert.CrossRefIdeal.main_arg6)
      ∧ r.2.mem ((c.tc : Thread Cert.CrossRefIdeal.nD Cert.CrossRefIdeal.τ).loc Cert.CrossRefIdeal.main_arg7) = m ((c.tc : Thread Cert.CrossRefIdeal.nD Cert.CrossRefIdeal.τ).loc Cert.CrossRefIdeal.main_arg7)
      ∧ r.2.mem ((c.tc : Thread Cert.CrossRefIdeal.nD Cert.CrossRefIdeal.τ).loc Cert.CrossRefIdeal.main_arg8) = m ((c.tc : Thread Cert.CrossRefIdeal.nD Cert.CrossRefIdeal.τ).loc Cert.CrossRefIdeal.main_arg8)
      ∧ r.2.mem ((c.tc : Thread Cert.CrossRefIdeal.nD Cert.CrossRefIdeal.τ).loc Cert.CrossRefIdeal.main_arg9) = m ((c.tc : Thread Cert.CrossRefIdeal.nD Cert.CrossRefIdeal.τ).loc Cert.CrossRefIdeal.main_arg9)
      ∧ r.2.mem ((c.tc : Thread Cert.CrossRefIdeal.nD Cert.CrossRefIdeal.τ).loc Cert.CrossRefIdeal.main_arg10) = m ((c.tc : Thread Cert.CrossRefIdeal.nD Cert.CrossRefIdeal.τ).loc Cert.CrossRefIdeal.main_arg10))
      ∧ r.2.sem = fun _ => 0)

def preserves_Kernel_KernelIdeal : Prop :=
  IdealRules.named_const.Statement Cert.KernelIdeal.κ "mask" .f32 0xF149F2CA#32 ⊥

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v26)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v26) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v46) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Inproj_InprojIdeal : Prop :=
  True

def algebraic_InprojIdeal_InprojRefIdeal_pre_finite [hInprojIdeal : Cert.InprojIdeal.Facts] [hInprojRefIdeal : Cert.InprojRefIdeal.Facts] [hPre_finite : Cert.Pre_finite.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal_finite m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v8_0)) (v1 : (c : Dev Cert.InprojIdeal.nD) → Buf (Elt Ideal) ((c.tc : Thread Cert.InprojIdeal.nD Cert.InprojIdeal.τ).loc Cert.InprojIdeal.main_v8_1)) (v2 : (c : Dev Cert.InprojIdeal.nD) → Buf (Elt Ideal) ((c.tc : Thread Cert.InprojIdeal.nD Cert.InprojIdeal.τ).loc Cert.InprojIdeal.main_v8_2)) (v3 : (c : Dev Cert.InprojIdeal.nD) → Buf (Elt Ideal) ((c.tc : Thread Cert.InprojIdeal.nD Cert.InprojIdeal.τ).loc Cert.InprojIdeal.main_v8_3)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v8_0) = v0 c
          ∧ r.2.mem ((c.tc : Thread Cert.InprojIdeal.nD Cert.InprojIdeal.τ).loc Cert.InprojIdeal.main_v8_1) = v1 c
          ∧ r.2.mem ((c.tc : Thread Cert.InprojIdeal.nD Cert.InprojIdeal.τ).loc Cert.InprojIdeal.main_v8_2) = v2 c
          ∧ r.2.mem ((c.tc : Thread Cert.InprojIdeal.nD Cert.InprojIdeal.τ).loc Cert.InprojIdeal.main_v8_3) = v3 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v19) = v0 c
          ∧ r.2.mem ((c.tc : Thread Cert.InprojRefIdeal.nD Cert.InprojRefIdeal.τ).loc Cert.InprojRefIdeal.main_v20) = v1 c
          ∧ r.2.mem ((c.tc : Thread Cert.InprojRefIdeal.nD Cert.InprojRefIdeal.τ).loc Cert.InprojRefIdeal.main_v21) = v2 c
          ∧ r.2.mem ((c.tc : Thread Cert.InprojRefIdeal.nD Cert.InprojRefIdeal.τ).loc Cert.InprojRefIdeal.main_v22) = v3 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2))

def preserves_Memkv_MemkvIdeal : Prop :=
  True

def algebraic_MemkvIdeal_MemkvRefIdeal [hMemkvIdeal : Cert.MemkvIdeal.Facts] [hMemkvRefIdeal : Cert.MemkvRefIdeal.Facts] : Prop :=
  ∀ (m : (ℓ : Loc Cert.MemkvIdeal.nD Cert.MemkvIdeal.τ Cert.MemkvIdeal.sig) → Buf (Elt Ideal) ℓ) (g : Dev Cert.MemkvIdeal.nD → PrngReg)
    (m' : (ℓ : Loc Cert.MemkvRefIdeal.nD Cert.MemkvRefIdeal.τ Cert.MemkvRefIdeal.sig) → Buf (Elt Ideal) ℓ) (g' : Dev Cert.MemkvRefIdeal.nD → PrngReg), Pre_MemkvIdeal m →
    (∀ c : Dev Cert.MemkvIdeal.nD,
      m' ((c.tc : Thread Cert.MemkvRefIdeal.nD Cert.MemkvRefIdeal.τ).loc Cert.MemkvRefIdeal.main_arg0) = m ((c.tc : Thread Cert.MemkvIdeal.nD Cert.MemkvIdeal.τ).loc Cert.MemkvIdeal.main_arg0)
      ∧ m' ((c.tc : Thread Cert.MemkvRefIdeal.nD Cert.MemkvRefIdeal.τ).loc Cert.MemkvRefIdeal.main_arg1) = m ((c.tc : Thread Cert.MemkvIdeal.nD Cert.MemkvIdeal.τ).loc Cert.MemkvIdeal.main_arg1)
      ∧ m' ((c.tc : Thread Cert.MemkvRefIdeal.nD Cert.MemkvRefIdeal.τ).loc Cert.MemkvRefIdeal.main_arg2) = m ((c.tc : Thread Cert.MemkvIdeal.nD Cert.MemkvIdeal.τ).loc Cert.MemkvIdeal.main_arg2)
      ∧ m' ((c.tc : Thread Cert.MemkvRefIdeal.nD Cert.MemkvRefIdeal.τ).loc Cert.MemkvRefIdeal.main_arg3) = m ((c.tc : Thread Cert.MemkvIdeal.nD Cert.MemkvIdeal.τ).loc Cert.MemkvIdeal.main_arg3)) →
    ∃ (v0 : (c : Dev Cert.MemkvIdeal.nD) → Buf (Elt Ideal) ((c.tc : Thread Cert.MemkvIdeal.nD Cert.MemkvIdeal.τ).loc Cert.MemkvIdeal.main_v4_0)) (v1 : (c : Dev Cert.MemkvIdeal.nD) → Buf (Elt Ideal) ((c.tc : Thread Cert.MemkvIdeal.nD Cert.MemkvIdeal.τ).loc Cert.MemkvIdeal.main_v4_1)),
      θ_run (Cert.MemkvIdeal.defs (F := Ideal)) (onTc (τ := Cert.MemkvIdeal.τ) (Cert.MemkvIdeal.main (F := Ideal))) ⟨m, fun _ => 0, g⟩ (fun r => ∀ c : Dev Cert.MemkvIdeal.nD,
          r.2.mem ((c.tc : Thread Cert.MemkvIdeal.nD Cert.MemkvIdeal.τ).loc Cert.MemkvIdeal.main_v4_0) = v0 c
          ∧ r.2.mem ((c.tc : Thread Cert.MemkvIdeal.nD Cert.MemkvIdeal.τ).loc Cert.MemkvIdeal.main_v4_1) = v1 c
          ∧ r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
          ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
          ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2)
          ∧ r.2.mem ((c.tc : Thread Cert.MemkvIdeal.nD Cert.MemkvIdeal.τ).loc Cert.MemkvIdeal.main_arg3) = m ((c.tc : Thread Cert.MemkvIdeal.nD Cert.MemkvIdeal.τ).loc Cert.MemkvIdeal.main_arg3))
      ∧ θ_run (Cert.MemkvRefIdeal.defs (F := Ideal)) (onTc (τ := Cert.MemkvRefIdeal.τ) (Cert.MemkvRefIdeal.main (F := Ideal))) ⟨m', fun _ => 0, g'⟩ (fun r => ∀ c : Dev Cert.MemkvRefIdeal.nD,
          r.2.mem ((c.tc : Thread Cert.MemkvRefIdeal.nD Cert.MemkvRefIdeal.τ).loc Cert.MemkvRefIdeal.main_v31) = v0 c
          ∧ r.2.mem ((c.tc : Thread Cert.MemkvRefIdeal.nD Cert.MemkvRefIdeal.τ).loc Cert.MemkvRefIdeal.main_v33) = v1 c
          ∧ r.2.mem ((c.tc : Thread Cert.MemkvRefIdeal.nD Cert.MemkvRefIdeal.τ).loc Cert.MemkvRefIdeal.main_arg0) = m' ((c.tc : Thread Cert.MemkvRefIdeal.nD Cert.MemkvRefIdeal.τ).loc Cert.MemkvRefIdeal.main_arg0)
          ∧ r.2.mem ((c.tc : Thread Cert.MemkvRefIdeal.nD Cert.MemkvRefIdeal.τ).loc Cert.MemkvRefIdeal.main_arg1) = m' ((c.tc : Thread Cert.MemkvRefIdeal.nD Cert.MemkvRefIdeal.τ).loc Cert.MemkvRefIdeal.main_arg1)
          ∧ r.2.mem ((c.tc : Thread Cert.MemkvRefIdeal.nD Cert.MemkvRefIdeal.τ).loc Cert.MemkvRefIdeal.main_arg2) = m' ((c.tc : Thread Cert.MemkvRefIdeal.nD Cert.MemkvRefIdeal.τ).loc Cert.MemkvRefIdeal.main_arg2)
          ∧ r.2.mem ((c.tc : Thread Cert.MemkvRefIdeal.nD Cert.MemkvRefIdeal.τ).loc Cert.MemkvRefIdeal.main_arg3) = m' ((c.tc : Thread Cert.MemkvRefIdeal.nD Cert.MemkvRefIdeal.τ).loc Cert.MemkvRefIdeal.main_arg3))

def preserves_Cross_CrossIdeal : Prop :=
  True

def algebraic_CrossIdeal_CrossRefIdeal_pre_finite_keys [hCrossIdeal : Cert.CrossIdeal.Facts] [hCrossRefIdeal : Cert.CrossRefIdeal.Facts] [hPre_finite_keys : Cert.Pre_finite_keys.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossRefIdeal.nD Cert.CrossRefIdeal.τ Cert.CrossRefIdeal.sig) → Buf (Elt Ideal) ℓ) (g' : Dev Cert.CrossRefIdeal.nD → PrngReg), Pre_CrossIdeal_finite_keys m →
    (∀ c : Dev Cert.CrossIdeal.nD,
      m' ((c.tc : Thread Cert.CrossRefIdeal.nD Cert.CrossRefIdeal.τ).loc Cert.CrossRefIdeal.main_arg0) = m ((c.tc : Thread Cert.CrossIdeal.nD Cert.CrossIdeal.τ).loc Cert.CrossIdeal.main_arg0)
      ∧ m' ((c.tc : Thread Cert.CrossRefIdeal.nD Cert.CrossRefIdeal.τ).loc Cert.CrossRefIdeal.main_arg1) = m ((c.tc : Thread Cert.CrossIdeal.nD Cert.CrossIdeal.τ).loc Cert.CrossIdeal.main_arg1)
      ∧ m' ((c.tc : Thread Cert.CrossRefIdeal.nD Cert.CrossRefIdeal.τ).loc Cert.CrossRefIdeal.main_arg2) = m ((c.tc : Thread Cert.CrossIdeal.nD Cert.CrossIdeal.τ).loc Cert.CrossIdeal.main_arg2)
      ∧ m' ((c.tc : Thread Cert.CrossRefIdeal.nD Cert.CrossRefIdeal.τ).loc Cert.CrossRefIdeal.main_arg3) = m ((c.tc : Thread Cert.CrossIdeal.nD Cert.CrossIdeal.τ).loc Cert.CrossIdeal.main_arg3)
      ∧ m' ((c.tc : Thread Cert.CrossRefIdeal.nD Cert.CrossRefIdeal.τ).loc Cert.CrossRefIdeal.main_arg4) = m ((c.tc : Thread Cert.CrossIdeal.nD Cert.CrossIdeal.τ).loc Cert.CrossIdeal.main_arg4)
      ∧ m' ((c.tc : Thread Cert.CrossRefIdeal.nD Cert.CrossRefIdeal.τ).loc Cert.CrossRefIdeal.main_arg5) = m ((c.tc : Thread Cert.CrossIdeal.nD Cert.CrossIdeal.τ).loc Cert.CrossIdeal.main_arg5)
      ∧ m' ((c.tc : Thread Cert.CrossRefIdeal.nD Cert.CrossRefIdeal.τ).loc Cert.CrossRefIdeal.main_arg6) = m ((c.tc : Thread Cert.CrossIdeal.nD Cert.CrossIdeal.τ).loc Cert.CrossIdeal.main_arg6)
      ∧ m' ((c.tc : Thread Cert.CrossRefIdeal.nD Cert.CrossRefIdeal.τ).loc Cert.CrossRefIdeal.main_arg7) = m ((c.tc : Thread Cert.CrossIdeal.nD Cert.CrossIdeal.τ).loc Cert.CrossIdeal.main_arg7)
      ∧ m' ((c.tc : Thread Cert.CrossRefIdeal.nD Cert.CrossRefIdeal.τ).loc Cert.CrossRefIdeal.main_arg8) = m ((c.tc : Thread Cert.CrossIdeal.nD Cert.CrossIdeal.τ).loc Cert.CrossIdeal.main_arg8)
      ∧ m' ((c.tc : Thread Cert.CrossRefIdeal.nD Cert.CrossRefIdeal.τ).loc Cert.CrossRefIdeal.main_arg9) = m ((c.tc : Thread Cert.CrossIdeal.nD Cert.CrossIdeal.τ).loc Cert.CrossIdeal.main_arg9)
      ∧ m' ((c.tc : Thread Cert.CrossRefIdeal.nD Cert.CrossRefIdeal.τ).loc Cert.CrossRefIdeal.main_arg10) = m ((c.tc : Thread Cert.CrossIdeal.nD Cert.CrossIdeal.τ).loc Cert.CrossIdeal.main_arg10)) →
    ∃ (v0 : (c : Dev Cert.CrossIdeal.nD) → Buf (Elt Ideal) ((c.tc : Thread Cert.CrossIdeal.nD Cert.CrossIdeal.τ).loc Cert.CrossIdeal.main_v14)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v14) = v0 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
          ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
          ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
          ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
          ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6)
          ∧ r.2.mem ((c.tc : Thread Cert.CrossIdeal.nD Cert.CrossIdeal.τ).loc Cert.CrossIdeal.main_arg7) = m ((c.tc : Thread Cert.CrossIdeal.nD Cert.CrossIdeal.τ).loc Cert.CrossIdeal.main_arg7)
          ∧ r.2.mem ((c.tc : Thread Cert.CrossIdeal.nD Cert.CrossIdeal.τ).loc Cert.CrossIdeal.main_arg8) = m ((c.tc : Thread Cert.CrossIdeal.nD Cert.CrossIdeal.τ).loc Cert.CrossIdeal.main_arg8)
          ∧ r.2.mem ((c.tc : Thread Cert.CrossIdeal.nD Cert.CrossIdeal.τ).loc Cert.CrossIdeal.main_arg9) = m ((c.tc : Thread Cert.CrossIdeal.nD Cert.CrossIdeal.τ).loc Cert.CrossIdeal.main_arg9)
          ∧ r.2.mem ((c.tc : Thread Cert.CrossIdeal.nD Cert.CrossIdeal.τ).loc Cert.CrossIdeal.main_arg10) = m ((c.tc : Thread Cert.CrossIdeal.nD Cert.CrossIdeal.τ).loc Cert.CrossIdeal.main_arg10))
      ∧ θ_run (Cert.CrossRefIdeal.defs (F := Ideal)) (onTc (τ := Cert.CrossRefIdeal.τ) (Cert.CrossRefIdeal.main (F := Ideal))) ⟨m', fun _ => 0, g'⟩ (fun r => ∀ c : Dev Cert.CrossRefIdeal.nD,
          r.2.mem ((c.tc : Thread Cert.CrossRefIdeal.nD Cert.CrossRefIdeal.τ).loc Cert.CrossRefIdeal.main_v53) = v0 c
          ∧ r.2.mem ((c.tc : Thread Cert.CrossRefIdeal.nD Cert.CrossRefIdeal.τ).loc Cert.CrossRefIdeal.main_arg0) = m' ((c.tc : Thread Cert.CrossRefIdeal.nD Cert.CrossRefIdeal.τ).loc Cert.CrossRefIdeal.main_arg0)
          ∧ r.2.mem ((c.tc : Thread Cert.CrossRefIdeal.nD Cert.CrossRefIdeal.τ).loc Cert.CrossRefIdeal.main_arg1) = m' ((c.tc : Thread Cert.CrossRefIdeal.nD Cert.CrossRefIdeal.τ).loc Cert.CrossRefIdeal.main_arg1)
          ∧ r.2.mem ((c.tc : Thread Cert.CrossRefIdeal.nD Cert.CrossRefIdeal.τ).loc Cert.CrossRefIdeal.main_arg2) = m' ((c.tc : Thread Cert.CrossRefIdeal.nD Cert.CrossRefIdeal.τ).loc Cert.CrossRefIdeal.main_arg2)
          ∧ r.2.mem ((c.tc : Thread Cert.CrossRefIdeal.nD Cert.CrossRefIdeal.τ).loc Cert.CrossRefIdeal.main_arg3) = m' ((c.tc : Thread Cert.CrossRefIdeal.nD Cert.CrossRefIdeal.τ).loc Cert.CrossRefIdeal.main_arg3)
          ∧ r.2.mem ((c.tc : Thread Cert.CrossRefIdeal.nD Cert.CrossRefIdeal.τ).loc Cert.CrossRefIdeal.main_arg4) = m' ((c.tc : Thread Cert.CrossRefIdeal.nD Cert.CrossRefIdeal.τ).loc Cert.CrossRefIdeal.main_arg4)
          ∧ r.2.mem ((c.tc : Thread Cert.CrossRefIdeal.nD Cert.CrossRefIdeal.τ).loc Cert.CrossRefIdeal.main_arg5) = m' ((c.tc : Thread Cert.CrossRefIdeal.nD Cert.CrossRefIdeal.τ).loc Cert.CrossRefIdeal.main_arg5)
          ∧ r.2.mem ((c.tc : Thread Cert.CrossRefIdeal.nD Cert.CrossRefIdeal.τ).loc Cert.CrossRefIdeal.main_arg6) = m' ((c.tc : Thread Cert.CrossRefIdeal.nD Cert.CrossRefIdeal.τ).loc Cert.CrossRefIdeal.main_arg6)
          ∧ r.2.mem ((c.tc : Thread Cert.CrossRefIdeal.nD Cert.CrossRefIdeal.τ).loc Cert.CrossRefIdeal.main_arg7) = m' ((c.tc : Thread Cert.CrossRefIdeal.nD Cert.CrossRefIdeal.τ).loc Cert.CrossRefIdeal.main_arg7)
          ∧ r.2.mem ((c.tc : Thread Cert.CrossRefIdeal.nD Cert.CrossRefIdeal.τ).loc Cert.CrossRefIdeal.main_arg8) = m' ((c.tc : Thread Cert.CrossRefIdeal.nD Cert.CrossRefIdeal.τ).loc Cert.CrossRefIdeal.main_arg8)
          ∧ r.2.mem ((c.tc : Thread Cert.CrossRefIdeal.nD Cert.CrossRefIdeal.τ).loc Cert.CrossRefIdeal.main_arg9) = m' ((c.tc : Thread Cert.CrossRefIdeal.nD Cert.CrossRefIdeal.τ).loc Cert.CrossRefIdeal.main_arg9)
          ∧ r.2.mem ((c.tc : Thread Cert.CrossRefIdeal.nD Cert.CrossRefIdeal.τ).loc Cert.CrossRefIdeal.main_arg10) = m' ((c.tc : Thread Cert.CrossRefIdeal.nD Cert.CrossRefIdeal.τ).loc Cert.CrossRefIdeal.main_arg10))

def Claim : Prop :=
  ∃ (hKernel : Cert.Kernel.Facts) (hKernelIdeal : Cert.KernelIdeal.Facts) (hFfn : Cert.Ffn.Facts) (hFfnIdeal : Cert.FfnIdeal.Facts) (hFfnRefIdeal : Cert.FfnRefIdeal.Facts) (hInproj : Cert.Inproj.Facts) (hInprojIdeal : Cert.InprojIdeal.Facts) (hInprojRefIdeal : Cert.InprojRefIdeal.Facts) (hMemkv : Cert.Memkv.Facts) (hMemkvIdeal : Cert.MemkvIdeal.Facts) (hMemkvRefIdeal : Cert.MemkvRefIdeal.Facts) (hCross : Cert.Cross.Facts) (hCrossIdeal : Cert.CrossIdeal.Facts) (hCrossRefIdeal : Cert.CrossRefIdeal.Facts) (hPre_finite : Cert.Pre_finite.Facts) (hPre_finite_keys : Cert.Pre_finite_keys.Facts),
    quiescent_Kernel (hKernel := hKernel)
    ∧ quiescent_KernelIdeal (hKernelIdeal := hKernelIdeal)
    ∧ quiescent_Ffn (hFfn := hFfn)
    ∧ quiescent_FfnIdeal (hFfnIdeal := hFfnIdeal)
    ∧ quiescent_FfnRefIdeal (hFfnRefIdeal := hFfnRefIdeal)
    ∧ quiescent_Inproj (hInproj := hInproj)
    ∧ quiescent_InprojIdeal (hInprojIdeal := hInprojIdeal)
    ∧ quiescent_InprojIdeal_pre_finite (hInprojIdeal := hInprojIdeal) (hPre_finite := hPre_finite)
    ∧ quiescent_InprojRefIdeal (hInprojRefIdeal := hInprojRefIdeal)
    ∧ quiescent_InprojRefIdeal_pre_finite (hInprojRefIdeal := hInprojRefIdeal) (hPre_finite := hPre_finite)
    ∧ quiescent_Memkv (hMemkv := hMemkv)
    ∧ quiescent_MemkvIdeal (hMemkvIdeal := hMemkvIdeal)
    ∧ quiescent_MemkvRefIdeal (hMemkvRefIdeal := hMemkvRefIdeal)
    ∧ quiescent_Cross (hCross := hCross)
    ∧ quiescent_CrossIdeal (hCrossIdeal := hCrossIdeal)
    ∧ quiescent_CrossIdeal_pre_finite_keys (hCrossIdeal := hCrossIdeal) (hPre_finite_keys := hPre_finite_keys)
    ∧ quiescent_CrossRefIdeal (hCrossRefIdeal := hCrossRefIdeal)
    ∧ quiescent_CrossRefIdeal_pre_finite_keys (hCrossRefIdeal := hCrossRefIdeal) (hPre_finite_keys := hPre_finite_keys)
    ∧ preserves_Kernel_KernelIdeal
    ∧ preserves_Ffn_FfnIdeal
    ∧ algebraic_FfnIdeal_FfnRefIdeal (hFfnIdeal := hFfnIdeal) (hFfnRefIdeal := hFfnRefIdeal)
    ∧ preserves_Inproj_InprojIdeal
    ∧ algebraic_InprojIdeal_InprojRefIdeal_pre_finite (hInprojIdeal := hInprojIdeal) (hInprojRefIdeal := hInprojRefIdeal) (hPre_finite := hPre_finite)
    ∧ preserves_Memkv_MemkvIdeal
    ∧ algebraic_MemkvIdeal_MemkvRefIdeal (hMemkvIdeal := hMemkvIdeal) (hMemkvRefIdeal := hMemkvRefIdeal)
    ∧ preserves_Cross_CrossIdeal
    ∧ algebraic_CrossIdeal_CrossRefIdeal_pre_finite_keys (hCrossIdeal := hCrossIdeal) (hCrossRefIdeal := hCrossRefIdeal) (hPre_finite_keys := hPre_finite_keys)
-- ==== Pre_finite.lean ====
abbrev S8x4096x1024 : Shape := ⟨3, ![8, 4096, 1024]⟩
abbrev S1024 : Shape := ⟨1, ![1024]⟩
abbrev S1024x3592 : Shape := ⟨2, ![1024, 3592]⟩
abbrev S1024x8 : Shape := ⟨2, ![1024, 8]⟩
abbrev S_ : Shape := ⟨0, ![]⟩

class Facts : Prop where
  slices_S1024x3592_S1024x8_0_3584 : S1024x3592.Slices ![0, 3584] S1024x8
  bcast_S_S1024 : S_.BroadcastsInDim S1024 (![] : Fin 0 → Fin S1024.rank)
  bcast_S_S1024x8 : S_.BroadcastsInDim S1024x8 (![] : Fin 0 → Fin S1024x8.rank)

variable [Facts]

def fn {F : FTy → Type} [FloatOps F] (main_arg0 : FVec F S8x4096x1024 .f32) (main_arg1 : FVec F S1024 .f32) (main_arg2 : FVec F S1024x3592 .f32) : IVec S1024 1 × IVec S1024x8 1 :=
  let main_v0 : FVec F S1024x8 .f32 := (extractStridedSlice S1024x8 ![0, 3584] · slices_S1024x3592_S1024x8_0_3584) main_arg2
  let main_v1 : FVec F S1024 .f32 := Host.absf main_arg1
  let main_cst : FVec F S_ .f32 := constant S_ .f32 0x7F800000#32
  let main_v2 : FVec F S1024 .f32 := broadcastInDim S1024 ![] bcast_S_S1024 main_cst
  let main_v3 : IVec S1024 1 := cmpf .olt main_v1 main_v2
  let main_v4 : FVec F S1024x8 .f32 := Host.absf main_v0
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  (main_v3, main_v6)
-- ==== Pre_finite_keys.lean ====
abbrev S8x4096x256 : Shape := ⟨3, ![8, 4096, 256]⟩
abbrev S8x4096x512 : Shape := ⟨3, ![8, 4096, 512]⟩
abbrev S1024x1024 : Shape := ⟨2, ![1024, 1024]⟩
abbrev S8x4096x1024 : Shape := ⟨3, ![8, 4096, 1024]⟩
abbrev S1024 : Shape := ⟨1, ![1024]⟩
abbrev S1024x512 : Shape := ⟨2, ![1024, 512]⟩
abbrev S128 : Shape := ⟨1, ![128]⟩
abbrev S8x256x4x128 : Shape := ⟨4, ![8, 256, 4, 128]⟩
abbrev S512x1024 : Shape := ⟨2, ![512, 1024]⟩
abbrev S_ : Shape := ⟨0, ![]⟩

class Facts : Prop where
  bcast_S_S128 : S_.BroadcastsInDim S128 (![] : Fin 0 → Fin S128.rank)
  bcast_S_S8x256x4x128 : S_.BroadcastsInDim S8x256x4x128 (![] : Fin 0 → Fin S8x256x4x128.rank)

variable [Facts]

def fn {F : FTy → Type} [FloatOps F] (main_arg0 : FVec F S8x4096x256 .bf16) (main_arg1 : FVec F S8x4096x512 .bf16) (main_arg2 : FVec F S8x4096x256 .bf16) (main_arg3 : FVec F S1024x1024 .f32) (main_arg4 : FVec F S8x4096x1024 .f32) (main_arg5 : FVec F S1024 .f32) (main_arg6 : FVec F S1024x512 .f32) (main_arg7 : FVec F S128 .f32) (main_arg8 : FVec F S8x256x4x128 .bf16) (main_arg9 : FVec F S8x256x4x128 .bf16) (main_arg10 : FVec F S512x1024 .f32) : IVec S128 1 × IVec S8x256x4x128 1 :=
  let main_v0 : FVec F S128 .f32 := Host.absf main_arg7
  let main_cst : FVec F S_ .f32 := constant S_ .f32 0x7F800000#32
  let main_v1 : FVec F S128 .f32 := broadcastInDim S128 ![] bcast_S_S128 main_cst
  let main_v2 : IVec S128 1 := cmpf .olt main_v0 main_v1
  let main_v3 : FVec F S8x256x4x128 .bf16 := Host.absf main_arg8
  let main_cst_0 : FVec F S_ .bf16 := constant S_ .bf16 0x7F80#16
  let main_v4 : FVec F S8x256x4x128 .bf16 := broadcastInDim S8x256x4x128 ![] bcast_S_S8x256x4x128 main_cst_0
  let main_v5 : IVec S8x256x4x128 1 := cmpf .olt main_v3 main_v4
  (main_v2, main_v5)
-- ==== Kernel.lean ====
abbrev S8x4096x1536 : Shape := ⟨3, ![8, 4096, 1536]⟩
abbrev S64 : Shape := ⟨1, ![64]⟩
abbrev S8x32 : Shape := ⟨2, ![8, 32]⟩
abbrev S256x256 : Shape := ⟨2, ![256, 256]⟩
abbrev S128x128 : Shape := ⟨2, ![128, 128]⟩
abbrev S32768x1536 : Shape := ⟨2, ![32768, 1536]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S_ : Shape := ⟨0, ![]⟩
abbrev S32768x512 : Shape := ⟨2, ![32768, 512]⟩
abbrev S256x128 : Shape := ⟨2, ![256, 128]⟩
abbrev S4096x128 : Shape := ⟨2, ![4096, 128]⟩
abbrev S2x4096x128 : Shape := ⟨3, ![2, 4096, 128]⟩
abbrev S16x128 : Shape := ⟨2, ![16, 128]⟩
abbrev S2x2x256x256 : Shape := ⟨4, ![2, 2, 256, 256]⟩
abbrev S16x256 : Shape := ⟨2, ![16, 256]⟩
abbrev S1x1 : Shape := ⟨2, ![1, 1]⟩
abbrev S1x1x256x256 : Shape := ⟨4, ![1, 1, 256, 256]⟩
abbrev S1x256x128 : Shape := ⟨3, ![1, 256, 128]⟩
abbrev S1x256 : Shape := ⟨2, ![1, 256]⟩
abbrev S40x256 : Shape := ⟨2, ![40, 256]⟩
abbrev S64x256 : Shape := ⟨2, ![64, 256]⟩
abbrev S6x256 : Shape := ⟨2, ![6, 256]⟩
abbrev S8x256 : Shape := ⟨2, ![8, 256]⟩
abbrev S128x256 : Shape := ⟨2, ![128, 256]⟩
abbrev S256 : Shape := ⟨1, ![256]⟩
abbrev S256x1 : Shape := ⟨2, ![256, 1]⟩
abbrev S1 : Shape := ⟨1, ![1]⟩
abbrev S1x1x1 : Shape := ⟨3, ![1, 1, 1]⟩

abbrev nBuf : Space → Nat
  | .hbm => 25
  | .vmem => 18
  | .smem => 1
  | _ => 0

abbrev bufTy : (tb : Table) → Fin (tcTables nBuf tb) → BufTy
  | .hbm, ⟨0, _⟩ => ⟨S8x4096x1536, .f32⟩
  | .hbm, ⟨1, _⟩ => ⟨S64, .f32⟩
  | .hbm, ⟨2, _⟩ => ⟨S64, .f32⟩
  | .hbm, ⟨3, _⟩ => ⟨S8x32, .f32⟩
  | .hbm, ⟨4, _⟩ => ⟨S256x256, .i32⟩
  | .hbm, ⟨5, _⟩ => ⟨S256x256, .i32⟩
  | .hbm, ⟨6, _⟩ => ⟨S128x128, .bf16⟩
  | .hbm, ⟨7, _⟩ => ⟨S32768x1536, .f32⟩
  | .hbm, ⟨8, _⟩ => ⟨S32768x1536, .bf16⟩
  | .hbm, ⟨9, _⟩ => ⟨S1x64, .f32⟩
  | .hbm, ⟨10, _⟩ => ⟨S2x64, .f32⟩
  | .hbm, ⟨11, _⟩ => ⟨S128, .f32⟩
  | .hbm, ⟨12, _⟩ => ⟨S1x128, .f32⟩
  | .hbm, ⟨13, _⟩ => ⟨S1x64, .f32⟩
  | .hbm, ⟨14, _⟩ => ⟨S2x64, .f32⟩
  | .hbm, ⟨15, _⟩ => ⟨S128, .f32⟩
  | .hbm, ⟨16, _⟩ => ⟨S1x128, .f32⟩
  | .hbm, ⟨17, _⟩ => ⟨S256x256, .i32⟩
  | .hbm, ⟨18, _⟩ => ⟨S256x256, .i32⟩
  | .hbm, ⟨19, _⟩ => ⟨S_, .i32⟩
  | .hbm, ⟨20, _⟩ => ⟨S256x256, .i32⟩
  | .hbm, ⟨21, _⟩ => ⟨S256x256, .i32⟩
  | .hbm, ⟨22, _⟩ => ⟨S256x256, .i1⟩
  | .hbm, ⟨23, _⟩ => ⟨S256x256, .bf16⟩
  | .hbm, ⟨24, _⟩ => ⟨S32768x512, .bf16⟩
  | .local _ .vmem, ⟨0, _⟩ => ⟨S256x128, .bf16⟩
  | .local _ .vmem, ⟨1, _⟩ => ⟨S256x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S256x256, .i32⟩
  | .local _ .vmem, ⟨7, _⟩ => ⟨S256x256, .i32⟩
  | .local _ .vmem, ⟨8, _⟩ => ⟨S1x128, .f32⟩
  | .local _ .vmem, ⟨9, _⟩ => ⟨S1x128, .f32⟩
  | .local _ .vmem, ⟨10, _⟩ => ⟨S128x128, .bf16⟩
  | .local _ .vmem, ⟨11, _⟩ => ⟨S256x256, .bf16⟩
  | .local _ .vmem, ⟨12, _⟩ => ⟨S256x128, .bf16⟩
  | .local _ .vmem, ⟨13, _⟩ => ⟨S256x128, .bf16⟩
  | .local _ .vmem, ⟨14, _⟩ => ⟨S2x4096x128, .bf16⟩
  | .local _ .vmem, ⟨15, _⟩ => ⟨S2x4096x128, .bf16⟩
  | .local _ .vmem, ⟨16, _⟩ => ⟨S16x128, .f32⟩
  | .local _ .vmem, ⟨17, _⟩ => ⟨S2x2x256x256, .f32⟩
  | .local _ .smem, ⟨0, _⟩ => ⟨S8x32, .f32⟩
  | _, _ => ⟨S8x4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨3, ![4, 8, 16], ![false, false, false]⟩

def k0_cond1 (i : grid0.Coords) : BitVec 1 :=
  let arg2 : BitVec 32 := BitVec.ofNat 32 (i 2).val
  let c0_i32 : BitVec 32 := 0#32
  let v7 : BitVec 1 := Scalar.cmpi .eq arg2 c0_i32
  let arg1 : BitVec 32 := BitVec.ofNat 32 (i 1).val
  let c0_i32_1 : BitVec 32 := 0#32
  let v8 : BitVec 1 := Scalar.cmpi .eq arg1 c0_i32_1
  let v9 : BitVec 1 := Scalar.andi v7 v8
  let v10 : BitVec 32 := Scalar.extui v9
  let c0_i32_2 : BitVec 32 := 0#32
  let v11 : BitVec 1 := Scalar.cmpi .ne v10 c0_i32_2
  v11

def k0_off1 (i : grid0.Coords) (c0_i32_257 : BitVec 32) : Fin 2 → Nat :=
  let c2_i32 : BitVec 32 := 2#32
  let arg0 : BitVec 32 := BitVec.ofNat 32 (i 0).val
  let v0 : BitVec 32 := Scalar.muli c2_i32 arg0
  let v800 : BitVec 32 := Scalar.addi v0 c0_i32_257
  let v801 : Index := Scalar.indexCast v800
  let c0_258 : Index := 0#32
  ![v801.toNat, 0]
def k0_off2 (i : grid0.Coords) (c0_i32_260 : BitVec 32) : Fin 2 → Nat :=
  let c2_i32 : BitVec 32 := 2#32
  let arg0 : BitVec 32 := BitVec.ofNat 32 (i 0).val
  let v0 : BitVec 32 := Scalar.muli c2_i32 arg0
  let v807 : BitVec 32 := Scalar.addi v0 c0_i32_260
  let v808 : Index := Scalar.indexCast v807
  let c1_261 : Index := 1#32
  ![v808.toNat, 1]
def k0_off3 (i : grid0.Coords) (c0_i32_263 : BitVec 32) : Fin 2 → Nat :=
  let c2_i32 : BitVec 32 := 2#32
  let arg0 : BitVec 32 := BitVec.ofNat 32 (i 0).val
  let v0 : BitVec 32 := Scalar.muli c2_i32 arg0
  let v814 : BitVec 32 := Scalar.addi v0 c0_i32_263
  let v815 : Index := Scalar.indexCast v814
  let c2 : Index := 2#32
  ![v815.toNat, 2]
def k0_off4 (i : grid0.Coords) (c0_i32_265 : BitVec 32) : Fin 2 → Nat :=
  let c2_i32 : BitVec 32 := 2#32
  let arg0 : BitVec 32 := BitVec.ofNat 32 (i 0).val
  let v0 : BitVec 32 := Scalar.muli c2_i32 arg0
  let v821 : BitVec 32 := Scalar.addi v0 c0_i32_265
  let v822 : Index := Scalar.indexCast v821
  let c3 : Index := 3#32
  ![v822.toNat, 3]
def k0_off5 (i : grid0.Coords) (c0_i32_267 : BitVec 32) : Fin 2 → Nat :=
  let c2_i32 : BitVec 32 := 2#32
  let arg0 : BitVec 32 := BitVec.ofNat 32 (i 0).val
  let v0 : BitVec 32 := Scalar.muli c2_i32 arg0
  let v828 : BitVec 32 := Scalar.addi v0 c0_i32_267
  let v829 : Index := Scalar.indexCast v828
  let c4 : Index := 4#32
  ![v829.toNat, 4]
def k0_off6 (i : grid0.Coords) (c0_i32_269 : BitVec 32) : Fin 2 → Nat :=
  let c2_i32 : BitVec 32 := 2#32
  let arg0 : BitVec 32 := BitVec.ofNat 32 (i 0).val
  let v0 : BitVec 32 := Scalar.muli c2_i32 arg0
  let v835 : BitVec 32 := Scalar.addi v0 c0_i32_269
  let v836 : Index := Scalar.indexCast v835
  let c5 : Index := 5#32
  ![v836.toNat, 5]
def k0_off7 (i : grid0.Coords) (c0_i32_271 : BitVec 32) : Fin 2 → Nat :=
  let c2_i32 : BitVec 32 := 2#32
  let arg0 : BitVec 32 := BitVec.ofNat 32 (i 0).val
  let v0 : BitVec 32 := Scalar.muli c2_i32 arg0
  let v842 : BitVec 32 := Scalar.addi v0 c0_i32_271
  let v843 : Index := Scalar.indexCast v842
  let c6 : Index := 6#32
  ![v843.toNat, 6]
def k0_off8 (i : grid0.Coords) (c0_i32_273 : BitVec 32) : Fin 2 → Nat :=
  let c2_i32 : BitVec 32 := 2#32
  let arg0 : BitVec 32 := BitVec.ofNat 32 (i 0).val
  let v0 : BitVec 32 := Scalar.muli c2_i32 arg0
  let v849 : BitVec 32 := Scalar.addi v0 c0_i32_273
  let v850 : Index := Scalar.indexCast v849
  let c7 : Index := 7#32
  ![v850.toNat, 7]
def k0_off9 (i : grid0.Coords) (c0_i32_275 : BitVec 32) : Fin 2 → Nat :=
  let c2_i32 : BitVec 32 := 2#32
  let arg0 : BitVec 32 := BitVec.ofNat 32 (i 0).val
  let v0 : BitVec 32 := Scalar.muli c2_i32 arg0
  let v856 : BitVec 32 := Scalar.addi v0 c0_i32_275
  let v857 : Index := Scalar.indexCast v856
  let c8 : Index := 8#32
  ![v857.toNat, 8]
def k0_off10 (i : grid0.Coords) (c0_i32_277 : BitVec 32) : Fin 2 → Nat :=
  let c2_i32 : BitVec 32 := 2#32
  let arg0 : BitVec 32 := BitVec.ofNat 32 (i 0).val
  let v0 : BitVec 32 := Scalar.muli c2_i32 arg0
  let v863 : BitVec 32 := Scalar.addi v0 c0_i32_277
  let v864 : Index := Scalar.indexCast v863
  let c9 : Index := 9#32
  ![v864.toNat, 9]
def k0_off11 (i : grid0.Coords) (c0_i32_279 : BitVec 32) : Fin 2 → Nat :=
  let c2_i32 : BitVec 32 := 2#32
  let arg0 : BitVec 32 := BitVec.ofNat 32 (i 0).val
  let v0 : BitVec 32 := Scalar.muli c2_i32 arg0
  let v870 : BitVec 32 := Scalar.addi v0 c0_i32_279
  let v871 : Index := Scalar.indexCast v870
  let c10 : Index := 10#32
  ![v871.toNat, 10]
def k0_off12 (i : grid0.Coords) (c0_i32_281 : BitVec 32) : Fin 2 → Nat :=
  let c2_i32 : BitVec 32 := 2#32
  let arg0 : BitVec 32 := BitVec.ofNat 32 (i 0).val
  let v0 : BitVec 32 := Scalar.muli c2_i32 arg0
  let v877 : BitVec 32 := Scalar.addi v0 c0_i32_281
  let v878 : Index := Scalar.indexCast v877
  let c11 : Index := 11#32
  ![v878.toNat, 11]
def k0_off13 (i : grid0.Coords) (c0_i32_283 : BitVec 32) : Fin 2 → Nat :=
  let c2_i32 : BitVec 32 := 2#32
  let arg0 : BitVec 32 := BitVec.ofNat 32 (i 0).val
  let v0 : BitVec 32 := Scalar.muli c2_i32 arg0
  let v884 : BitVec 32 := Scalar.addi v0 c0_i32_283
  let v885 : Index := Scalar.indexCast v884
  let c12 : Index := 12#32
  ![v885.toNat, 12]
def k0_off14 (i : grid0.Coords) (c0_i32_285 : BitVec 32) : Fin 2 → Nat :=
  let c2_i32 : BitVec 32 := 2#32
  let arg0 : BitVec 32 := BitVec.ofNat 32 (i 0).val
  let v0 : BitVec 32 := Scalar.muli c2_i32 arg0
  let v891 : BitVec 32 := Scalar.addi v0 c0_i32_285
  let v892 : Index := Scalar.indexCast v891
  let c13 : Index := 13#32
  ![v892.toNat, 13]
def k0_off15 (i : grid0.Coords) (c0_i32_287 : BitVec 32) : Fin 2 → Nat :=
  let c2_i32 : BitVec 32 := 2#32
  let arg0 : BitVec 32 := BitVec.ofNat 32 (i 0).val
  let v0 : BitVec 32 := Scalar.muli c2_i32 arg0
  let v898 : BitVec 32 := Scalar.addi v0 c0_i32_287
  let v899 : Index := Scalar.indexCast v898
  let c14 : Index := 14#32
  ![v899.toNat, 14]
def k0_off16 (i : grid0.Coords) (c0_i32_289 : BitVec 32) : Fin 2 → Nat :=
  let c2_i32 : BitVec 32 := 2#32
  let arg0 : BitVec 32 := BitVec.ofNat 32 (i 0).val
  let v0 : BitVec 32 := Scalar.muli c2_i32 arg0
  let v905 : BitVec 32 := Scalar.addi v0 c0_i32_289
  let v906 : Index := Scalar.indexCast v905
  let c15 : Index := 15#32
  ![v906.toNat, 15]
def k0_off17 (i : grid0.Coords) (c0_i32_290 : BitVec 32) : Fin 2 → Nat :=
  let c2_i32 : BitVec 32 := 2#32
  let arg0 : BitVec 32 := BitVec.ofNat 32 (i 0).val
  let v0 : BitVec 32 := Scalar.muli c2_i32 arg0
  let v912 : BitVec 32 := Scalar.addi v0 c0_i32_290
  let v913 : Index := Scalar.indexCast v912
  let c16 : Index := 16#32
  ![v913.toNat, 16]
def k0_off18 (i : grid0.Coords) (c0_i32_291 : BitVec 32) : Fin 2 → Nat :=
  let c2_i32 : BitVec 32 := 2#32
  let arg0 : BitVec 32 := BitVec.ofNat 32 (i 0).val
  let v0 : BitVec 32 := Scalar.muli c2_i32 arg0
  let v919 : BitVec 32 := Scalar.addi v0 c0_i32_291
  let v920 : Index := Scalar.indexCast v919
  let c17 : Index := 17#32
  ![v920.toNat, 17]
def k0_off19 (i : grid0.Coords) (c0_i32_293 : BitVec 32) : Fin 2 → Nat :=
  let c2_i32 : BitVec 32 := 2#32
  let arg0 : BitVec 32 := BitVec.ofNat 32 (i 0).val
  let v0 : BitVec 32 := Scalar.muli c2_i32 arg0
  let v926 : BitVec 32 := Scalar.addi v0 c0_i32_293
  let v927 : Index := Scalar.indexCast v926
  let c18 : Index := 18#32
  ![v927.toNat, 18]
def k0_off20 (i : grid0.Coords) (c0_i32_294 : BitVec 32) : Fin 2 → Nat :=
  let c2_i32 : BitVec 32 := 2#32
  let arg0 : BitVec 32 := BitVec.ofNat 32 (i 0).val
  let v0 : BitVec 32 := Scalar.muli c2_i32 arg0
  let v933 : BitVec 32 := Scalar.addi v0 c0_i32_294
  let v934 : Index := Scalar.indexCast v933
  let c19 : Index := 19#32
  ![v934.toNat, 19]
def k0_off21 (i : grid0.Coords) (c0_i32_295 : BitVec 32) : Fin 2 → Nat :=
  let c2_i32 : BitVec 32 := 2#32
  let arg0 : BitVec 32 := BitVec.ofNat 32 (i 0).val
  let v0 : BitVec 32 := Scalar.muli c2_i32 arg0
  let v940 : BitVec 32 := Scalar.addi v0 c0_i32_295
  let v941 : Index := Scalar.indexCast v940
  let c20 : Index := 20#32
  ![v941.toNat, 20]
def k0_off22 (i : grid0.Coords) (c0_i32_296 : BitVec 32) : Fin 2 → Nat :=
  let c2_i32 : BitVec 32 := 2#32
  let arg0 : BitVec 32 := BitVec.ofNat 32 (i 0).val
  let v0 : BitVec 32 := Scalar.muli c2_i32 arg0
  let v947 : BitVec 32 := Scalar.addi v0 c0_i32_296
  let v948 : Index := Scalar.indexCast v947
  let c21 : Index := 21#32
  ![v948.toNat, 21]
def k0_off23 (i : grid0.Coords) (c0_i32_297 : BitVec 32) : Fin 2 → Nat :=
  let c2_i32 : BitVec 32 := 2#32
  let arg0 : BitVec 32 := BitVec.ofNat 32 (i 0).val
  let v0 : BitVec 32 := Scalar.muli c2_i32 arg0
  let v954 : BitVec 32 := Scalar.addi v0 c0_i32_297
  let v955 : Index := Scalar.indexCast v954
  let c22 : Index := 22#32
  ![v955.toNat, 22]
def k0_off24 (i : grid0.Coords) (c0_i32_298 : BitVec 32) : Fin 2 → Nat :=
  let c2_i32 : BitVec 32 := 2#32
  let arg0 : BitVec 32 := BitVec.ofNat 32 (i 0).val
  let v0 : BitVec 32 := Scalar.muli c2_i32 arg0
  let v961 : BitVec 32 := Scalar.addi v0 c0_i32_298
  let v962 : Index := Scalar.indexCast v961
  let c23 : Index := 23#32
  ![v962.toNat, 23]
def k0_off25 (i : grid0.Coords) (c0_i32_299 : BitVec 32) : Fin 2 → Nat :=
  let c2_i32 : BitVec 32 := 2#32
  let arg0 : BitVec 32 := BitVec.ofNat 32 (i 0).val
  let v0 : BitVec 32 := Scalar.muli c2_i32 arg0
  let v968 : BitVec 32 := Scalar.addi v0 c0_i32_299
  let v969 : Index := Scalar.indexCast v968
  let c24 : Index := 24#32
  ![v969.toNat, 24]
def k0_off26 (i : grid0.Coords) (c0_i32_300 : BitVec 32) : Fin 2 → Nat :=
  let c2_i32 : BitVec 32 := 2#32
  let arg0 : BitVec 32 := BitVec.ofNat 32 (i 0).val
  let v0 : BitVec 32 := Scalar.muli c2_i32 arg0
  let v975 : BitVec 32 := Scalar.addi v0 c0_i32_300
  let v976 : Index := Scalar.indexCast v975
  let c25 : Index := 25#32
  ![v976.toNat, 25]
def k0_off27 (i : grid0.Coords) (c0_i32_301 : BitVec 32) : Fin 2 → Nat :=
  let c2_i32 : BitVec 32 := 2#32
  let arg0 : BitVec 32 := BitVec.ofNat 32 (i 0).val
  let v0 : BitVec 32 := Scalar.muli c2_i32 arg0
  let v982 : BitVec 32 := Scalar.addi v0 c0_i32_301
  let v983 : Index := Scalar.indexCast v982
  let c26 : Index := 26#32
  ![v983.toNat, 26]
def k0_off28 (i : grid0.Coords) (c0_i32_302 : BitVec 32) : Fin 2 → Nat :=
  let c2_i32 : BitVec 32 := 2#32
  let arg0 : BitVec 32 := BitVec.ofNat 32 (i 0).val
  let v0 : BitVec 32 := Scalar.muli c2_i32 arg0
  let v989 : BitVec 32 := Scalar.addi v0 c0_i32_302
  let v990 : Index := Scalar.indexCast v989
  let c27 : Index := 27#32
  ![v990.toNat, 27]
def k0_off29 (i : grid0.Coords) (c0_i32_303 : BitVec 32) : Fin 2 → Nat :=
  let c2_i32 : BitVec 32 := 2#32
  let arg0 : BitVec 32 := BitVec.ofNat 32 (i 0).val
  let v0 : BitVec 32 := Scalar.muli c2_i32 arg0
  let v996 : BitVec 32 := Scalar.addi v0 c0_i32_303
  let v997 : Index := Scalar.indexCast v996
  let c28 : Index := 28#32
  ![v997.toNat, 28]
def k0_off30 (i : grid0.Coords) (c0_i32_304 : BitVec 32) : Fin 2 → Nat :=
  let c2_i32 : BitVec 32 := 2#32
  let arg0 : BitVec 32 := BitVec.ofNat 32 (i 0).val
  let v0 : BitVec 32 := Scalar.muli c2_i32 arg0
  let v1003 : BitVec 32 := Scalar.addi v0 c0_i32_304
  let v1004 : Index := Scalar.indexCast v1003
  let c29 : Index := 29#32
  ![v1004.toNat, 29]
def k0_off31 (i : grid0.Coords) (c0_i32_305 : BitVec 32) : Fin 2 → Nat :=
  let c2_i32 : BitVec 32 := 2#32
  let arg0 : BitVec 32 := BitVec.ofNat 32 (i 0).val
  let v0 : BitVec 32 := Scalar.muli c2_i32 arg0
  let v1010 : BitVec 32 := Scalar.addi v0 c0_i32_305
  let v1011 : Index := Scalar.indexCast v1010
  let c30 : Index := 30#32
  ![v1011.toNat, 30]
def k0_off32 (i : grid0.Coords) (c0_i32_306 : BitVec 32) : Fin 2 → Nat :=
  let c2_i32 : BitVec 32 := 2#32
  let arg0 : BitVec 32 := BitVec.ofNat 32 (i 0).val
  let v0 : BitVec 32 := Scalar.muli c2_i32 arg0
  let v1017 : BitVec 32 := Scalar.addi v0 c0_i32_306
  let v1018 : Index := Scalar.indexCast v1017
  let c31_307 : Index := 31#32
  ![v1018.toNat, 31]
def k0_cond2 (i : grid0.Coords) : BitVec 1 :=
  let arg2 : BitVec 32 := BitVec.ofNat 32 (i 2).val
  let c0_i32_3 : BitVec 32 := 0#32
  let v12 : BitVec 1 := Scalar.cmpi .eq arg2 c0_i32_3
  let v13 : BitVec 32 := Scalar.extui v12
  let c0_i32_4 : BitVec 32 := 0#32
  let v14 : BitVec 1 := Scalar.cmpi .ne v13 c0_i32_4
  v14

@[reducible] def k0_t1_loop : Scf.Loop 32 :=
  let c0_i32_253 : BitVec 32 := 0#32
  let c16_i32 : BitVec 32 := 16#32
  let v796 : BitVec 32 := Scalar.addi c0_i32_253 c16_i32
  let c1_i32_254 : BitVec 32 := 1#32
  ⟨c0_i32_253, v796, c1_i32_254⟩
def k0_mult1 (k0_t1 : Fin k0_t1_loop.trips) : BitVec 32 :=
  let c0_i32_253 : BitVec 32 := 0#32
  let c1_i32_254 : BitVec 32 := 1#32
  let arg18 : BitVec 32 := Scf.iv c0_i32_253 c1_i32_254 k0_t1
  let c256_i32_256 : BitVec 32 := 256#32
  let v797 : BitVec 32 := Scalar.muli arg18 c256_i32_256
  v797
def k0_off33 (k0_t1 : Fin k0_t1_loop.trips) : Fin 2 → Nat :=
  let c0_i32_253 : BitVec 32 := 0#32
  let c1_i32_254 : BitVec 32 := 1#32
  let arg18 : BitVec 32 := Scf.iv c0_i32_253 c1_i32_254 k0_t1
  let c256_i32_256 : BitVec 32 := 256#32
  let v797 : BitVec 32 := Scalar.muli arg18 c256_i32_256
  let v798 : BitVec 32 := v797
  let v799 : Index := Scalar.indexCast v798
  let c0_257 : Index := 0#32
  ![v799.toNat, 0]
def k0_off34 (k0_t1 : Fin k0_t1_loop.trips) : Fin 2 → Nat :=
  let c0_i32_253 : BitVec 32 := 0#32
  let c1_i32_254 : BitVec 32 := 1#32
  let arg18 : BitVec 32 := Scf.iv c0_i32_253 c1_i32_254 k0_t1
  let v825 : Index := Scalar.indexCast arg18
  let c0_266 : Index := 0#32
  ![v825.toNat, 0]
def k0_off35 (k0_t1 : Fin k0_t1_loop.trips) : Fin 3 → Nat :=
  let c0_271 : Index := 0#32
  let c0_i32_253 : BitVec 32 := 0#32
  let c1_i32_254 : BitVec 32 := 1#32
  let arg18 : BitVec 32 := Scf.iv c0_i32_253 c1_i32_254 k0_t1
  let c256_i32_256 : BitVec 32 := 256#32
  let v797 : BitVec 32 := Scalar.muli arg18 c256_i32_256
  let v798 : BitVec 32 := v797
  let v851 : Index := Scalar.indexCast v798
  let c0_272 : Index := 0#32
  ![0, v851.toNat, 0]
def k0_off36 (k0_t1 : Fin k0_t1_loop.trips) : Fin 3 → Nat :=
  let c1_280 : Index := 1#32
  let c0_i32_253 : BitVec 32 := 0#32
  let c1_i32_254 : BitVec 32 := 1#32
  let arg18 : BitVec 32 := Scf.iv c0_i32_253 c1_i32_254 k0_t1
  let c256_i32_256 : BitVec 32 := 256#32
  let v797 : BitVec 32 := Scalar.muli arg18 c256_i32_256
  let v798 : BitVec 32 := v797
  let v882 : Index := Scalar.indexCast v798
  let c0_281 : Index := 0#32
  ![1, v882.toNat, 0]
def k0_mult2 (i : grid0.Coords) : BitVec 32 :=
  let arg2 : BitVec 32 := BitVec.ofNat 32 (i 2).val
  let c256_i32 : BitVec 32 := 256#32
  let v17 : BitVec 32 := Scalar.muli arg2 c256_i32
  v17
def k0_mult3 (i : grid0.Coords) : BitVec 32 :=
  let arg2 : BitVec 32 := BitVec.ofNat 32 (i 2).val
  let c1_i32 : BitVec 32 := 1#32
  let v19 : BitVec 32 := Scalar.subi arg2 c1_i32
  let c0_i32_5 : BitVec 32 := 0#32
  let v20 : BitVec 32 := Scalar.maxsi v19 c0_i32_5
  let c256_i32_6 : BitVec 32 := 256#32
  let v21 : BitVec 32 := Scalar.muli v20 c256_i32_6
  v21
def k0_off37 (i : grid0.Coords) (c0_i32_136 : BitVec 32) : Fin 2 → Nat :=
  let c2_i32 : BitVec 32 := 2#32
  let arg0 : BitVec 32 := BitVec.ofNat 32 (i 0).val
  let v0 : BitVec 32 := Scalar.muli c2_i32 arg0
  let v545 : BitVec 32 := Scalar.addi v0 c0_i32_136
  let v546 : Index := Scalar.indexCast v545
  let c31 : Index := 31#32
  ![v546.toNat, 31]
def k0_off38 (i : grid0.Coords) : Fin 3 → Nat :=
  let c0_166 : Index := 0#32
  let arg2 : BitVec 32 := BitVec.ofNat 32 (i 2).val
  let c256_i32 : BitVec 32 := 256#32
  let v17 : BitVec 32 := Scalar.muli arg2 c256_i32
  let v18 : BitVec 32 := v17
  let v595 : Index := Scalar.indexCast v18
  let c0_167 : Index := 0#32
  ![0, v595.toNat, 0]
def k0_off39 (i : grid0.Coords) : Fin 3 → Nat :=
  let c1_168 : Index := 1#32
  let arg2 : BitVec 32 := BitVec.ofNat 32 (i 2).val
  let c256_i32 : BitVec 32 := 256#32
  let v17 : BitVec 32 := Scalar.muli arg2 c256_i32
  let v18 : BitVec 32 := v17
  let v598 : Index := Scalar.indexCast v18
  let c0_169 : Index := 0#32
  ![1, v598.toNat, 0]
def k0_off40 (i : grid0.Coords) : Fin 3 → Nat :=
  let c0_189 : Index := 0#32
  let arg2 : BitVec 32 := BitVec.ofNat 32 (i 2).val
  let c1_i32 : BitVec 32 := 1#32
  let v19 : BitVec 32 := Scalar.subi arg2 c1_i32
  let c0_i32_5 : BitVec 32 := 0#32
  let v20 : BitVec 32 := Scalar.maxsi v19 c0_i32_5
  let c256_i32_6 : BitVec 32 := 256#32
  let v21 : BitVec 32 := Scalar.muli v20 c256_i32_6
  let v22 : BitVec 32 := v21
  let v663 : Index := Scalar.indexCast v22
  let c0_190 : Index := 0#32
  ![0, v663.toNat, 0]
def k0_off41 (i : grid0.Coords) : Fin 3 → Nat :=
  let c1_192 : Index := 1#32
  let arg2 : BitVec 32 := BitVec.ofNat 32 (i 2).val
  let c1_i32 : BitVec 32 := 1#32
  let v19 : BitVec 32 := Scalar.subi arg2 c1_i32
  let c0_i32_5 : BitVec 32 := 0#32
  let v20 : BitVec 32 := Scalar.maxsi v19 c0_i32_5
  let c256_i32_6 : BitVec 32 := 256#32
  let v21 : BitVec 32 := Scalar.muli v20 c256_i32_6
  let v22 : BitVec 32 := v21
  let v670 : Index := Scalar.indexCast v22
  let c0_193 : Index := 0#32
  ![1, v670.toNat, 0]
@[reducible] def k0_t2_loop (i : grid0.Coords) : Scf.Loop 32 :=
  let c0_i32_216 : BitVec 32 := 0#32
  let arg2 : BitVec 32 := BitVec.ofNat 32 (i 2).val
  let c1_i32_207 : BitVec 32 := 1#32
  let v703 : BitVec 32 := Scalar.subi arg2 c1_i32_207
  let c0_i32_208 : BitVec 32 := 0#32
  let v704 : BitVec 32 := Scalar.maxsi v703 c0_i32_208
  let c0_i32_210 : BitVec 32 := 0#32
  let v706 : BitVec 1 := Scalar.cmpi .sgt v704 c0_i32_210
  let v707 : BitVec 32 := Scalar.extui v706
  let c0_i32_211 : BitVec 32 := 0#32
  let v708 : BitVec 1 := Scalar.cmpi .slt v704 c0_i32_211
  let v709 : BitVec 32 := Scalar.extui v708
  let v710 : BitVec 32 := Scalar.subi v707 v709
  let c4_i32_209 : BitVec 32 := 4#32
  let c0_i32_212 : BitVec 32 := 0#32
  let v711 : BitVec 1 := Scalar.cmpi .sgt c4_i32_209 c0_i32_212
  let v712 : BitVec 32 := Scalar.extui v711
  let c0_i32_213 : BitVec 32 := 0#32
  let v713 : BitVec 1 := Scalar.cmpi .slt c4_i32_209 c0_i32_213
  let v714 : BitVec 32 := Scalar.extui v713
  let v715 : BitVec 32 := Scalar.subi v712 v714
  let v716 : BitVec 1 := Scalar.cmpi .ne v710 v715
  let v717 : BitVec 32 := Scalar.remsi v704 c4_i32_209
  let c0_i32_214 : BitVec 32 := 0#32
  let v718 : BitVec 1 := Scalar.cmpi .ne v717 c0_i32_214
  let v719 : BitVec 1 := Scalar.andi v716 v718
  let v705 : BitVec 32 := Scalar.divsi v704 c4_i32_209
  let c1_i32_215 : BitVec 32 := 1#32
  let v720 : BitVec 32 := Scalar.subi v705 c1_i32_215
  let v721 : BitVec 32 := Scalar.select v719 v720 v705
  let v722 : BitVec 32 := Scalar.subi v721 c0_i32_216
  let c1_i32_217 : BitVec 32 := 1#32
  let v724 : BitVec 32 := Scalar.divsi v722 c1_i32_217
  let v725 : BitVec 32 := Scalar.muli v724 c1_i32_217
  let v726 : BitVec 32 := Scalar.addi c0_i32_216 v725
  let c1_i32_218 : BitVec 32 := 1#32
  ⟨c0_i32_216, v726, c1_i32_218⟩
def k0_mult4 (i : grid0.Coords) (k0_t2 : Fin (k0_t2_loop i).trips) : BitVec 32 :=
  let c4_i32_253 : BitVec 32 := 4#32
  let c0_i32_216 : BitVec 32 := 0#32
  let c1_i32_218 : BitVec 32 := 1#32
  let arg18 : BitVec 32 := Scf.iv c0_i32_216 c1_i32_218 k0_t2
  let v796 : BitVec 32 := Scalar.muli c4_i32_253 arg18
  let c0_i32_254 : BitVec 32 := 0#32
  let v797 : BitVec 32 := Scalar.addi v796 c0_i32_254
  let c256_i32_255 : BitVec 32 := 256#32
  let v798 : BitVec 32 := Scalar.muli v797 c256_i32_255
  v798
def k0_mult5 (i : grid0.Coords) (k0_t2 : Fin (k0_t2_loop i).trips) : BitVec 32 :=
  let c4_i32_253 : BitVec 32 := 4#32
  let c0_i32_216 : BitVec 32 := 0#32
  let c1_i32_218 : BitVec 32 := 1#32
  let arg18 : BitVec 32 := Scf.iv c0_i32_216 c1_i32_218 k0_t2
  let v796 : BitVec 32 := Scalar.muli c4_i32_253 arg18
  let c1_i32_256 : BitVec 32 := 1#32
  let v800 : BitVec 32 := Scalar.addi v796 c1_i32_256
  let c256_i32_257 : BitVec 32 := 256#32
  let v801 : BitVec 32 := Scalar.muli v800 c256_i32_257
  v801
def k0_mult6 (i : grid0.Coords) (k0_t2 : Fin (k0_t2_loop i).trips) : BitVec 32 :=
  let c4_i32_253 : BitVec 32 := 4#32
  let c0_i32_216 : BitVec 32 := 0#32
  let c1_i32_218 : BitVec 32 := 1#32
  let arg18 : BitVec 32 := Scf.iv c0_i32_216 c1_i32_218 k0_t2
  let v796 : BitVec 32 := Scalar.muli c4_i32_253 arg18
  let c2_i32_258 : BitVec 32 := 2#32
  let v803 : BitVec 32 := Scalar.addi v796 c2_i32_258
  let c256_i32_259 : BitVec 32 := 256#32
  let v804 : BitVec 32 := Scalar.muli v803 c256_i32_259
  v804
def k0_mult7 (i : grid0.Coords) (k0_t2 : Fin (k0_t2_loop i).trips) : BitVec 32 :=
  let c4_i32_253 : BitVec 32 := 4#32
  let c0_i32_216 : BitVec 32 := 0#32
  let c1_i32_218 : BitVec 32 := 1#32
  let arg18 : BitVec 32 := Scf.iv c0_i32_216 c1_i32_218 k0_t2
  let v796 : BitVec 32 := Scalar.muli c4_i32_253 arg18
  let c3_i32_260 : BitVec 32 := 3#32
  let v806 : BitVec 32 := Scalar.addi v796 c3_i32_260
  let c256_i32_261 : BitVec 32 := 256#32
  let v807 : BitVec 32 := Scalar.muli v806 c256_i32_261
  v807
def k0_off42 (i : grid0.Coords) (k0_t2 : Fin (k0_t2_loop i).trips) (c0_i32_254 : BitVec 32) : Fin 3 → Nat :=
  let c0_262 : Index := 0#32
  let c4_i32_253 : BitVec 32 := 4#32
  let c0_i32_216 : BitVec 32 := 0#32
  let c1_i32_218 : BitVec 32 := 1#32
  let arg18 : BitVec 32 := Scf.iv c0_i32_216 c1_i32_218 k0_t2
  let v796 : BitVec 32 := Scalar.muli c4_i32_253 arg18
  let v797 : BitVec 32 := Scalar.addi v796 c0_i32_254
  let c256_i32_255 : BitVec 32 := 256#32
  let v798 : BitVec 32 := Scalar.muli v797 c256_i32_255
  let v799 : BitVec 32 := v798
  let v809 : Index := Scalar.indexCast v799
  let c0_263 : Index := 0#32
  ![0, v809.toNat, 0]
def k0_off43 (i : grid0.Coords) (k0_t2 : Fin (k0_t2_loop i).trips) (c0_i32_254 : BitVec 32) : Fin 3 → Nat :=
  let c1_265 : Index := 1#32
  let c4_i32_253 : BitVec 32 := 4#32
  let c0_i32_216 : BitVec 32 := 0#32
  let c1_i32_218 : BitVec 32 := 1#32
  let arg18 : BitVec 32 := Scf.iv c0_i32_216 c1_i32_218 k0_t2
  let v796 : BitVec 32 := Scalar.muli c4_i32_253 arg18
  let v797 : BitVec 32 := Scalar.addi v796 c0_i32_254
  let c256_i32_255 : BitVec 32 := 256#32
  let v798 : BitVec 32 := Scalar.muli v797 c256_i32_255
  let v799 : BitVec 32 := v798
  let v813 : Index := Scalar.indexCast v799
  let c0_266 : Index := 0#32
  ![1, v813.toNat, 0]
@[reducible] def k0_t3_loop (i : grid0.Coords) : Scf.Loop 32 :=
  let c0_i32_216 : BitVec 32 := 0#32
  let arg2 : BitVec 32 := BitVec.ofNat 32 (i 2).val
  let c1_i32_207 : BitVec 32 := 1#32
  let v703 : BitVec 32 := Scalar.subi arg2 c1_i32_207
  let c0_i32_208 : BitVec 32 := 0#32
  let v704 : BitVec 32 := Scalar.maxsi v703 c0_i32_208
  let c0_i32_210 : BitVec 32 := 0#32
  let v706 : BitVec 1 := Scalar.cmpi .sgt v704 c0_i32_210
  let v707 : BitVec 32 := Scalar.extui v706
  let c0_i32_211 : BitVec 32 := 0#32
  let v708 : BitVec 1 := Scalar.cmpi .slt v704 c0_i32_211
  let v709 : BitVec 32 := Scalar.extui v708
  let v710 : BitVec 32 := Scalar.subi v707 v709
  let c4_i32_209 : BitVec 32 := 4#32
  let c0_i32_212 : BitVec 32 := 0#32
  let v711 : BitVec 1 := Scalar.cmpi .sgt c4_i32_209 c0_i32_212
  let v712 : BitVec 32 := Scalar.extui v711
  let c0_i32_213 : BitVec 32 := 0#32
  let v713 : BitVec 1 := Scalar.cmpi .slt c4_i32_209 c0_i32_213
  let v714 : BitVec 32 := Scalar.extui v713
  let v715 : BitVec 32 := Scalar.subi v712 v714
  let v716 : BitVec 1 := Scalar.cmpi .ne v710 v715
  let v717 : BitVec 32 := Scalar.remsi v704 c4_i32_209
  let c0_i32_214 : BitVec 32 := 0#32
  let v718 : BitVec 1 := Scalar.cmpi .ne v717 c0_i32_214
  let v719 : BitVec 1 := Scalar.andi v716 v718
  let v705 : BitVec 32 := Scalar.divsi v704 c4_i32_209
  let c1_i32_215 : BitVec 32 := 1#32
  let v720 : BitVec 32 := Scalar.subi v705 c1_i32_215
  let v721 : BitVec 32 := Scalar.select v719 v720 v705
  let v722 : BitVec 32 := Scalar.subi v721 c0_i32_216
  let c1_i32_217 : BitVec 32 := 1#32
  let v724 : BitVec 32 := Scalar.divsi v722 c1_i32_217
  let v725 : BitVec 32 := Scalar.muli v724 c1_i32_217
  let v726 : BitVec 32 := Scalar.addi c0_i32_216 v725
  let v723 : BitVec 32 := Scalar.addi c0_i32_216 v722
  let c1_i32_219 : BitVec 32 := 1#32
  ⟨v726, v723, c1_i32_219⟩
def k0_mult8 (i : grid0.Coords) (k0_t3 : Fin (k0_t3_loop i).trips) : BitVec 32 :=
  let c4_i32_253 : BitVec 32 := 4#32
  let c0_i32_216 : BitVec 32 := 0#32
  let arg2 : BitVec 32 := BitVec.ofNat 32 (i 2).val
  let c1_i32_207 : BitVec 32 := 1#32
  let v703 : BitVec 32 := Scalar.subi arg2 c1_i32_207
  let c0_i32_208 : BitVec 32 := 0#32
  let v704 : BitVec 32 := Scalar.maxsi v703 c0_i32_208
  let c0_i32_210 : BitVec 32 := 0#32
  let v706 : BitVec 1 := Scalar.cmpi .sgt v704 c0_i32_210
  let v707 : BitVec 32 := Scalar.extui v706
  let c0_i32_211 : BitVec 32 := 0#32
  let v708 : BitVec 1 := Scalar.cmpi .slt v704 c0_i32_211
  let v709 : BitVec 32 := Scalar.extui v708
  let v710 : BitVec 32 := Scalar.subi v707 v709
  let c4_i32_209 : BitVec 32 := 4#32
  let c0_i32_212 : BitVec 32 := 0#32
  let v711 : BitVec 1 := Scalar.cmpi .sgt c4_i32_209 c0_i32_212
  let v712 : BitVec 32 := Scalar.extui v711
  let c0_i32_213 : BitVec 32 := 0#32
  let v713 : BitVec 1 := Scalar.cmpi .slt c4_i32_209 c0_i32_213
  let v714 : BitVec 32 := Scalar.extui v713
  let v715 : BitVec 32 := Scalar.subi v712 v714
  let v716 : BitVec 1 := Scalar.cmpi .ne v710 v715
  let v717 : BitVec 32 := Scalar.remsi v704 c4_i32_209
  let c0_i32_214 : BitVec 32 := 0#32
  let v718 : BitVec 1 := Scalar.cmpi .ne v717 c0_i32_214
  let v719 : BitVec 1 := Scalar.andi v716 v718
  let v705 : BitVec 32 := Scalar.divsi v704 c4_i32_209
  let c1_i32_215 : BitVec 32 := 1#32
  let v720 : BitVec 32 := Scalar.subi v705 c1_i32_215
  let v721 : BitVec 32 := Scalar.select v719 v720 v705
  let v722 : BitVec 32 := Scalar.subi v721 c0_i32_216
  let c1_i32_217 : BitVec 32 := 1#32
  let v724 : BitVec 32 := Scalar.divsi v722 c1_i32_217
  let v725 : BitVec 32 := Scalar.muli v724 c1_i32_217
  let v726 : BitVec 32 := Scalar.addi c0_i32_216 v725
  let c1_i32_219 : BitVec 32 := 1#32
  let arg18 : BitVec 32 := Scf.iv v726 c1_i32_219 k0_t3
  let v796 : BitVec 32 := Scalar.muli c4_i32_253 arg18
  let c0_i32_254 : BitVec 32 := 0#32
  let v797 : BitVec 32 := Scalar.addi v796 c0_i32_254
  let c256_i32_255 : BitVec 32 := 256#32
  let v798 : BitVec 32 := Scalar.muli v797 c256_i32_255
  v798
def k0_mult9 (i : grid0.Coords) (k0_t3 : Fin (k0_t3_loop i).trips) : BitVec 32 :=
  let c4_i32_253 : BitVec 32 := 4#32
  let c0_i32_216 : BitVec 32 := 0#32
  let arg2 : BitVec 32 := BitVec.ofNat 32 (i 2).val
  let c1_i32_207 : BitVec 32 := 1#32
  let v703 : BitVec 32 := Scalar.subi arg2 c1_i32_207
  let c0_i32_208 : BitVec 32 := 0#32
  let v704 : BitVec 32 := Scalar.maxsi v703 c0_i32_208
  let c0_i32_210 : BitVec 32 := 0#32
  let v706 : BitVec 1 := Scalar.cmpi .sgt v704 c0_i32_210
  let v707 : BitVec 32 := Scalar.extui v706
  let c0_i32_211 : BitVec 32 := 0#32
  let v708 : BitVec 1 := Scalar.cmpi .slt v704 c0_i32_211
  let v709 : BitVec 32 := Scalar.extui v708
  let v710 : BitVec 32 := Scalar.subi v707 v709
  let c4_i32_209 : BitVec 32 := 4#32
  let c0_i32_212 : BitVec 32 := 0#32
  let v711 : BitVec 1 := Scalar.cmpi .sgt c4_i32_209 c0_i32_212
  let v712 : BitVec 32 := Scalar.extui v711
  let c0_i32_213 : BitVec 32 := 0#32
  let v713 : BitVec 1 := Scalar.cmpi .slt c4_i32_209 c0_i32_213
  let v714 : BitVec 32 := Scalar.extui v713
  let v715 : BitVec 32 := Scalar.subi v712 v714
  let v716 : BitVec 1 := Scalar.cmpi .ne v710 v715
  let v717 : BitVec 32 := Scalar.remsi v704 c4_i32_209
  let c0_i32_214 : BitVec 32 := 0#32
  let v718 : BitVec 1 := Scalar.cmpi .ne v717 c0_i32_214
  let v719 : BitVec 1 := Scalar.andi v716 v718
  let v705 : BitVec 32 := Scalar.divsi v704 c4_i32_209
  let c1_i32_215 : BitVec 32 := 1#32
  let v720 : BitVec 32 := Scalar.subi v705 c1_i32_215
  let v721 : BitVec 32 := Scalar.select v719 v720 v705
  let v722 : BitVec 32 := Scalar.subi v721 c0_i32_216
  let c1_i32_217 : BitVec 32 := 1#32
  let v724 : BitVec 32 := Scalar.divsi v722 c1_i32_217
  let v725 : BitVec 32 := Scalar.muli v724 c1_i32_217
  let v726 : BitVec 32 := Scalar.addi c0_i32_216 v725
  let c1_i32_219 : BitVec 32 := 1#32
  let arg18 : BitVec 32 := Scf.iv v726 c1_i32_219 k0_t3
  let v796 : BitVec 32 := Scalar.muli c4_i32_253 arg18
  let c1_i32_256 : BitVec 32 := 1#32
  let v800 : BitVec 32 := Scalar.addi v796 c1_i32_256
  let c256_i32_257 : BitVec 32 := 256#32
  let v801 : BitVec 32 := Scalar.muli v800 c256_i32_257
  v801
def k0_mult10 (i : grid0.Coords) (k0_t3 : Fin (k0_t3_loop i).trips) : BitVec 32 :=
  let c4_i32_253 : BitVec 32 := 4#32
  let c0_i32_216 : BitVec 32 := 0#32
  let arg2 : BitVec 32 := BitVec.ofNat 32 (i 2).val
  let c1_i32_207 : BitVec 32 := 1#32
  let v703 : BitVec 32 := Scalar.subi arg2 c1_i32_207
  let c0_i32_208 : BitVec 32 := 0#32
  let v704 : BitVec 32 := Scalar.maxsi v703 c0_i32_208
  let c0_i32_210 : BitVec 32 := 0#32
  let v706 : BitVec 1 := Scalar.cmpi .sgt v704 c0_i32_210
  let v707 : BitVec 32 := Scalar.extui v706
  let c0_i32_211 : BitVec 32 := 0#32
  let v708 : BitVec 1 := Scalar.cmpi .slt v704 c0_i32_211
  let v709 : BitVec 32 := Scalar.extui v708
  let v710 : BitVec 32 := Scalar.subi v707 v709
  let c4_i32_209 : BitVec 32 := 4#32
  let c0_i32_212 : BitVec 32 := 0#32
  let v711 : BitVec 1 := Scalar.cmpi .sgt c4_i32_209 c0_i32_212
  let v712 : BitVec 32 := Scalar.extui v711
  let c0_i32_213 : BitVec 32 := 0#32
  let v713 : BitVec 1 := Scalar.cmpi .slt c4_i32_209 c0_i32_213
  let v714 : BitVec 32 := Scalar.extui v713
  let v715 : BitVec 32 := Scalar.subi v712 v714
  let v716 : BitVec 1 := Scalar.cmpi .ne v710 v715
  let v717 : BitVec 32 := Scalar.remsi v704 c4_i32_209
  let c0_i32_214 : BitVec 32 := 0#32
  let v718 : BitVec 1 := Scalar.cmpi .ne v717 c0_i32_214
  let v719 : BitVec 1 := Scalar.andi v716 v718
  let v705 : BitVec 32 := Scalar.divsi v704 c4_i32_209
  let c1_i32_215 : BitVec 32 := 1#32
  let v720 : BitVec 32 := Scalar.subi v705 c1_i32_215
  let v721 : BitVec 32 := Scalar.select v719 v720 v705
  let v722 : BitVec 32 := Scalar.subi v721 c0_i32_216
  let c1_i32_217 : BitVec 32 := 1#32
  let v724 : BitVec 32 := Scalar.divsi v722 c1_i32_217
  let v725 : BitVec 32 := Scalar.muli v724 c1_i32_217
  let v726 : BitVec 32 := Scalar.addi c0_i32_216 v725
  let c1_i32_219 : BitVec 32 := 1#32
  let arg18 : BitVec 32 := Scf.iv v726 c1_i32_219 k0_t3
  let v796 : BitVec 32 := Scalar.muli c4_i32_253 arg18
  let c2_i32_258 : BitVec 32 := 2#32
  let v803 : BitVec 32 := Scalar.addi v796 c2_i32_258
  let c256_i32_259 : BitVec 32 := 256#32
  let v804 : BitVec 32 := Scalar.muli v803 c256_i32_259
  v804
def k0_mult11 (i : grid0.Coords) (k0_t3 : Fin (k0_t3_loop i).trips) : BitVec 32 :=
  let c4_i32_253 : BitVec 32 := 4#32
  let c0_i32_216 : BitVec 32 := 0#32
  let arg2 : BitVec 32 := BitVec.ofNat 32 (i 2).val
  let c1_i32_207 : BitVec 32 := 1#32
  let v703 : BitVec 32 := Scalar.subi arg2 c1_i32_207
  let c0_i32_208 : BitVec 32 := 0#32
  let v704 : BitVec 32 := Scalar.maxsi v703 c0_i32_208
  let c0_i32_210 : BitVec 32 := 0#32
  let v706 : BitVec 1 := Scalar.cmpi .sgt v704 c0_i32_210
  let v707 : BitVec 32 := Scalar.extui v706
  let c0_i32_211 : BitVec 32 := 0#32
  let v708 : BitVec 1 := Scalar.cmpi .slt v704 c0_i32_211
  let v709 : BitVec 32 := Scalar.extui v708
  let v710 : BitVec 32 := Scalar.subi v707 v709
  let c4_i32_209 : BitVec 32 := 4#32
  let c0_i32_212 : BitVec 32 := 0#32
  let v711 : BitVec 1 := Scalar.cmpi .sgt c4_i32_209 c0_i32_212
  let v712 : BitVec 32 := Scalar.extui v711
  let c0_i32_213 : BitVec 32 := 0#32
  let v713 : BitVec 1 := Scalar.cmpi .slt c4_i32_209 c0_i32_213
  let v714 : BitVec 32 := Scalar.extui v713
  let v715 : BitVec 32 := Scalar.subi v712 v714
  let v716 : BitVec 1 := Scalar.cmpi .ne v710 v715
  let v717 : BitVec 32 := Scalar.remsi v704 c4_i32_209
  let c0_i32_214 : BitVec 32 := 0#32
  let v718 : BitVec 1 := Scalar.cmpi .ne v717 c0_i32_214
  let v719 : BitVec 1 := Scalar.andi v716 v718
  let v705 : BitVec 32 := Scalar.divsi v704 c4_i32_209
  let c1_i32_215 : BitVec 32 := 1#32
  let v720 : BitVec 32 := Scalar.subi v705 c1_i32_215
  let v721 : BitVec 32 := Scalar.select v719 v720 v705
  let v722 : BitVec 32 := Scalar.subi v721 c0_i32_216
  let c1_i32_217 : BitVec 32 := 1#32
  let v724 : BitVec 32 := Scalar.divsi v722 c1_i32_217
  let v725 : BitVec 32 := Scalar.muli v724 c1_i32_217
  let v726 : BitVec 32 := Scalar.addi c0_i32_216 v725
  let c1_i32_219 : BitVec 32 := 1#32
  let arg18 : BitVec 32 := Scf.iv v726 c1_i32_219 k0_t3
  let v796 : BitVec 32 := Scalar.muli c4_i32_253 arg18
  let c3_i32_260 : BitVec 32 := 3#32
  let v806 : BitVec 32 := Scalar.addi v796 c3_i32_260
  let c256_i32_261 : BitVec 32 := 256#32
  let v807 : BitVec 32 := Scalar.muli v806 c256_i32_261
  v807
def k0_off44 (i : grid0.Coords) (k0_t3 : Fin (k0_t3_loop i).trips) (c0_i32_254 : BitVec 32) : Fin 3 → Nat :=
  let c0_262 : Index := 0#32
  let c4_i32_253 : BitVec 32 := 4#32
  let c0_i32_216 : BitVec 32 := 0#32
  let arg2 : BitVec 32 := BitVec.ofNat 32 (i 2).val
  let c1_i32_207 : BitVec 32 := 1#32
  let v703 : BitVec 32 := Scalar.subi arg2 c1_i32_207
  let c0_i32_208 : BitVec 32 := 0#32
  let v704 : BitVec 32 := Scalar.maxsi v703 c0_i32_208
  let c0_i32_210 : BitVec 32 := 0#32
  let v706 : BitVec 1 := Scalar.cmpi .sgt v704 c0_i32_210
  let v707 : BitVec 32 := Scalar.extui v706
  let c0_i32_211 : BitVec 32 := 0#32
  let v708 : BitVec 1 := Scalar.cmpi .slt v704 c0_i32_211
  let v709 : BitVec 32 := Scalar.extui v708
  let v710 : BitVec 32 := Scalar.subi v707 v709
  let c4_i32_209 : BitVec 32 := 4#32
  let c0_i32_212 : BitVec 32 := 0#32
  let v711 : BitVec 1 := Scalar.cmpi .sgt c4_i32_209 c0_i32_212
  let v712 : BitVec 32 := Scalar.extui v711
  let c0_i32_213 : BitVec 32 := 0#32
  let v713 : BitVec 1 := Scalar.cmpi .slt c4_i32_209 c0_i32_213
  let v714 : BitVec 32 := Scalar.extui v713
  let v715 : BitVec 32 := Scalar.subi v712 v714
  let v716 : BitVec 1 := Scalar.cmpi .ne v710 v715
  let v717 : BitVec 32 := Scalar.remsi v704 c4_i32_209
  let c0_i32_214 : BitVec 32 := 0#32
  let v718 : BitVec 1 := Scalar.cmpi .ne v717 c0_i32_214
  let v719 : BitVec 1 := Scalar.andi v716 v718
  let v705 : BitVec 32 := Scalar.divsi v704 c4_i32_209
  let c1_i32_215 : BitVec 32 := 1#32
  let v720 : BitVec 32 := Scalar.subi v705 c1_i32_215
  let v721 : BitVec 32 := Scalar.select v719 v720 v705
  let v722 : BitVec 32 := Scalar.subi v721 c0_i32_216
  let c1_i32_217 : BitVec 32 := 1#32
  let v724 : BitVec 32 := Scalar.divsi v722 c1_i32_217
  let v725 : BitVec 32 := Scalar.muli v724 c1_i32_217
  let v726 : BitVec 32 := Scalar.addi c0_i32_216 v725
  let c1_i32_219 : BitVec 32 := 1#32
  let arg18 : BitVec 32 := Scf.iv v726 c1_i32_219 k0_t3
  let v796 : BitVec 32 := Scalar.muli c4_i32_253 arg18
  let v797 : BitVec 32 := Scalar.addi v796 c0_i32_254
  let c256_i32_255 : BitVec 32 := 256#32
  let v798 : BitVec 32 := Scalar.muli v797 c256_i32_255
  let v799 : BitVec 32 := v798
  let v809 : Index := Scalar.indexCast v799
  let c0_263 : Index := 0#32
  ![0, v809.toNat, 0]
def k0_off45 (i : grid0.Coords) (k0_t3 : Fin (k0_t3_loop i).trips) (c0_i32_254 : BitVec 32) : Fin 3 → Nat :=
  let c1_265 : Index := 1#32
  let c4_i32_253 : BitVec 32 := 4#32
  let c0_i32_216 : BitVec 32 := 0#32
  let arg2 : BitVec 32 := BitVec.ofNat 32 (i 2).val
  let c1_i32_207 : BitVec 32 := 1#32
  let v703 : BitVec 32 := Scalar.subi arg2 c1_i32_207
  let c0_i32_208 : BitVec 32 := 0#32
  let v704 : BitVec 32 := Scalar.maxsi v703 c0_i32_208
  let c0_i32_210 : BitVec 32 := 0#32
  let v706 : BitVec 1 := Scalar.cmpi .sgt v704 c0_i32_210
  let v707 : BitVec 32 := Scalar.extui v706
  let c0_i32_211 : BitVec 32 := 0#32
  let v708 : BitVec 1 := Scalar.cmpi .slt v704 c0_i32_211
  let v709 : BitVec 32 := Scalar.extui v708
  let v710 : BitVec 32 := Scalar.subi v707 v709
  let c4_i32_209 : BitVec 32 := 4#32
  let c0_i32_212 : BitVec 32 := 0#32
  let v711 : BitVec 1 := Scalar.cmpi .sgt c4_i32_209 c0_i32_212
  let v712 : BitVec 32 := Scalar.extui v711
  let c0_i32_213 : BitVec 32 := 0#32
  let v713 : BitVec 1 := Scalar.cmpi .slt c4_i32_209 c0_i32_213
  let v714 : BitVec 32 := Scalar.extui v713
  let v715 : BitVec 32 := Scalar.subi v712 v714
  let v716 : BitVec 1 := Scalar.cmpi .ne v710 v715
  let v717 : BitVec 32 := Scalar.remsi v704 c4_i32_209
  let c0_i32_214 : BitVec 32 := 0#32
  let v718 : BitVec 1 := Scalar.cmpi .ne v717 c0_i32_214
  let v719 : BitVec 1 := Scalar.andi v716 v718
  let v705 : BitVec 32 := Scalar.divsi v704 c4_i32_209
  let c1_i32_215 : BitVec 32 := 1#32
  let v720 : BitVec 32 := Scalar.subi v705 c1_i32_215
  let v721 : BitVec 32 := Scalar.select v719 v720 v705
  let v722 : BitVec 32 := Scalar.subi v721 c0_i32_216
  let c1_i32_217 : BitVec 32 := 1#32
  let v724 : BitVec 32 := Scalar.divsi v722 c1_i32_217
  let v725 : BitVec 32 := Scalar.muli v724 c1_i32_217
  let v726 : BitVec 32 := Scalar.addi c0_i32_216 v725
  let c1_i32_219 : BitVec 32 := 1#32
  let arg18 : BitVec 32 := Scf.iv v726 c1_i32_219 k0_t3
  let v796 : BitVec 32 := Scalar.muli c4_i32_253 arg18
  let v797 : BitVec 32 := Scalar.addi v796 c0_i32_254
  let c256_i32_255 : BitVec 32 := 256#32
  let v798 : BitVec 32 := Scalar.muli v797 c256_i32_255
  let v799 : BitVec 32 := v798
  let v813 : Index := Scalar.indexCast v799
  let c0_266 : Index := 0#32
  ![1, v813.toNat, 0]
def k0_cond3 (i : grid0.Coords) : BitVec 1 :=
  let arg2 : BitVec 32 := BitVec.ofNat 32 (i 2).val
  let c1_i32_207 : BitVec 32 := 1#32
  let v703 : BitVec 32 := Scalar.subi arg2 c1_i32_207
  let c0_i32_208 : BitVec 32 := 0#32
  let v704 : BitVec 32 := Scalar.maxsi v703 c0_i32_208
  let c0_i32_221 : BitVec 32 := 0#32
  let v730 : BitVec 1 := Scalar.cmpi .sgt v704 c0_i32_221
  let v731 : BitVec 32 := Scalar.extui v730
  let c0_i32_222 : BitVec 32 := 0#32
  let v732 : BitVec 1 := Scalar.cmpi .slt v704 c0_i32_222
  let v733 : BitVec 32 := Scalar.extui v732
  let v734 : BitVec 32 := Scalar.subi v731 v733
  let c4_i32_220 : BitVec 32 := 4#32
  let c0_i32_223 : BitVec 32 := 0#32
  let v735 : BitVec 1 := Scalar.cmpi .sgt c4_i32_220 c0_i32_223
  let v736 : BitVec 32 := Scalar.extui v735
  let c0_i32_224 : BitVec 32 := 0#32
  let v737 : BitVec 1 := Scalar.cmpi .slt c4_i32_220 c0_i32_224
  let v738 : BitVec 32 := Scalar.extui v737
  let v739 : BitVec 32 := Scalar.subi v736 v738
  let v740 : BitVec 1 := Scalar.cmpi .ne v734 v739
  let v741 : BitVec 32 := Scalar.remsi v704 c4_i32_220
  let c0_i32_225 : BitVec 32 := 0#32
  let v742 : BitVec 1 := Scalar.cmpi .ne v741 c0_i32_225
  let v743 : BitVec 1 := Scalar.andi v740 v742
  let v729 : BitVec 32 := Scalar.divsi v704 c4_i32_220
  let c1_i32_226 : BitVec 32 := 1#32
  let v744 : BitVec 32 := Scalar.subi v729 c1_i32_226
  let v745 : BitVec 32 := Scalar.select v743 v744 v729
  let c4_i32_227 : BitVec 32 := 4#32
  let v746 : BitVec 32 := Scalar.muli v745 c4_i32_227
  let v747 : BitVec 32 := Scalar.subi v704 v746
  let c2_i32_228 : BitVec 32 := 2#32
  let v748 : BitVec 1 := Scalar.cmpi .sge v747 c2_i32_228
  let v749 : BitVec 32 := Scalar.extui v748
  let c0_i32_229 : BitVec 32 := 0#32
  let v750 : BitVec 1 := Scalar.cmpi .ne v749 c0_i32_229
  v750

def k0_mult12 (i : grid0.Coords) : BitVec 32 :=
  let arg2 : BitVec 32 := BitVec.ofNat 32 (i 2).val
  let c1_i32_207 : BitVec 32 := 1#32
  let v703 : BitVec 32 := Scalar.subi arg2 c1_i32_207
  let c0_i32_208 : BitVec 32 := 0#32
  let v704 : BitVec 32 := Scalar.maxsi v703 c0_i32_208
  let c0_i32_221 : BitVec 32 := 0#32
  let v730 : BitVec 1 := Scalar.cmpi .sgt v704 c0_i32_221
  let v731 : BitVec 32 := Scalar.extui v730
  let c0_i32_222 : BitVec 32 := 0#32
  let v732 : BitVec 1 := Scalar.cmpi .slt v704 c0_i32_222
  let v733 : BitVec 32 := Scalar.extui v732
  let v734 : BitVec 32 := Scalar.subi v731 v733
  let c4_i32_220 : BitVec 32 := 4#32
  let c0_i32_223 : BitVec 32 := 0#32
  let v735 : BitVec 1 := Scalar.cmpi .sgt c4_i32_220 c0_i32_223
  let v736 : BitVec 32 := Scalar.extui v735
  let c0_i32_224 : BitVec 32 := 0#32
  let v737 : BitVec 1 := Scalar.cmpi .slt c4_i32_220 c0_i32_224
  let v738 : BitVec 32 := Scalar.extui v737
  let v739 : BitVec 32 := Scalar.subi v736 v738
  let v740 : BitVec 1 := Scalar.cmpi .ne v734 v739
  let v741 : BitVec 32 := Scalar.remsi v704 c4_i32_220
  let c0_i32_225 : BitVec 32 := 0#32
  let v742 : BitVec 1 := Scalar.cmpi .ne v741 c0_i32_225
  let v743 : BitVec 1 := Scalar.andi v740 v742
  let v729 : BitVec 32 := Scalar.divsi v704 c4_i32_220
  let c1_i32_226 : BitVec 32 := 1#32
  let v744 : BitVec 32 := Scalar.subi v729 c1_i32_226
  let v745 : BitVec 32 := Scalar.select v743 v744 v729
  let c4_i32_227 : BitVec 32 := 4#32
  let v746 : BitVec 32 := Scalar.muli v745 c4_i32_227
  let c0_i32_253 : BitVec 32 := 0#32
  let v796 : BitVec 32 := Scalar.addi v746 c0_i32_253
  let c256_i32_254 : BitVec 32 := 256#32
  let v797 : BitVec 32 := Scalar.muli v796 c256_i32_254
  v797
def k0_mult13 (i : grid0.Coords) : BitVec 32 :=
  let arg2 : BitVec 32 := BitVec.ofNat 32 (i 2).val
  let c1_i32_207 : BitVec 32 := 1#32
  let v703 : BitVec 32 := Scalar.subi arg2 c1_i32_207
  let c0_i32_208 : BitVec 32 := 0#32
  let v704 : BitVec 32 := Scalar.maxsi v703 c0_i32_208
  let c0_i32_221 : BitVec 32 := 0#32
  let v730 : BitVec 1 := Scalar.cmpi .sgt v704 c0_i32_221
  let v731 : BitVec 32 := Scalar.extui v730
  let c0_i32_222 : BitVec 32 := 0#32
  let v732 : BitVec 1 := Scalar.cmpi .slt v704 c0_i32_222
  let v733 : BitVec 32 := Scalar.extui v732
  let v734 : BitVec 32 := Scalar.subi v731 v733
  let c4_i32_220 : BitVec 32 := 4#32
  let c0_i32_223 : BitVec 32 := 0#32
  let v735 : BitVec 1 := Scalar.cmpi .sgt c4_i32_220 c0_i32_223
  let v736 : BitVec 32 := Scalar.extui v735
  let c0_i32_224 : BitVec 32 := 0#32
  let v737 : BitVec 1 := Scalar.cmpi .slt c4_i32_220 c0_i32_224
  let v738 : BitVec 32 := Scalar.extui v737
  let v739 : BitVec 32 := Scalar.subi v736 v738
  let v740 : BitVec 1 := Scalar.cmpi .ne v734 v739
  let v741 : BitVec 32 := Scalar.remsi v704 c4_i32_220
  let c0_i32_225 : BitVec 32 := 0#32
  let v742 : BitVec 1 := Scalar.cmpi .ne v741 c0_i32_225
  let v743 : BitVec 1 := Scalar.andi v740 v742
  let v729 : BitVec 32 := Scalar.divsi v704 c4_i32_220
  let c1_i32_226 : BitVec 32 := 1#32
  let v744 : BitVec 32 := Scalar.subi v729 c1_i32_226
  let v745 : BitVec 32 := Scalar.select v743 v744 v729
  let c4_i32_227 : BitVec 32 := 4#32
  let v746 : BitVec 32 := Scalar.muli v745 c4_i32_227
  let c1_i32_255 : BitVec 32 := 1#32
  let v799 : BitVec 32 := Scalar.addi v746 c1_i32_255
  let c256_i32_256 : BitVec 32 := 256#32
  let v800 : BitVec 32 := Scalar.muli v799 c256_i32_256
  v800
def k0_off46 (i : grid0.Coords) (c0_i32_253 : BitVec 32) : Fin 3 → Nat :=
  let c0_257 : Index := 0#32
  let arg2 : BitVec 32 := BitVec.ofNat 32 (i 2).val
  let c1_i32_207 : BitVec 32 := 1#32
  let v703 : BitVec 32 := Scalar.subi arg2 c1_i32_207
  let c0_i32_208 : BitVec 32 := 0#32
  let v704 : BitVec 32 := Scalar.maxsi v703 c0_i32_208
  let c0_i32_221 : BitVec 32 := 0#32
  let v730 : BitVec 1 := Scalar.cmpi .sgt v704 c0_i32_221
  let v731 : BitVec 32 := Scalar.extui v730
  let c0_i32_222 : BitVec 32 := 0#32
  let v732 : BitVec 1 := Scalar.cmpi .slt v704 c0_i32_222
  let v733 : BitVec 32 := Scalar.extui v732
  let v734 : BitVec 32 := Scalar.subi v731 v733
  let c4_i32_220 : BitVec 32 := 4#32
  let c0_i32_223 : BitVec 32 := 0#32
  let v735 : BitVec 1 := Scalar.cmpi .sgt c4_i32_220 c0_i32_223
  let v736 : BitVec 32 := Scalar.extui v735
  let c0_i32_224 : BitVec 32 := 0#32
  let v737 : BitVec 1 := Scalar.cmpi .slt c4_i32_220 c0_i32_224
  let v738 : BitVec 32 := Scalar.extui v737
  let v739 : BitVec 32 := Scalar.subi v736 v738
  let v740 : BitVec 1 := Scalar.cmpi .ne v734 v739
  let v741 : BitVec 32 := Scalar.remsi v704 c4_i32_220
  let c0_i32_225 : BitVec 32 := 0#32
  let v742 : BitVec 1 := Scalar.cmpi .ne v741 c0_i32_225
  let v743 : BitVec 1 := Scalar.andi v740 v742
  let v729 : BitVec 32 := Scalar.divsi v704 c4_i32_220
  let c1_i32_226 : BitVec 32 := 1#32
  let v744 : BitVec 32 := Scalar.subi v729 c1_i32_226
  let v745 : BitVec 32 := Scalar.select v743 v744 v729
  let c4_i32_227 : BitVec 32 := 4#32
  let v746 : BitVec 32 := Scalar.muli v745 c4_i32_227
  let v796 : BitVec 32 := Scalar.addi v746 c0_i32_253
  let c256_i32_254 : BitVec 32 := 256#32
  let v797 : BitVec 32 := Scalar.muli v796 c256_i32_254
  let v798 : BitVec 32 := v797
  let v802 : Index := Scalar.indexCast v798
  let c0_258 : Index := 0#32
  ![0, v802.toNat, 0]
def k0_off47 (i : grid0.Coords) (c0_i32_253 : BitVec 32) : Fin 3 → Nat :=
  let c1_260 : Index := 1#32
  let arg2 : BitVec 32 := BitVec.ofNat 32 (i 2).val
  let c1_i32_207 : BitVec 32 := 1#32
  let v703 : BitVec 32 := Scalar.subi arg2 c1_i32_207
  let c0_i32_208 : BitVec 32 := 0#32
  let v704 : BitVec 32 := Scalar.maxsi v703 c0_i32_208
  let c0_i32_221 : BitVec 32 := 0#32
  let v730 : BitVec 1 := Scalar.cmpi .sgt v704 c0_i32_221
  let v731 : BitVec 32 := Scalar.extui v730
  let c0_i32_222 : BitVec 32 := 0#32
  let v732 : BitVec 1 := Scalar.cmpi .slt v704 c0_i32_222
  let v733 : BitVec 32 := Scalar.extui v732
  let v734 : BitVec 32 := Scalar.subi v731 v733
  let c4_i32_220 : BitVec 32 := 4#32
  let c0_i32_223 : BitVec 32 := 0#32
  let v735 : BitVec 1 := Scalar.cmpi .sgt c4_i32_220 c0_i32_223
  let v736 : BitVec 32 := Scalar.extui v735
  let c0_i32_224 : BitVec 32 := 0#32
  let v737 : BitVec 1 := Scalar.cmpi .slt c4_i32_220 c0_i32_224
  let v738 : BitVec 32 := Scalar.extui v737
  let v739 : BitVec 32 := Scalar.subi v736 v738
  let v740 : BitVec 1 := Scalar.cmpi .ne v734 v739
  let v741 : BitVec 32 := Scalar.remsi v704 c4_i32_220
  let c0_i32_225 : BitVec 32 := 0#32
  let v742 : BitVec 1 := Scalar.cmpi .ne v741 c0_i32_225
  let v743 : BitVec 1 := Scalar.andi v740 v742
  let v729 : BitVec 32 := Scalar.divsi v704 c4_i32_220
  let c1_i32_226 : BitVec 32 := 1#32
  let v744 : BitVec 32 := Scalar.subi v729 c1_i32_226
  let v745 : BitVec 32 := Scalar.select v743 v744 v729
  let c4_i32_227 : BitVec 32 := 4#32
  let v746 : BitVec 32 := Scalar.muli v745 c4_i32_227
  let v796 : BitVec 32 := Scalar.addi v746 c0_i32_253
  let c256_i32_254 : BitVec 32 := 256#32
  let v797 : BitVec 32 := Scalar.muli v796 c256_i32_254
  let v798 : BitVec 32 := v797
  let v806 : Index := Scalar.indexCast v798
  let c0_261 : Index := 0#32
  ![1, v806.toNat, 0]
def k0_cond4 (i : grid0.Coords) : BitVec 1 :=
  let arg2 : BitVec 32 := BitVec.ofNat 32 (i 2).val
  let c1_i32_207 : BitVec 32 := 1#32
  let v703 : BitVec 32 := Scalar.subi arg2 c1_i32_207
  let c0_i32_208 : BitVec 32 := 0#32
  let v704 : BitVec 32 := Scalar.maxsi v703 c0_i32_208
  let c0_i32_221 : BitVec 32 := 0#32
  let v730 : BitVec 1 := Scalar.cmpi .sgt v704 c0_i32_221
  let v731 : BitVec 32 := Scalar.extui v730
  let c0_i32_222 : BitVec 32 := 0#32
  let v732 : BitVec 1 := Scalar.cmpi .slt v704 c0_i32_222
  let v733 : BitVec 32 := Scalar.extui v732
  let v734 : BitVec 32 := Scalar.subi v731 v733
  let c4_i32_220 : BitVec 32 := 4#32
  let c0_i32_223 : BitVec 32 := 0#32
  let v735 : BitVec 1 := Scalar.cmpi .sgt c4_i32_220 c0_i32_223
  let v736 : BitVec 32 := Scalar.extui v735
  let c0_i32_224 : BitVec 32 := 0#32
  let v737 : BitVec 1 := Scalar.cmpi .slt c4_i32_220 c0_i32_224
  let v738 : BitVec 32 := Scalar.extui v737
  let v739 : BitVec 32 := Scalar.subi v736 v738
  let v740 : BitVec 1 := Scalar.cmpi .ne v734 v739
  let v741 : BitVec 32 := Scalar.remsi v704 c4_i32_220
  let c0_i32_225 : BitVec 32 := 0#32
  let v742 : BitVec 1 := Scalar.cmpi .ne v741 c0_i32_225
  let v743 : BitVec 1 := Scalar.andi v740 v742
  let v729 : BitVec 32 := Scalar.divsi v704 c4_i32_220
  let c1_i32_226 : BitVec 32 := 1#32
  let v744 : BitVec 32 := Scalar.subi v729 c1_i32_226
  let v745 : BitVec 32 := Scalar.select v743 v744 v729
  let c4_i32_227 : BitVec 32 := 4#32
  let v746 : BitVec 32 := Scalar.muli v745 c4_i32_227
  let v747 : BitVec 32 := Scalar.subi v704 v746
  let c2_i32_232 : BitVec 32 := 2#32
  let c0_i32_233 : BitVec 32 := 0#32
  let v754 : BitVec 1 := Scalar.cmpi .eq c2_i32_232 c0_i32_233
  let c1_i32_234 : BitVec 32 := 1#32
  let v755 : BitVec 32 := Scalar.select v754 c1_i32_234 c2_i32_232
  let v756 : BitVec 32 := Scalar.remsi v747 v755
  let c0_i32_236 : BitVec 32 := 0#32
  let v758 : BitVec 1 := Scalar.cmpi .slt v756 c0_i32_236
  let c0_i32_237 : BitVec 32 := 0#32
  let v759 : BitVec 1 := Scalar.cmpi .slt v755 c0_i32_237
  let v760 : BitVec 1 := Scalar.xori v758 v759
  let c0_i32_235 : BitVec 32 := 0#32
  let v757 : BitVec 1 := Scalar.cmpi .ne v756 c0_i32_235
  let v761 : BitVec 1 := Scalar.andi v760 v757
  let v762 : BitVec 32 := Scalar.addi v756 v755
  let v763 : BitVec 32 := Scalar.select v761 v762 v756
  let c1_i32_238 : BitVec 32 := 1#32
  let v764 : BitVec 1 := Scalar.cmpi .eq v763 c1_i32_238
  let v765 : BitVec 32 := Scalar.extui v764
  let c0_i32_239 : BitVec 32 := 0#32
  let v766 : BitVec 1 := Scalar.cmpi .ne v765 c0_i32_239
  v766

def k0_mult14 (i : grid0.Coords) : BitVec 32 :=
  let arg2 : BitVec 32 := BitVec.ofNat 32 (i 2).val
  let c1_i32_207 : BitVec 32 := 1#32
  let v703 : BitVec 32 := Scalar.subi arg2 c1_i32_207
  let c0_i32_208 : BitVec 32 := 0#32
  let v704 : BitVec 32 := Scalar.maxsi v703 c0_i32_208
  let c1_i32_230 : BitVec 32 := 1#32
  let v752 : BitVec 32 := Scalar.subi v704 c1_i32_230
  let c0_i32_231 : BitVec 32 := 0#32
  let v753 : BitVec 32 := Scalar.maxsi v752 c0_i32_231
  let c0_i32_253 : BitVec 32 := 0#32
  let v796 : BitVec 32 := Scalar.addi v753 c0_i32_253
  let c256_i32_254 : BitVec 32 := 256#32
  let v797 : BitVec 32 := Scalar.muli v796 c256_i32_254
  v797
def k0_off48 (i : grid0.Coords) : Fin 3 → Nat :=
  let c0_255 : Index := 0#32
  let arg2 : BitVec 32 := BitVec.ofNat 32 (i 2).val
  let c1_i32_207 : BitVec 32 := 1#32
  let v703 : BitVec 32 := Scalar.subi arg2 c1_i32_207
  let c0_i32_208 : BitVec 32 := 0#32
  let v704 : BitVec 32 := Scalar.maxsi v703 c0_i32_208
  let c1_i32_230 : BitVec 32 := 1#32
  let v752 : BitVec 32 := Scalar.subi v704 c1_i32_230
  let c0_i32_231 : BitVec 32 := 0#32
  let v753 : BitVec 32 := Scalar.maxsi v752 c0_i32_231
  let c0_i32_253 : BitVec 32 := 0#32
  let v796 : BitVec 32 := Scalar.addi v753 c0_i32_253
  let c256_i32_254 : BitVec 32 := 256#32
  let v797 : BitVec 32 := Scalar.muli v796 c256_i32_254
  let v798 : BitVec 32 := v797
  let v799 : Index := Scalar.indexCast v798
  let c0_256 : Index := 0#32
  ![0, v799.toNat, 0]
def k0_off49 (i : grid0.Coords) : Fin 3 → Nat :=
  let c1_258 : Index := 1#32
  let arg2 : BitVec 32 := BitVec.ofNat 32 (i 2).val
  let c1_i32_207 : BitVec 32 := 1#32
  let v703 : BitVec 32 := Scalar.subi arg2 c1_i32_207
  let c0_i32_208 : BitVec 32 := 0#32
  let v704 : BitVec 32 := Scalar.maxsi v703 c0_i32_208
  let c1_i32_230 : BitVec 32 := 1#32
  let v752 : BitVec 32 := Scalar.subi v704 c1_i32_230
  let c0_i32_231 : BitVec 32 := 0#32
  let v753 : BitVec 32 := Scalar.maxsi v752 c0_i32_231
  let c0_i32_253 : BitVec 32 := 0#32
  let v796 : BitVec 32 := Scalar.addi v753 c0_i32_253
  let c256_i32_254 : BitVec 32 := 256#32
  let v797 : BitVec 32 := Scalar.muli v796 c256_i32_254
  let v798 : BitVec 32 := v797
  let v803 : Index := Scalar.indexCast v798
  let c0_259 : Index := 0#32
  ![1, v803.toNat, 0]
def k0_off50 (i : grid0.Coords) : Fin 3 → Nat :=
  let c0_253 : Index := 0#32
  let arg2 : BitVec 32 := BitVec.ofNat 32 (i 2).val
  let c256_i32 : BitVec 32 := 256#32
  let v17 : BitVec 32 := Scalar.muli arg2 c256_i32
  let v18 : BitVec 32 := v17
  let v798 : Index := Scalar.indexCast v18
  let c0_254 : Index := 0#32
  ![0, v798.toNat, 0]
def k0_off51 (i : grid0.Coords) : Fin 3 → Nat :=
  let c1_261 : Index := 1#32
  let arg2 : BitVec 32 := BitVec.ofNat 32 (i 2).val
  let c256_i32 : BitVec 32 := 256#32
  let v17 : BitVec 32 := Scalar.muli arg2 c256_i32
  let v18 : BitVec 32 := v17
  let v817 : Index := Scalar.indexCast v18
  let c0_262 : Index := 0#32
  ![1, v817.toNat, 0]
@[reducible] def k0_t4_loop (i : grid0.Coords) : Scf.Loop 32 :=
  let c0_i32_269 : BitVec 32 := 0#32
  let arg2 : BitVec 32 := BitVec.ofNat 32 (i 2).val
  let v834 : BitVec 32 := Scalar.subi arg2 c0_i32_269
  let c1_i32_270 : BitVec 32 := 1#32
  let v836 : BitVec 32 := Scalar.divsi v834 c1_i32_270
  let v837 : BitVec 32 := Scalar.muli v836 c1_i32_270
  let v838 : BitVec 32 := Scalar.addi c0_i32_269 v837
  let c1_i32_271 : BitVec 32 := 1#32
  ⟨c0_i32_269, v838, c1_i32_271⟩
def k0_mult15 (i : grid0.Coords) (k0_t4 : Fin (k0_t4_loop i).trips) : BitVec 32 :=
  let c0_i32_269 : BitVec 32 := 0#32
  let c1_i32_271 : BitVec 32 := 1#32
  let arg18 : BitVec 32 := Scf.iv c0_i32_269 c1_i32_271 k0_t4
  let c256_i32_275 : BitVec 32 := 256#32
  let v848 : BitVec 32 := Scalar.muli arg18 c256_i32_275
  v848
def k0_off52 (i : grid0.Coords) (k0_t4 : Fin (k0_t4_loop i).trips) : Fin 3 → Nat :=
  let c0_276 : Index := 0#32
  let c0_i32_269 : BitVec 32 := 0#32
  let c1_i32_271 : BitVec 32 := 1#32
  let arg18 : BitVec 32 := Scf.iv c0_i32_269 c1_i32_271 k0_t4
  let c256_i32_275 : BitVec 32 := 256#32
  let v848 : BitVec 32 := Scalar.muli arg18 c256_i32_275
  let v849 : BitVec 32 := v848
  let v851 : Index := Scalar.indexCast v849
  let c0_277 : Index := 0#32
  ![0, v851.toNat, 0]
def k0_off53 (i : grid0.Coords) (k0_t4 : Fin (k0_t4_loop i).trips) : Fin 3 → Nat :=
  let c1_285 : Index := 1#32
  let c0_i32_269 : BitVec 32 := 0#32
  let c1_i32_271 : BitVec 32 := 1#32
  let arg18 : BitVec 32 := Scf.iv c0_i32_269 c1_i32_271 k0_t4
  let c256_i32_275 : BitVec 32 := 256#32
  let v848 : BitVec 32 := Scalar.muli arg18 c256_i32_275
  let v849 : BitVec 32 := v848
  let v877 : Index := Scalar.indexCast v849
  let c0_286 : Index := 0#32
  ![1, v877.toNat, 0]
@[reducible] def k0_t5_loop (i : grid0.Coords) : Scf.Loop 32 :=
  let c0_i32_269 : BitVec 32 := 0#32
  let arg2 : BitVec 32 := BitVec.ofNat 32 (i 2).val
  let v834 : BitVec 32 := Scalar.subi arg2 c0_i32_269
  let c1_i32_270 : BitVec 32 := 1#32
  let v836 : BitVec 32 := Scalar.divsi v834 c1_i32_270
  let v837 : BitVec 32 := Scalar.muli v836 c1_i32_270
  let v838 : BitVec 32 := Scalar.addi c0_i32_269 v837
  let v835 : BitVec 32 := Scalar.addi c0_i32_269 v834
  let c1_i32_272 : BitVec 32 := 1#32
  ⟨v838, v835, c1_i32_272⟩
def k0_mult16 (i : grid0.Coords) (k0_t5 : Fin (k0_t5_loop i).trips) : BitVec 32 :=
  let c0_i32_269 : BitVec 32 := 0#32
  let arg2 : BitVec 32 := BitVec.ofNat 32 (i 2).val
  let v834 : BitVec 32 := Scalar.subi arg2 c0_i32_269
  let c1_i32_270 : BitVec 32 := 1#32
  let v836 : BitVec 32 := Scalar.divsi v834 c1_i32_270
  let v837 : BitVec 32 := Scalar.muli v836 c1_i32_270
  let v838 : BitVec 32 := Scalar.addi c0_i32_269 v837
  let c1_i32_272 : BitVec 32 := 1#32
  let arg18 : BitVec 32 := Scf.iv v838 c1_i32_272 k0_t5
  let c256_i32_275 : BitVec 32 := 256#32
  let v848 : BitVec 32 := Scalar.muli arg18 c256_i32_275
  v848
def k0_off54 (i : grid0.Coords) (k0_t5 : Fin (k0_t5_loop i).trips) : Fin 3 → Nat :=
  let c0_276 : Index := 0#32
  let c0_i32_269 : BitVec 32 := 0#32
  let arg2 : BitVec 32 := BitVec.ofNat 32 (i 2).val
  let v834 : BitVec 32 := Scalar.subi arg2 c0_i32_269
  let c1_i32_270 : BitVec 32 := 1#32
  let v836 : BitVec 32 := Scalar.divsi v834 c1_i32_270
  let v837 : BitVec 32 := Scalar.muli v836 c1_i32_270
  let v838 : BitVec 32 := Scalar.addi c0_i32_269 v837
  let c1_i32_272 : BitVec 32 := 1#32
  let arg18 : BitVec 32 := Scf.iv v838 c1_i32_272 k0_t5
  let c256_i32_275 : BitVec 32 := 256#32
  let v848 : BitVec 32 := Scalar.muli arg18 c256_i32_275
  let v849 : BitVec 32 := v848
  let v851 : Index := Scalar.indexCast v849
  let c0_277 : Index := 0#32
  ![0, v851.toNat, 0]
def k0_off55 (i : grid0.Coords) (k0_t5 : Fin (k0_t5_loop i).trips) : Fin 3 → Nat :=
  let c1_285 : Index := 1#32
  let c0_i32_269 : BitVec 32 := 0#32
  let arg2 : BitVec 32 := BitVec.ofNat 32 (i 2).val
  let v834 : BitVec 32 := Scalar.subi arg2 c0_i32_269
  let c1_i32_270 : BitVec 32 := 1#32
  let v836 : BitVec 32 := Scalar.divsi v834 c1_i32_270
  let v837 : BitVec 32 := Scalar.muli v836 c1_i32_270
  let v838 : BitVec 32 := Scalar.addi c0_i32_269 v837
  let c1_i32_272 : BitVec 32 := 1#32
  let arg18 : BitVec 32 := Scf.iv v838 c1_i32_272 k0_t5
  let c256_i32_275 : BitVec 32 := 256#32
  let v848 : BitVec 32 := Scalar.muli arg18 c256_i32_275
  let v849 : BitVec 32 := v848
  let v877 : Index := Scalar.indexCast v849
  let c0_286 : Index := 0#32
  ![1, v877.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg2
  let c0_i32 : BitVec 32 := 0#32
  ![v1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg2
  let c0_i32 : BitVec 32 := 0#32
  ![v1.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S256x256 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S256x256 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .smem S8x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== KernelIdeal.lean ====
variable {F : FTy → Type} [FloatOps F] [Named F]
def κ : String → Option EReal := fun
  | "mask" => some ⊥
  | _ => none
-- ==== Ffn.lean ====
abbrev S8x4096x1024 : Shape := ⟨3, ![8, 4096, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S32768x1024 : Shape := ⟨2, ![32768, 1024]⟩
abbrev S1024x2816 : Shape := ⟨2, ![1024, 2816]⟩
abbrev S1024x11x256 : Shape := ⟨3, ![1024, 11, 256]⟩
abbrev S11x1024x256 : Shape := ⟨3, ![11, 1024, 256]⟩
abbrev S3x2816 : Shape := ⟨2, ![3, 2816]⟩
abbrev S3x11x256 : Shape := ⟨3, ![3, 11, 256]⟩
abbrev S11x3x256 : Shape := ⟨3, ![11, 3, 256]⟩
abbrev S2816 : Shape := ⟨1, ![2816]⟩
abbrev S1x2816 : Shape := ⟨2, ![1, 2816]⟩
abbrev S1x11x256 : Shape := ⟨3, ![1, 11, 256]⟩
abbrev S11x1x256 : Shape := ⟨3, ![11, 1, 256]⟩
abbrev S11x256x1024 : Shape := ⟨3, ![11, 256, 1024]⟩
abbrev S1x1024 : Shape := ⟨2, ![1, 1024]⟩
abbrev S512x1024 : Shape := ⟨2, ![512, 1024]⟩
abbrev S16x1024 : Shape := ⟨2, ![16, 1024]⟩
abbrev S512 : Shape := ⟨1, ![512]⟩
abbrev S512x1 : Shape := ⟨2, ![512, 1]⟩
abbrev S16 : Shape := ⟨1, ![16]⟩
abbrev S16x1 : Shape := ⟨2, ![16, 1]⟩
abbrev S1x1024x256 : Shape := ⟨3, ![1, 1024, 256]⟩
abbrev S1024x256 : Shape := ⟨2, ![1024, 256]⟩
abbrev S512x256 : Shape := ⟨2, ![512, 256]⟩
abbrev S16x256 : Shape := ⟨2, ![16, 256]⟩
abbrev S1x3x256 : Shape := ⟨3, ![1, 3, 256]⟩
abbrev S3x256 : Shape := ⟨2, ![3, 256]⟩
abbrev S1x1x256 : Shape := ⟨3, ![1, 1, 256]⟩
abbrev S1x256 : Shape := ⟨2, ![1, 256]⟩
abbrev S8x256 : Shape := ⟨2, ![8, 256]⟩
abbrev S504x256 : Shape := ⟨2, ![504, 256]⟩
abbrev S1x256x1024 : Shape := ⟨3, ![1, 256, 1024]⟩
abbrev S256x1024 : Shape := ⟨2, ![256, 1024]⟩

abbrev nBuf : Space → Nat
  | .hbm => 33
  | .vmem => 14
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S32768x1024, .f32⟩
  | .hbm, ⟨7, _⟩ => ⟨S1024x2816, .f32⟩
  | .hbm, ⟨8, _⟩ => ⟨S1024x2816, .bf16⟩
  | .hbm, ⟨9, _⟩ => ⟨S1024x11x256, .bf16⟩
  | .hbm, ⟨10, _⟩ => ⟨S11x1024x256, .bf16⟩
  | .hbm, ⟨11, _⟩ => ⟨S1024x2816, .f32⟩
  | .hbm, ⟨12, _⟩ => ⟨S1024x2816, .bf16⟩
  | .hbm, ⟨13, _⟩ => ⟨S1024x11x256, .bf16⟩
  | .hbm, ⟨14, _⟩ => ⟨S11x1024x256, .bf16⟩
  | .hbm, ⟨15, _⟩ => ⟨S3x2816, .f32⟩
  | .hbm, ⟨16, _⟩ => ⟨S3x11x256, .f32⟩
  | .hbm, ⟨17, _⟩ => ⟨S11x3x256, .f32⟩
  | .hbm, ⟨18, _⟩ => ⟨S3x2816, .f32⟩
  | .hbm, ⟨19, _⟩ => ⟨S3x11x256, .f32⟩
  | .hbm, ⟨20, _⟩ => ⟨S11x3x256, .f32⟩
  | .hbm, ⟨21, _⟩ => ⟨S2816, .f32⟩
  | .hbm, ⟨22, _⟩ => ⟨S1x2816, .f32⟩
  | .hbm, ⟨23, _⟩ => ⟨S1x11x256, .f32⟩
  | .hbm, ⟨24, _⟩ => ⟨S11x1x256, .f32⟩
  | .hbm, ⟨25, _⟩ => ⟨S2816, .f32⟩
  | .hbm, ⟨26, _⟩ => ⟨S1x2816, .f32⟩
  | .hbm, ⟨27, _⟩ => ⟨S1x11x256, .f32⟩
  | .hbm, ⟨28, _⟩ => ⟨S11x1x256, .f32⟩
  | .hbm, ⟨29, _⟩ => ⟨S2816x1024, .bf16⟩
  | .hbm, ⟨30, _⟩ => ⟨S11x256x1024, .bf16⟩
  | .hbm, ⟨31, _⟩ => ⟨S1x1024, .f32⟩
  | .hbm, ⟨32, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S1x1024, .f32⟩
  | .local _ .vmem, ⟨5, _⟩ => ⟨S11x1024x256, .bf16⟩
  | .local _ .vmem, ⟨6, _⟩ => ⟨S11x1024x256, .bf16⟩
  | .local _ .vmem, ⟨7, _⟩ => ⟨S11x3x256, .f32⟩
  | .local _ .vmem, ⟨8, _⟩ => ⟨S11x3x256, .f32⟩
  | .local _ .vmem, ⟨9, _⟩ => ⟨S11x1x256, .f32⟩
  | .local _ .vmem, ⟨10, _⟩ => ⟨S11x1x256, .f32⟩
  | .local _ .vmem, ⟨11, _⟩ => ⟨S11x256x1024, .bf16⟩
  | .local _ .vmem, ⟨12, _⟩ => ⟨S512x1024, .f32⟩
  | .local _ .vmem, ⟨13, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S11x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S11x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S11x3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S11x3x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S11x1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S11x1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S11x256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== FfnRefIdeal.lean ====
abbrev S8x4096x1024 : Shape := ⟨3, ![8, 4096, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4098x5632 : Shape := ⟨3, ![8, 4098, 5632]⟩
abbrev S1x5632 : Shape := ⟨2, ![1, 5632]⟩
abbrev S1x1x5632 : Shape := ⟨3, ![1, 1, 5632]⟩
abbrev S8x4096x2816 : Shape := ⟨3, ![8, 4096, 2816]⟩
abbrev S32768x1024 : Shape := ⟨2, ![32768, 1024]⟩

abbrev nBuf : Space → Nat
  | .hbm => 67
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S8x4096x1024, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x1024, .f32⟩
  | .hbm, ⟨18, _⟩ => ⟨S8x4096x1024, .f32⟩
  | .hbm, ⟨19, _⟩ => ⟨S1x1x1024, .f32⟩
  | .hbm, ⟨20, _⟩ => ⟨S8x4096x1024, .f32⟩
  | .hbm, ⟨21, _⟩ => ⟨S8x4096x1024, .f32⟩
  | .hbm, ⟨22, _⟩ => ⟨S8x4096x5632, .f32⟩
  | .hbm, ⟨23, _⟩ => ⟨S_, .i32⟩
  | .hbm, ⟨24, _⟩ => ⟨S_, .f32⟩
  | .hbm, ⟨25, _⟩ => ⟨S8x4098x5632, .f32⟩
  | .hbm, ⟨26, _⟩ => ⟨S1x5632, .f32⟩
  | .hbm, ⟨27, _⟩ => ⟨S5632, .f32⟩
  | .hbm, ⟨28, _⟩ => ⟨S8x4096x5632, .f32⟩
  | .hbm, ⟨29, _⟩ => ⟨S1x1x5632, .f32⟩
  | .hbm, ⟨30, _⟩ => ⟨S8x4096x5632, .f32⟩
  | .hbm, ⟨31, _⟩ => ⟨S8x4096x5632, .f32⟩
  | .hbm, ⟨32, _⟩ => ⟨S_, .f32⟩
  | .hbm, ⟨33, _⟩ => ⟨S8x4096x5632, .f32⟩
  | .hbm, ⟨34, _⟩ => ⟨S8x4096x5632, .f32⟩
  | .hbm, ⟨35, _⟩ => ⟨S1x5632, .f32⟩
  | .hbm, ⟨36, _⟩ => ⟨S5632, .f32⟩
  | .hbm, ⟨37, _⟩ => ⟨S8x4096x5632, .f32⟩
  | .hbm, ⟨38, _⟩ => ⟨S1x1x5632, .f32⟩
  | .hbm, ⟨39, _⟩ => ⟨S8x4096x5632, .f32⟩
  | .hbm, ⟨40, _⟩ => ⟨S8x4096x5632, .f32⟩
  | .hbm, ⟨41, _⟩ => ⟨S8x4096x5632, .f32⟩
  | .hbm, ⟨42, _⟩ => ⟨S1x5632, .f32⟩
  | .hbm, ⟨43, _⟩ => ⟨S5632, .f32⟩
  | .hbm, ⟨44, _⟩ => ⟨S8x4096x5632, .f32⟩
  | .hbm, ⟨45, _⟩ => ⟨S1x1x5632, .f32⟩
  | .hbm, ⟨46, _⟩ => ⟨S8x4096x5632, .f32⟩
  | .hbm, ⟨47, _⟩ => ⟨S8x4096x5632, .f32⟩
  | .hbm, ⟨48, _⟩ => ⟨S8x4096x5632, .f32⟩
  | .hbm, ⟨49, _⟩ => ⟨S1x1x5632, .f32⟩
  | .hbm, ⟨50, _⟩ => ⟨S8x4096x5632, .f32⟩
  | .hbm, ⟨51, _⟩ => ⟨S8x4096x5632, .f32⟩
  | .hbm, ⟨52, _⟩ => ⟨S8x4096x2816, .f32⟩
  | .hbm, ⟨53, _⟩ => ⟨S8x4096x2816, .f32⟩
  | .hbm, ⟨54, _⟩ => ⟨S8x4096x2816, .f32⟩
  | .hbm, ⟨55, _⟩ => ⟨S8x4096x2816, .f32⟩
  | .hbm, ⟨56, _⟩ => ⟨S_, .f32⟩
  | .hbm, ⟨57, _⟩ => ⟨S8x4096x2816, .f32⟩
  | .hbm, ⟨58, _⟩ => ⟨S8x4096x2816, .f32⟩
  | .hbm, ⟨59, _⟩ => ⟨S_, .f32⟩
  | .hbm, ⟨60, _⟩ => ⟨S8x4096x2816, .f32⟩
  | .hbm, ⟨61, _⟩ => ⟨S8x4096x2816, .f32⟩
  | .hbm, ⟨62, _⟩ => ⟨S8x4096x2816, .f32⟩
  | .hbm, ⟨63, _⟩ => ⟨S8x4096x2816, .f32⟩
  | .hbm, ⟨64, _⟩ => ⟨S8x4096x1024, .f32⟩
  | .hbm, ⟨65, _⟩ => ⟨S8x4096x1024, .f32⟩
  | .hbm, ⟨66, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_call1_v0 : Ref sig .tc := ⟨.hbm, 54, rfl⟩
abbrev main_call1_v1 : Ref sig .tc := ⟨.hbm, 55, rfl⟩
abbrev main_call1_cst : Ref sig .tc := ⟨.hbm, 56, rfl⟩
abbrev main_call1_v2 : Ref sig .tc := ⟨.hbm, 57, rfl⟩
abbrev main_call1_v3 : Ref sig .tc := ⟨.hbm, 58, rfl⟩
abbrev main_call1_cst_0 : Ref sig .tc := ⟨.hbm, 59, rfl⟩
abbrev main_call1_v4 : Ref sig .tc := ⟨.hbm, 60, rfl⟩
abbrev main_call1_v5 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]
-- ==== Inproj.lean ====
abbrev S8x4096x1024 : Shape := ⟨3, ![8, 4096, 1024]⟩
abbrev S1024 : Shape := ⟨1, ![1024]⟩
abbrev S1024x3592 : Shape := ⟨2, ![1024, 3592]⟩
abbrev S32768x1024 : Shape := ⟨2, ![32768, 1024]⟩
abbrev S1024x3584 : Shape := ⟨2, ![1024, 3584]⟩
abbrev S_ : Shape := ⟨0, ![]⟩
abbrev S1024x128 : Shape := ⟨2, ![1024, 128]⟩
abbrev S1024x8 : Shape := ⟨2, ![1024, 8]⟩
abbrev S1 : Shape := ⟨1, ![1]⟩
abbrev S1x1024 : Shape := ⟨2, ![1, 1024]⟩
abbrev S32768x1536 : Shape := ⟨2, ![32768, 1536]⟩
abbrev S32768x128 : Shape := ⟨2, ![32768, 128]⟩
abbrev S1024x1024 : Shape := ⟨2, ![1024, 1024]⟩
abbrev S1024x1536 : Shape := ⟨2, ![1024, 1536]⟩
abbrev S1024x1 : Shape := ⟨2, ![1024, 1]⟩
abbrev S1024x512 : Shape := ⟨2, ![1024, 512]⟩

abbrev nBuf : Space → Nat
  | .hbm => 17
  | .vmem => 13
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x3592, .f32⟩
  | .hbm, ⟨3, _⟩ => ⟨S32768x1024, .f32⟩
  | .hbm, ⟨4, _⟩ => ⟨S1024x3584, .f32⟩
  | .hbm, ⟨5, _⟩ => ⟨S1024x3584, .bf16⟩
  | .hbm, ⟨6, _⟩ => ⟨S_, .f32⟩
  | .hbm, ⟨7, _⟩ => ⟨S1024x128, .f32⟩
  | .hbm, ⟨8, _⟩ => ⟨S1024x8, .f32⟩
  | .hbm, ⟨9, _⟩ => ⟨S_, .i32⟩
  | .hbm, ⟨10, _⟩ => ⟨S1, .i32⟩
  | .hbm, ⟨11, _⟩ => ⟨S1024x128, .f32⟩
  | .hbm, ⟨12, _⟩ => ⟨S1x1024, .f32⟩
  | .hbm, ⟨13, _⟩ => ⟨S32768x1024, .bf16⟩
  | .hbm, ⟨14, _⟩ => ⟨S32768x1536, .bf16⟩
  | .hbm, ⟨15, _⟩ => ⟨S32768x1024, .bf16⟩
  | .hbm, ⟨16, _⟩ => ⟨S32768x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3584, .bf16⟩
  | .local _ .vmem, ⟨4, _⟩ => ⟨S1024x128, .f32⟩
  | .local _ .vmem, ⟨5, _⟩ => ⟨S1024x1024, .bf16⟩
  | .local _ .vmem, ⟨6, _⟩ => ⟨S1024x1024, .bf16⟩
  | .local _ .vmem, ⟨7, _⟩ => ⟨S1024x1536, .bf16⟩
  | .local _ .vmem, ⟨8, _⟩ => ⟨S1024x1536, .bf16⟩
  | .local _ .vmem, ⟨9, _⟩ => ⟨S1024x1024, .bf16⟩
  | .local _ .vmem, ⟨10, _⟩ => ⟨S1024x1024, .bf16⟩
  | .local _ .vmem, ⟨11, _⟩ => ⟨S1024x128, .f32⟩
  | .local _ .vmem, ⟨12, _⟩ => ⟨S1024x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== InprojRefIdeal.lean ====
abbrev S8x4096x1024 : Shape := ⟨3, ![8, 4096, 1024]⟩
abbrev S1024 : Shape := ⟨1, ![1024]⟩
abbrev S1024x3592 : Shape := ⟨2, ![1024, 3592]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x3592 : Shape := ⟨3, ![8, 4096, 3592]⟩
abbrev S32768x3592 : Shape := ⟨2, ![32768, 3592]⟩
abbrev S32768x1024 : Shape := ⟨2, ![32768, 1024]⟩
abbrev S32768x1536 : Shape := ⟨2, ![32768, 1536]⟩
abbrev S32768x8 : Shape := ⟨2, ![32768, 8]⟩
abbrev S32768x128 : Shape := ⟨2, ![32768, 128]⟩

abbrev nBuf : Space → Nat
  | .hbm => 31
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x3592, .f32⟩
  | .hbm, ⟨3, _⟩ => ⟨S8x4096x1024, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x1024, .f32⟩
  | .hbm, ⟨15, _⟩ => ⟨S8x4096x1024, .f32⟩
  | .hbm, ⟨16, _⟩ => ⟨S1x1x1024, .f32⟩
  | .hbm, ⟨17, _⟩ => ⟨S8x4096x1024, .f32⟩
  | .hbm, ⟨18, _⟩ => ⟨S8x4096x1024, .f32⟩
  | .hbm, ⟨19, _⟩ => ⟨S8x4096x3592, .f32⟩
  | .hbm, ⟨20, _⟩ => ⟨S32768x3592, .f32⟩
  | .hbm, ⟨21, _⟩ => ⟨S32768x1024, .f32⟩
  | .hbm, ⟨22, _⟩ => ⟨S32768x1536, .f32⟩
  | .hbm, ⟨23, _⟩ => ⟨S32768x1024, .f32⟩
  | .hbm, ⟨24, _⟩ => ⟨S32768x8, .f32⟩
  | .hbm, ⟨25, _⟩ => ⟨S32768x1024, .bf16⟩
  | .hbm, ⟨26, _⟩ => ⟨S32768x1536, .bf16⟩
  | .hbm, ⟨27, _⟩ => ⟨S32768x1024, .bf16⟩
  | .hbm, ⟨28, _⟩ => ⟨S_, .i32⟩
  | .hbm, ⟨29, _⟩ => ⟨S_, .f32⟩
  | .hbm, ⟨30, _⟩ => ⟨S32768x128, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c : Ref sig .tc := ⟨.hbm, 28, rfl⟩
abbrev main_call0_v0 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Memkv.lean ====
abbrev S8x256x1024 : Shape := ⟨3, ![8, 256, 1024]⟩
abbrev S1024 : Shape := ⟨1, ![1024]⟩
abbrev S1024x1024 : Shape := ⟨2, ![1024, 1024]⟩
abbrev S128 : Shape := ⟨1, ![128]⟩
abbrev S2048x1024 : Shape := ⟨2, ![2048, 1024]⟩
abbrev S1x1024 : Shape := ⟨2, ![1, 1024]⟩
abbrev S1x128 : Shape := ⟨2, ![1, 128]⟩
abbrev S2048x512 : Shape := ⟨2, ![2048, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S256x128 : Shape := ⟨2, ![256, 128]⟩

abbrev nBuf : Space → Nat
  | .hbm => 10
  | .vmem => 9
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x1024, .f32⟩
  | .hbm, ⟨3, _⟩ => ⟨S128, .f32⟩
  | .hbm, ⟨4, _⟩ => ⟨S2048x1024, .f32⟩
  | .hbm, ⟨5, _⟩ => ⟨S1x1024, .f32⟩
  | .hbm, ⟨6, _⟩ => ⟨S1024x1024, .bf16⟩
  | .hbm, ⟨7, _⟩ => ⟨S1x128, .f32⟩
  | .hbm, ⟨8, _⟩ => ⟨S2048x512, .bf16⟩
  | .hbm, ⟨9, _⟩ => ⟨S2048x512, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S1x128, .f32⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MemkvRefIdeal.lean ====
abbrev S8x256x1024 : Shape := ⟨3, ![8, 256, 1024]⟩
abbrev S1024 : Shape := ⟨1, ![1024]⟩
abbrev S1024x1024 : Shape := ⟨2, ![1024, 1024]⟩
abbrev S128 : Shape := ⟨1, ![128]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x256x512 : Shape := ⟨3, ![8, 256, 512]⟩
abbrev S8x256x4x128 : Shape := ⟨4, ![8, 256, 4, 128]⟩
abbrev S8x256x4 : Shape := ⟨3, ![8, 256, 4]⟩
abbrev S8x256x4x1 : Shape := ⟨4, ![8, 256, 4, 1]⟩
abbrev S1x1x1x128 : Shape := ⟨4, ![1, 1, 1, 128]⟩
abbrev S2048x512 : Shape := ⟨2, ![2048, 512]⟩

abbrev nBuf : Space → Nat
  | .hbm => 44
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x1024, .f32⟩
  | .hbm, ⟨3, _⟩ => ⟨S128, .f32⟩
  | .hbm, ⟨4, _⟩ => ⟨S8x256x1024, .f32⟩
  | .hbm, ⟨5, _⟩ => ⟨S_, .f32⟩
  | .hbm, ⟨6, _⟩ => ⟨S8x256, .f32⟩
  | .hbm, ⟨7, _⟩ => ⟨S8x256x1, .f32⟩
  | .hbm, ⟨8, _⟩ => ⟨S_, .f32⟩
  | .hbm, ⟨9, _⟩ => ⟨S8x256x1, .f32⟩
  | .hbm, ⟨10, _⟩ => ⟨S8x256x1, .f32⟩
  | .hbm, ⟨11, _⟩ => ⟨S_, .f32⟩
  | .hbm, ⟨12, _⟩ => ⟨S8x256x1, .f32⟩
  | .hbm, ⟨13, _⟩ => ⟨S8x256x1, .f32⟩
  | .hbm, ⟨14, _⟩ => ⟨S8x256x1, .f32⟩
  | .hbm, ⟨15, _⟩ => ⟨S8x256x1024, .f32⟩
  | .hbm, ⟨16, _⟩ => ⟨S8x256x1024, .f32⟩
  | .hbm, ⟨17, _⟩ => ⟨S1x1x1024, .f32⟩
  | .hbm, ⟨18, _⟩ => ⟨S8x256x1024, .f32⟩
  | .hbm, ⟨19, _⟩ => ⟨S8x256x1024, .f32⟩
  | .hbm, ⟨20, _⟩ => ⟨S8x256x1024, .f32⟩
  | .hbm, ⟨21, _⟩ => ⟨S8x256x512, .f32⟩
  | .hbm, ⟨22, _⟩ => ⟨S8x256x512, .f32⟩
  | .hbm, ⟨23, _⟩ => ⟨S8x256x4x128, .f32⟩
  | .hbm, ⟨24, _⟩ => ⟨S8x256x4x128, .f32⟩
  | .hbm, ⟨25, _⟩ => ⟨S_, .f32⟩
  | .hbm, ⟨26, _⟩ => ⟨S8x256x4, .f32⟩
  | .hbm, ⟨27, _⟩ => ⟨S8x256x4x1, .f32⟩
  | .hbm, ⟨28, _⟩ => ⟨S_, .f32⟩
  | .hbm, ⟨29, _⟩ => ⟨S8x256x4x1, .f32⟩
  | .hbm, ⟨30, _⟩ => ⟨S8x256x4x1, .f32⟩
  | .hbm, ⟨31, _⟩ => ⟨S_, .f32⟩
  | .hbm, ⟨32, _⟩ => ⟨S8x256x4x1, .f32⟩
  | .hbm, ⟨33, _⟩ => ⟨S8x256x4x1, .f32⟩
  | .hbm, ⟨34, _⟩ => ⟨S8x256x4x1, .f32⟩
  | .hbm, ⟨35, _⟩ => ⟨S8x256x4x128, .f32⟩
  | .hbm, ⟨36, _⟩ => ⟨S8x256x4x128, .f32⟩
  | .hbm, ⟨37, _⟩ => ⟨S1x1x1x128, .f32⟩
  | .hbm, ⟨38, _⟩ => ⟨S8x256x4x128, .f32⟩
  | .hbm, ⟨39, _⟩ => ⟨S8x256x4x128, .f32⟩
  | .hbm, ⟨40, _⟩ => ⟨S2048x512, .f32⟩
  | .hbm, ⟨41, _⟩ => ⟨S2048x512, .bf16⟩
  | .hbm, ⟨42, _⟩ => ⟨S2048x512, .f32⟩
  | .hbm, ⟨43, _⟩ => ⟨S2048x512, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== Cross.lean ====
abbrev S8x4096x256 : Shape := ⟨3, ![8, 4096, 256]⟩
abbrev S8x4096x512 : Shape := ⟨3, ![8, 4096, 512]⟩
abbrev S1024x1024 : Shape := ⟨2, ![1024, 1024]⟩
abbrev S8x4096x1024 : Shape := ⟨3, ![8, 4096, 1024]⟩
abbrev S1024 : Shape := ⟨1, ![1024]⟩
abbrev S1024x512 : Shape := ⟨2, ![1024, 512]⟩
abbrev S128 : Shape := ⟨1, ![128]⟩
abbrev S8x256x4x128 : Shape := ⟨4, ![8, 256, 4, 128]⟩
abbrev S512x1024 : Shape := ⟨2, ![512, 1024]⟩
abbrev S32768x256 : Shape := ⟨2, ![32768, 256]⟩
abbrev S32768x512 : Shape := ⟨2, ![32768, 512]⟩
abbrev S32768x1024 : Shape := ⟨2, ![32768, 1024]⟩
abbrev S2048x512 : Shape := ⟨2, ![2048, 512]⟩
abbrev S256x1024 : Shape := ⟨2, ![256, 1024]⟩
abbrev S1x1024 : Shape := ⟨2, ![1, 1024]⟩
abbrev S1x128 : Shape := ⟨2, ![1, 128]⟩
abbrev S512x256 : Shape := ⟨2, ![512, 256]⟩
abbrev S512x512 : Shape := ⟨2, ![512, 512]⟩
abbrev S256x512 : Shape := ⟨2, ![256, 512]⟩
abbrev S512 : Shape := ⟨1, ![512]⟩
abbrev S512x1 : Shape := ⟨2, ![512, 1]⟩
abbrev S512x128 : Shape := ⟨2, ![512, 128]⟩
abbrev S256x128 : Shape := ⟨2, ![256, 128]⟩

abbrev nBuf : Space → Nat
  | .hbm => 26
  | .vmem => 21
  | .smem => 0
  | _ => 0

abbrev bufTy : (tb : Table) → Fin (tcTables nBuf tb) → BufTy
  | .hbm, ⟨0, _⟩ => ⟨S8x4096x256, .bf16⟩
  | .hbm, ⟨1, _⟩ => ⟨S8x4096x512, .bf16⟩
  | .hbm, ⟨2, _⟩ => ⟨S8x4096x256, .bf16⟩
  | .hbm, ⟨3, _⟩ => ⟨S1024x1024, .f32⟩
  | .hbm, ⟨4, _⟩ => ⟨S8x4096x1024, .f32⟩
  | .hbm, ⟨5, _⟩ => ⟨S1024, .f32⟩
  | .hbm, ⟨6, _⟩ => ⟨S1024x512, .f32⟩
  | .hbm, ⟨7, _⟩ => ⟨S128, .f32⟩
  | .hbm, ⟨8, _⟩ => ⟨S8x256x4x128, .bf16⟩
  | .hbm, ⟨9, _⟩ => ⟨S8x256x4x128, .bf16⟩
  | .hbm, ⟨10, _⟩ => ⟨S512x1024, .f32⟩
  | .hbm, ⟨11, _⟩ => ⟨S32768x256, .bf16⟩
  | .hbm, ⟨12, _⟩ => ⟨S32768x512, .bf16⟩
  | .hbm, ⟨13, _⟩ => ⟨S32768x256, .bf16⟩
  | .hbm, ⟨14, _⟩ => ⟨S32768x1024, .f32⟩
  | .hbm, ⟨15, _⟩ => ⟨S2048x512, .bf16⟩
  | .hbm, ⟨16, _⟩ => ⟨S2048x512, .bf16⟩
  | .hbm, ⟨17, _⟩ => ⟨S1024x1024, .bf16⟩
  | .hbm, ⟨18, _⟩ => ⟨S256x1024, .bf16⟩
  | .hbm, ⟨19, _⟩ => ⟨S512x1024, .bf16⟩
  | .hbm, ⟨20, _⟩ => ⟨S256x1024, .bf16⟩
  | .hbm, ⟨21, _⟩ => ⟨S1x1024, .f32⟩
  | .hbm, ⟨22, _⟩ => ⟨S1024x512, .bf16⟩
  | .hbm, ⟨23, _⟩ => ⟨S1x128, .f32⟩
  | .hbm, ⟨24, _⟩ => ⟨S512x1024, .bf16⟩
  | .hbm, ⟨25, _⟩ => ⟨S32768x1024, .f32⟩
  | .local _ .vmem, ⟨0, _⟩ => ⟨S512x256, .bf16⟩
  | .local _ .vmem, ⟨1, _⟩ => ⟨S512x256, .bf16⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S256x1024, .bf16⟩
  | .local _ .vmem, ⟨7, _⟩ => ⟨S512x1024, .bf16⟩
  | .local _ .vmem, ⟨8, _⟩ => ⟨S256x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1024x512, .bf16⟩
  | .local _ .vmem, ⟨13, _⟩ => ⟨S1x128, .f32⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S512x1024, .bf16⟩
  | .local _ .vmem, ⟨19, _⟩ => ⟨S512x1024, .f32⟩
  | .local _ .vmem, ⟨20, _⟩ => ⟨S512x1024, .f32⟩
  | _, _ => ⟨S8x4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== CrossRefIdeal.lean ====
abbrev S8x4096x256 : Shape := ⟨3, ![8, 4096, 256]⟩
abbrev S8x4096x512 : Shape := ⟨3, ![8, 4096, 512]⟩
abbrev S1024x1024 : Shape := ⟨2, ![1024, 1024]⟩
abbrev S8x4096x1024 : Shape := ⟨3, ![8, 4096, 1024]⟩
abbrev S1024 : Shape := ⟨1, ![1024]⟩
abbrev S1024x512 : Shape := ⟨2, ![1024, 512]⟩
abbrev S128 : Shape := ⟨1, ![128]⟩
abbrev S8x256x4x128 : Shape := ⟨4, ![8, 256, 4, 128]⟩
abbrev S512x1024 : Shape := ⟨2, ![512, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4x128 : Shape := ⟨4, ![8, 4096, 4, 128]⟩
abbrev S8x4096x4 : Shape := ⟨3, ![8, 4096, 4]⟩
abbrev S8x4096x4x1 : Shape := ⟨4, ![8, 4096, 4, 1]⟩
abbrev S1x1x1x128 : Shape := ⟨4, ![1, 1, 1, 128]⟩
abbrev S8x4x4096x256 : Shape := ⟨4, ![8, 4, 4096, 256]⟩
abbrev S8x4x4096 : Shape := ⟨3, ![8, 4, 4096]⟩
abbrev S8x4x4096x1 : Shape := ⟨4, ![8, 4, 4096, 1]⟩
abbrev S8x4x128x4096 : Shape := ⟨4, ![8, 4, 128, 4096]⟩
abbrev S32768x1024 : Shape := ⟨2, ![32768, 1024]⟩

abbrev nBuf : Space → Nat
  | .hbm => 75
  | .vmem => 0
  | .smem => 0
  | _ => 0

abbrev bufTy : (tb : Table) → Fin (tcTables nBuf tb) → BufTy
  | .hbm, ⟨0, _⟩ => ⟨S8x4096x256, .bf16⟩
  | .hbm, ⟨1, _⟩ => ⟨S8x4096x512, .bf16⟩
  | .hbm, ⟨2, _⟩ => ⟨S8x4096x256, .bf16⟩
  | .hbm, ⟨3, _⟩ => ⟨S1024x1024, .f32⟩
  | .hbm, ⟨4, _⟩ => ⟨S8x4096x1024, .f32⟩
  | .hbm, ⟨5, _⟩ => ⟨S1024, .f32⟩
  | .hbm, ⟨6, _⟩ => ⟨S1024x512, .f32⟩
  | .hbm, ⟨7, _⟩ => ⟨S128, .f32⟩
  | .hbm, ⟨8, _⟩ => ⟨S8x256x4x128, .bf16⟩
  | .hbm, ⟨9, _⟩ => ⟨S8x256x4x128, .bf16⟩
  | .hbm, ⟨10, _⟩ => ⟨S512x1024, .f32⟩
  | .hbm, ⟨11, _⟩ => ⟨S8x4096x1024, .bf16⟩
  | .hbm, ⟨12, _⟩ => ⟨S8x4096x1024, .f32⟩
  | .hbm, ⟨13, _⟩ => ⟨S8x4096x1024, .f32⟩
  | .hbm, ⟨14, _⟩ => ⟨S8x4096x1024, .f32⟩
  | .hbm, ⟨15, _⟩ => ⟨S8x4096x1024, .f32⟩
  | .hbm, ⟨16, _⟩ => ⟨S_, .f32⟩
  | .hbm, ⟨17, _⟩ => ⟨S8x4096, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S_, .f32⟩
  | .hbm, ⟨23, _⟩ => ⟨S8x4096x1, .f32⟩
  | .hbm, ⟨24, _⟩ => ⟨S8x4096x1, .f32⟩
  | .hbm, ⟨25, _⟩ => ⟨S8x4096x1, .f32⟩
  | .hbm, ⟨26, _⟩ => ⟨S8x4096x1024, .f32⟩
  | .hbm, ⟨27, _⟩ => ⟨S8x4096x1024, .f32⟩
  | .hbm, ⟨28, _⟩ => ⟨S1x1x1024, .f32⟩
  | .hbm, ⟨29, _⟩ => ⟨S8x4096x1024, .f32⟩
  | .hbm, ⟨30, _⟩ => ⟨S8x4096x1024, .f32⟩
  | .hbm, ⟨31, _⟩ => ⟨S8x4096x512, .f32⟩
  | .hbm, ⟨32, _⟩ => ⟨S8x4096x4x128, .f32⟩
  | .hbm, ⟨33, _⟩ => ⟨S8x4096x4x128, .f32⟩
  | .hbm, ⟨34, _⟩ => ⟨S_, .f32⟩
  | .hbm, ⟨35, _⟩ => ⟨S8x4096x4, .f32⟩
  | .hbm, ⟨36, _⟩ => ⟨S8x4096x4x1, .f32⟩
  | .hbm, ⟨37, _⟩ => ⟨S_, .f32⟩
  | .hbm, ⟨38, _⟩ => ⟨S8x4096x4x1, .f32⟩
  | .hbm, ⟨39, _⟩ => ⟨S8x4096x4x1, .f32⟩
  | .hbm, ⟨40, _⟩ => ⟨S_, .f32⟩
  | .hbm, ⟨41, _⟩ => ⟨S8x4096x4x1, .f32⟩
  | .hbm, ⟨42, _⟩ => ⟨S8x4096x4x1, .f32⟩
  | .hbm, ⟨43, _⟩ => ⟨S8x4096x4x1, .f32⟩
  | .hbm, ⟨44, _⟩ => ⟨S8x4096x4x128, .f32⟩
  | .hbm, ⟨45, _⟩ => ⟨S8x4096x4x128, .f32⟩
  | .hbm, ⟨46, _⟩ => ⟨S1x1x1x128, .f32⟩
  | .hbm, ⟨47, _⟩ => ⟨S8x4096x4x128, .f32⟩
  | .hbm, ⟨48, _⟩ => ⟨S8x4096x4x128, .f32⟩
  | .hbm, ⟨49, _⟩ => ⟨S8x256x4x128, .f32⟩
  | .hbm, ⟨50, _⟩ => ⟨S8x4x4096x256, .f32⟩
  | .hbm, ⟨51, _⟩ => ⟨S_, .f32⟩
  | .hbm, ⟨52, _⟩ => ⟨S8x4x4096x256, .f32⟩
  | .hbm, ⟨53, _⟩ => ⟨S8x4x4096x256, .f32⟩
  | .hbm, ⟨54, _⟩ => ⟨S_, .f32⟩
  | .hbm, ⟨55, _⟩ => ⟨S8x4x4096, .f32⟩
  | .hbm, ⟨56, _⟩ => ⟨S_, .f32⟩
  | .hbm, ⟨57, _⟩ => ⟨S8x4x4096, .f32⟩
  | .hbm, ⟨58, _⟩ => ⟨S8x4x4096, .f32⟩
  | .hbm, ⟨59, _⟩ => ⟨S8x4x4096x1, .f32⟩
  | .hbm, ⟨60, _⟩ => ⟨S8x4x4096x256, .f32⟩
  | .hbm, ⟨61, _⟩ => ⟨S8x4x4096x256, .f32⟩
  | .hbm, ⟨62, _⟩ => ⟨S8x4x4096x256, .f32⟩
  | .hbm, ⟨63, _⟩ => ⟨S_, .f32⟩
  | .hbm, ⟨64, _⟩ => ⟨S8x4x4096, .f32⟩
  | .hbm, ⟨65, _⟩ => ⟨S8x4x4096x1, .f32⟩
  | .hbm, ⟨66, _⟩ => ⟨S8x4x4096x256, .f32⟩
  | .hbm, ⟨67, _⟩ => ⟨S8x4x4096x256, .f32⟩
  | .hbm, ⟨68, _⟩ => ⟨S8x256x4x128, .f32⟩
  | .hbm, ⟨69, _⟩ => ⟨S8x4x128x4096, .f32⟩
  | .hbm, ⟨70, _⟩ => ⟨S8x4096x4x128, .f32⟩
  | .hbm, ⟨71, _⟩ => ⟨S8x4096x512, .f32⟩
  | .hbm, ⟨72, _⟩ => ⟨S8x4096x1024, .f32⟩
  | .hbm, ⟨73, _⟩ => ⟨S8x4096x1024, .f32⟩
  | .hbm, ⟨74, _⟩ => ⟨S32768x1024, .f32⟩
  | _, _ => ⟨S8x4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]
-- ==== Proof.BodyI.lean ====
/-
  The frame of `KernelIdeal`'s one call, by hand over the generated kit: the body runs at every grid point from its
  windows' blocks and its scratch at any contents, leaves the inputs as they were and the output and the scratch at
  some contents. The output is forgotten: only the arguments are followed.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

/-! ## The body's memory -/

/-- The ten operands the body only reads, each at its contents; the output and the four scratch arrays at any. -/
abbrev Held (c : Dev nD) (arg3 : Memref sig .tc .vmem S256x128 .bf16) (arg4 : Memref sig .tc .vmem S4096x128 .bf16) (arg5 : Memref sig .tc .vmem S4096x128 .bf16) (arg6 : Memref sig .tc .vmem S256x256 .i32) (arg7 : Memref sig .tc .vmem S256x256 .i32) (arg8 : Memref sig .tc .smem S8x32 .f32) (arg9 : Memref sig .tc .vmem S1x128 .f32) (arg10 : Memref sig .tc .vmem S1x128 .f32) (arg11 : Memref sig .tc .vmem S128x128 .bf16) (arg12 : Memref sig .tc .vmem S256x256 .bf16) (arg13 : Memref sig .tc .vmem S256x128 .bf16) (arg14 : Memref sig .tc .vmem S2x4096x128 .bf16) (arg15 : Memref sig .tc .vmem S2x4096x128 .bf16) (arg16 : Memref sig .tc .vmem S16x128 .f32) (arg17 : Memref sig .tc .vmem S2x2x256x256 .f32) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) : sProp 𝕄 :=
  iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)))

section Run

variable (c : Dev nD) (i : grid0.Coords) (arg3 : Memref sig .tc .vmem S256x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S256x256 .i32) (harg6 : arg6.IsWhole) (arg7 : Memref sig .tc .vmem S256x256 .i32) (harg7 : arg7.IsWhole) (arg8 : Memref sig .tc .smem S8x32 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x128 .bf16) (harg11 : arg11.IsWhole) (arg12 : Memref sig .tc .vmem S256x256 .bf16) (harg12 : arg12.IsWhole) (arg13 : Memref sig .tc .vmem S256x128 .bf16) (harg13 : arg13.IsWhole) (arg14 : Memref sig .tc .vmem S2x4096x128 .bf16) (harg14 : arg14.IsWhole) (arg15 : Memref sig .tc .vmem S2x4096x128 .bf16) (harg15 : arg15.IsWhole) (arg16 : Memref sig .tc .vmem S16x128 .f32) (harg16 : arg16.IsWhole) (arg17 : Memref sig .tc .vmem S2x2x256x256 .f32) (harg17 : arg17.IsWhole) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty)

/-- The first part of the body: the two writes of the scratch, each under its own condition on the grid point. -/
theorem part34_run :
    Held (F := F) c arg3 arg4 arg5 arg6 arg7 arg8 arg9 arg10 arg11 arg12 arg13 arg14 arg15 arg16 arg17 X3 X4 X5 X6 X7 X8 X9 X10 X11 X12
      ⊢ wp frame (wpE (defs₀ (F := F)) Variants.none c none) Set.univ (k0_part34 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17)
          (fun _ => Held (F := F) c arg3 arg4 arg5 arg6 arg7 arg8 arg9 arg10 arg11 arg12 arg13 arg14 arg15 arg16 arg17 X3 X4 X5 X6 X7 X8 X9 X10 X11 X12) := by
  rw [k0_part34_eq_skeleton]; unfold k0_part34_skel
  iintro ⟨H3, H4, H5, H6, H7, H8, H9, H10, H11, H12, ⟨%f13, H13⟩, ⟨%f14, H14⟩, ⟨%f15, H15⟩, ⟨%f16, H16⟩, ⟨%f17, H17⟩⟩
  by_cases h1 : k0_cond1 i = 1#1
  · by_cases h2 : k0_cond2 i = 1#1
    · sl_exec_parts
      sl_step
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [H16]; · iexists _; iexact H16
      iexists _; iexact H17
    · sl_exec_parts
      sl_step
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [H16]; · iexists _; iexact H16
      iexists _; iexact H17
  · by_cases h2 : k0_cond2 i = 1#1
    · sl_exec_parts
      sl_step
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [H16]; · iexists _; iexact H16
      iexists _; iexact H17
    · sl_exec_parts
      sl_step
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [H16]; · iexists _; iexact H16
      iexists _; iexact H17

/-- The sums over the earlier blocks: two counted loops and a conditional tail, all loads. -/
theorem part50_run (X14 : BufTy.Contents (Elt F) arg14.view.ty) (X15 : BufTy.Contents (Elt F) arg15.view.ty)
    (v632 : FVec F S256x128 .bf16) (v644 : FVec F S256x128 .bf16) (v689 : FVec F S256x128 .f32) (v702 : FVec F S256x128 .f32)
    (v704 c4 v705 : BitVec 32) (v716 : BitVec 1) :
    (iprop((arg14.view.loc (c : Thread nD τ) ↦[arg14.view.set]{fullShare} X14) ∗ (arg15.view.loc (c : Thread nD τ) ↦[arg15.view.set]{fullShare} X15)) : sProp 𝕄)
      ⊢ wp frame (wpE (defs₀ (F := F)) Variants.none c none) Set.univ (k0_part50 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 v632 v644 v689 v702 v704 c4 v705 v716)
          (fun _ => iprop((arg14.view.loc (c : Thread nD τ) ↦[arg14.view.set]{fullShare} X14) ∗ (arg15.view.loc (c : Thread nD τ) ↦[arg15.view.set]{fullShare} X15))) := by
  rw [k0_part50_eq_skeleton]; unfold k0_part50_skel
  iintro ⟨H14, H15⟩
  by_cases h3 : k0_cond3 i = 1#1
  · sl_exec_parts
    sl_step
    isplitl [H14]; · iexact H14
    iexact H15
  · sl_exec_parts
    sl_step
    isplitl [H14]; · iexact H14
    iexact H15

/-- The body up to the choice of its last stage: the first part by `part34_run`, the fast sums over the earlier
    blocks by their loops and the two conditional tails. -/
theorem part51_run :
    Held (F := F) c arg3 arg4 arg5 arg6 arg7 arg8 arg9 arg10 arg11 arg12 arg13 arg14 arg15 arg16 arg17 X3 X4 X5 X6 X7 X8 X9 X10 X11 X12
      ⊢ wp frame (wpE (defs₀ (F := F)) Variants.none c none) Set.univ (k0_part51 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17)
          (fun _ => Held (F := F) c arg3 arg4 arg5 arg6 arg7 arg8 arg9 arg10 arg11 arg12 arg13 arg14 arg15 arg16 arg17 X3 X4 X5 X6 X7 X8 X9 X10 X11 X12) := by
  rw [k0_part51_eq_skeleton]; unfold k0_part51_skel
  rw [wp_bind]
  iintro H
  iapply (wp_wand_r Idealize.ShloMosaic.frame (wpE (defs₀ (F := F)) Variants.none (c : Thread nD τ) none) Set.univ)
  isplitl [H]
  · iapply (part34_run c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 X6 X7 X8 X9 X10 X11 X12); iexact H
  iintro %r ⟨H3, H4, H5, H6, H7, H8, H9, H10, H11, H12, ⟨%f13, H13⟩, ⟨%f14, H14⟩, ⟨%f15, H15⟩, ⟨%f16, H16⟩, ⟨%f17, H17⟩⟩
  obtain ⟨arg2, v0, v2, v4, v5, v6, v15, v16, v18, v22, v25, v35⟩ := r
  have hcut := part50_run (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 f14 f15
  by_cases h4 : k0_cond4 i = 1#1
  · sl_exec_parts
    sl_step
    sl_close
  · sl_exec_parts
    sl_step
    sl_close

/-- The whole body: `part51_run`, then one of the two last stages, then the store of the output. -/
theorem body_run :
    Held (F := F) c arg3 arg4 arg5 arg6 arg7 arg8 arg9 arg10 arg11 arg12 arg13 arg14 arg15 arg16 arg17 X3 X4 X5 X6 X7 X8 X9 X10 X11 X12
      ⊢ wp frame (wpE (defs₀ (F := F)) Variants.none c none) Set.univ (cc0_moba (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17)
          (fun _ => Held (F := F) c arg3 arg4 arg5 arg6 arg7 arg8 arg9 arg10 arg11 arg12 arg13 arg14 arg15 arg16 arg17 X3 X4 X5 X6 X7 X8 X9 X10 X11 X12) := by
  rw [cc0_moba_eq_skeleton]; unfold cc0_moba_skel
  rw [wp_bind]
  iintro H
  iapply (wp_wand_r Idealize.ShloMosaic.frame (wpE (defs₀ (F := F)) Variants.none (c : Thread nD τ) none) Set.univ)
  isplitl [H]
  · iapply (part51_run c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 X6 X7 X8 X9 X10 X11 X12); iexact H
  iintro %r ⟨H3, H4, H5, H6, H7, H8, H9, H10, H11, H12, ⟨%f13, H13⟩, ⟨%f14, H14⟩, ⟨%f15, H15⟩, ⟨%f16, H16⟩, ⟨%f17, H17⟩⟩
  obtain ⟨arg2, v4, v15, v16, v18, v579, v586, v588, v590, v592, v594, v767_0, v767_1, v778, v785⟩ := r
  by_cases h5 : Scalar.cmpi .ne (Scalar.extui (Scalar.cmpf .ogt (k0_pay1 (F := F) v778 v785) (Scalar.ofBits .f32 0x00000000#32)) : BitVec 32) 0#32 = 1#1
  · sl_exec_parts
    sl_step
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexists _; iexact H16
    iexists _; iexact H17
  · sl_exec_parts
    sl_step
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexists _; iexact H16
    iexists _; iexact H17

end Run

/-! ## The proof data and the body obligation -/

variable [∀ e, Nonempty (Elt F e)]
variable (m : (ℓ : Loc nD τ sig) → Buf (Elt F) ℓ) (ρ : Dev nD → PrngReg)

/-- The output window is forgotten: the frame says nothing of what the kernel leaves in it. -/
def forgets0 : Fin 11 → Bool := fun w => w == 10

/-- The proof data on core `c`: every window's array as the region finds it; an input's block left in place; the output's
    unnamed; the scratch at any contents; the windows on one array at their shares of it; nothing owed. -/
def dats (_ : Fin 1) (c : Dev nD) : Dat τ (Elt F) Unit ℕ (UR sig nD τ) ℕ cfg0 c where
  A w := V m c (Pipeline.arrRef spec0 w)
  after := fun | 0 => fun t => iblk m c 0 t | 1 => fun t => iblk m c 1 t | 2 => fun t => iblk m c 2 t | 3 => fun t => iblk m c 3 t | 4 => fun t => iblk m c 4 t | 5 => fun t => iblk m c 5 t | 6 => fun t => iblk m c 6 t | 7 => fun t => iblk m c 7 t | 8 => fun t => iblk m c 8 t | 9 => fun t => iblk m c 9 t | 10 => fun t => Pipeline.Dat.unnamed (cfg := cfg0) 10 t | ⟨_ + 11, h⟩ => absurd h (Nat.not_lt.2 (Nat.le_add_left _ _))
  Φ _ := Pipeline.ΦA spec0 c
  q w := if (spec0 w).isOut = false then Pipeline.shareOf spec0 w else fullShare
  owed _ := 0

theorem A_eq (c : Dev nD) (w : Fin cfg0.W) : (dats m 0 c).A w = V m c (Pipeline.arrRef spec0 w) := by dsimp only [dats]

theorem q_in (c : Dev nD) (w : Fin cfg0.W) (hw : (spec0 w).isOut = false) : (dats m 0 c).q w = Pipeline.shareOf spec0 w := by
  dsimp only [dats]; rw [if_pos hw]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (fun t => after_0 m c t) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (fun t => after_1 m c t) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (fun t => after_2 m c t) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (fun t => after_3 m c t) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (fun t => after_4 m c t) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (fun t => after_5 m c t) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (fun t => after_6 m c t) t d
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  before0_7_of m (dats m 0 c) (A_eq m c 7) (fun t => after_7 m c t) t d
theorem after_8 (c : Dev nD) (t : Fin cfg0.N) : (dats m 0 c).after 8 t = iblk m c 8 t := by dsimp only [dats]
theorem before_8 (c : Dev nD) (t : Fin cfg0.N) (d) : (dats m 0 c).before 8 t d = iblk m c 8 t :=
  before0_8_of m (dats m 0 c) (A_eq m c 8) (fun t => after_8 m c t) t d
theorem after_9 (c : Dev nD) (t : Fin cfg0.N) : (dats m 0 c).after 9 t = iblk m c 9 t := by dsimp only [dats]
theorem before_9 (c : Dev nD) (t : Fin cfg0.N) (d) : (dats m 0 c).before 9 t d = iblk m c 9 t :=
  before0_9_of m (dats m 0 c) (A_eq m c 9) (fun t => after_9 m c t) t d

/-- What the body is called with at point `t`: the invariant, and each window's staging buffer. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)) ∗ (∃ d, owns (c : Thread nD τ) (win0_9.stage (cfg0.slots t 9)) fullShare ((dats m 0 c).before 9 t d)) ∗ (∃ d, owns (c : Thread nD τ) (win0_10.stage (cfg0.slots t 10)) fullShare d))

/-- What the body gives back: the same, the inputs' blocks in place, the output at some contents. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t) ∗ owns (c : Thread nD τ) (win0_7.stage (cfg0.slots t 7)) fullShare ((dats m 0 c).after 7 t) ∗ owns (c : Thread nD τ) (win0_8.stage (cfg0.slots t 8)) fullShare ((dats m 0 c).after 8 t) ∗ owns (c : Thread nD τ) (win0_9.stage (cfg0.slots t 9)) fullShare ((dats m 0 c).after 9 t) ∗ (∃ d, owns (c : Thread nD τ) (win0_10.stage (cfg0.slots t 10)) fullShare d))

/-- The invariant between two points: the four scratch arrays at some contents, the generator register at some state. -/
theorem PhiA0_eq (c : Dev nD) :
    (Pipeline.ΦA spec0 c : sProp 𝕄)
      = iprop(((∃ f, ((Memref.whole cc0_scratch0).view.loc (c : Thread nD τ) ↦[(Memref.whole cc0_scratch0).view.set]{fullShare} f)) ∗ (∃ f, ((Memref.whole cc0_scratch1).view.loc (c : Thread nD τ) ↦[(Memref.whole cc0_scratch1).view.set]{fullShare} f)) ∗ (∃ f, ((Memref.whole cc0_scratch2).view.loc (c : Thread nD τ) ↦[(Memref.whole cc0_scratch2).view.set]{fullShare} f)) ∗ (∃ f, ((Memref.whole cc0_scratch3).view.loc (c : Thread nD τ) ↦[(Memref.whole cc0_scratch3).view.set]{fullShare} f))) ∗ ∃ r, prngReg c r) := by
  unfold Pipeline.ΦA; rw [scopedRest0_eq]; simp only [Memref.view_whole, View.set_whole]

set_option maxHeartbeats 4000000 in
/-- The body at a point, from `body_run` at the point's own operands. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq]
  rw [after_0]; simp only [before_0]
  rw [after_1]; simp only [before_1]
  rw [after_2]; simp only [before_2]
  rw [after_3]; simp only [before_3]
  rw [after_4]; simp only [before_4]
  rw [after_5]; simp only [before_5]
  rw [after_6]; simp only [before_6]
  rw [after_7]; simp only [before_7]
  rw [after_8]; simp only [before_8]
  rw [after_9]; simp only [before_9]
  unfold owns
  iintro ⟨⟨⟨HS0, HS1, HS2, HS3⟩, Hg⟩, HO, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩, ⟨%d10, %f10, -, H10⟩⟩

  iapply (wp_wand_r Idealize.ShloMosaic.frame (wpE (defs₀ (F := F)) Variants.none (c : Thread nD τ) none) Set.univ)
  isplitl [H0 H1 H2 H3 H4 H5 H6 H7 H8 H9 H10 HS0 HS1 HS2 HS3]
  · iapply (body_run (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) f0 f1 f2 f3 f4 f5 f6 f7 f8 f9)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HS0]; · iexact HS0
    isplitl [HS1]; · iexact HS1
    isplitl [HS2]; · iexact HS2
    iexact HS3
  iintro %_ ⟨H0, H1, H2, H3, H4, H5, H6, H7, H8, H9, ⟨%f10', H10⟩, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [HO]; · iexact HO
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  isplitl [H8]
  · iexists f8; isplitr; · ipureintro; exact e8
    iexact H8
  isplitl [H9]
  · iexists f9; isplitr; · ipureintro; exact e9
    iexact H9
  iexists _, f10'
  isplitr
  · ipureintro; rfl
  iexact H10

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the output forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option backward.isDefEq.respectTransparency.types false in
/-- From any memory with zero counters every weakly fair execution of @main ends, the counters at zero, every input array
    as the region found it. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun c w hw => q_in m c w hw)
    (howed := fun _ _ => rfl) (V := V m) (hmain := hmain m Variants.none) (hA := A_eq m)
    (hΦ := fun _ _ => rfl)

/-- The frame: the arguments end as they began and every counter at zero. -/
theorem quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (Pipeline.RDat.FramePost.arr_in h.1 c 5 rfl).trans ((A_eq m c 5).trans (V_main_arg3 m c))⟩, h.2⟩) (run_main m ρ)

end Cert.KernelIdeal.Hand

end
-- ==== Proof.Rms.lean ====
/-
  One row scaled by the inverse root of its mean square and by the gains, the function both the
  kernels' rows and the references' rows are.
-/
module

public import Idealize.ShloMosaic.Lib.Pointwise

@[expose] public section

noncomputable section

namespace Cert.Rms

open Idealize.ShloMosaic

/-- Row `x` over the root of its mean square (with the small constant under the root), times `g`. -/
def rms (x g : Fin 1024 → EReal) (k : Fin 1024) : EReal :=
  x k * Ideal.rsqrt (Ideal.div (∑ j, x j * x j) (Ideal.ofBits .f32 0x44800000#32) + Ideal.ofBits .f32 0x358637BD#32) * g k

/-- The same of a head's 128 columns. -/
def rmsHead (x g : Fin 128 → EReal) (k : Fin 128) : EReal :=
  x k * Ideal.rsqrt (Ideal.div (∑ j, x j * x j) (Ideal.ofBits .f32 0x43000000#32) + Ideal.ofBits .f32 0x358637BD#32) * g k

/-- A value that is a real number. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sub_self {x : EReal} (hx : IsReal x) : x - x = 0 := by
  obtain ⟨a, rfl⟩ := hx
  rw [← EReal.coe_sub, _root_.sub_self]; rfl

theorem isReal_of_abs {x : EReal} (h : max x (-x) < ⊤) : IsReal x := by
  induction x with
  | bot => simp at h
  | top => simp at h
  | coe r => exact ⟨r, rfl⟩

theorem isReal_of_between {x : EReal} (h0 : ⊥ < x) (h1 : x < ⊤) : IsReal x := by
  induction x with
  | bot => exact absurd h0 (lt_irrefl _)
  | top => exact absurd h1 (lt_irrefl _)
  | coe r => exact ⟨r, rfl⟩

/-- What a finiteness test says of the value it tests. -/
theorem real_of_olt {x : EReal} (h : BitVec.ofBool (decide (max x (-x) < Ideal.ofBits .f32 0x7F800000#32)) = 1#1) : IsReal x := by
  refine isReal_of_abs ?_
  by_contra hn
  have e : Ideal.ofBits .f32 0x7F800000#32 = ⊤ := by simp [Ideal.ofBits, Ideal.ieee]
  rw [e, decide_eq_false hn] at h
  exact absurd h (by decide)

theorem real_of_olt_bf16 {x : EReal} (h : BitVec.ofBool (decide (max x (-x) < Ideal.ofBits .bf16 0x7F80#16)) = 1#1) : IsReal x := by
  refine isReal_of_abs ?_
  by_contra hn
  have e : Ideal.ofBits .bf16 0x7F80#16 = ⊤ := by simp [Ideal.ofBits, Ideal.ieee]
  rw [e, decide_eq_false hn] at h
  exact absurd h (by decide)

theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem isReal_sum {ι : Type} (s : Finset ι) (f : ι → EReal) (h : ∀ i, IsReal (f i)) : IsReal (∑ i ∈ s, f i) := by
  choose a ha using h
  exact ⟨∑ i ∈ s, a i, by rw [← sum_coe]; exact Finset.sum_congr rfl fun i _ => ha i⟩

theorem sq_nonneg' (x : EReal) : 0 ≤ x * x := by
  induction x with
  | bot => simp
  | top => simp
  | coe r => rw [← EReal.coe_mul]; exact EReal.coe_nonneg.2 (mul_self_nonneg r)

theorem sq_top {x : EReal} (h : ¬ IsReal x) : x * x = ⊤ := by
  induction x with
  | bot => simp
  | top => simp
  | coe r => exact absurd ⟨r, rfl⟩ h

/-- A row over the root of its mean square holds real numbers: where it has an infinity the mean is infinite, and the quotient zero. -/
theorem scaled_real {n : Nat} (x : Fin n → EReal) {c ε : ℝ} (hc : 0 < c) (hε : 0 < ε) (k : Fin n) :
    IsReal (x k * Ideal.rsqrt (Ideal.div (∑ j, x j * x j) (c : EReal) + (ε : EReal))) := by
  by_cases hx : ∀ k, IsReal (x k)
  · choose a ha using hx
    obtain rfl : x = fun k => (a k : EReal) := funext ha
    have hs : ∑ j, ((a j : ℝ) : EReal) * ((a j : ℝ) : EReal) = ((∑ j, a j * a j : ℝ) : EReal) := by
      rw [← sum_coe]; exact Finset.sum_congr rfl fun j _ => (EReal.coe_mul _ _).symm
    have hn : (0 : ℝ) ≤ ∑ j, a j * a j := Finset.sum_nonneg fun j _ => mul_self_nonneg (a j)
    refine IsReal.mul ⟨_, rfl⟩ ?_
    show IsReal (Ideal.rsqrt (Ideal.div (∑ j, ((a j : ℝ) : EReal) * ((a j : ℝ) : EReal)) (c : EReal) + (ε : EReal)))
    rw [hs, Ideal.div_coe hc.ne', ← EReal.coe_mul, ← EReal.coe_add, Ideal.rsqrt_coe]
    have : 0 < (∑ j, a j * a j) * (1 / c) + ε := by positivity
    rw [if_neg (not_lt.2 this.le), if_neg this.ne']
    exact ⟨_, rfl⟩
  · obtain ⟨j, hj⟩ := not_forall.1 hx
    have hs : ∑ j, x j * x j = ⊤ :=
      top_le_iff.1 ((sq_top hj).symm.le.trans (Finset.single_le_sum (f := fun j => x j * x j) (fun i _ => sq_nonneg' (x i)) (Finset.mem_univ j)))
    rw [hs, Ideal.div_coe hc.ne', EReal.top_mul_coe_of_pos (by positivity), EReal.top_add_coe]
    show IsReal (x k * 0)
    rw [mul_zero]
    exact ⟨0, rfl⟩

theorem eps_pos : ∃ ε : ℝ, 0 < ε ∧ Ideal.ofBits .f32 0x358637BD#32 = ((ε : ℝ) : EReal) := by
  refine ⟨8796093 / 8796093022208, by norm_num, ?_⟩
  simp [Ideal.ofBits, Ideal.ieee, -EReal.coe_mul]; norm_num

theorem rms_real (x g : Fin 1024 → EReal) (hg : ∀ k, IsReal (g k)) (k : Fin 1024) : IsReal (rms x g k) := by
  unfold rms
  have h1 : Ideal.ofBits .f32 0x44800000#32 = ((1024 : ℝ) : EReal) := by
    simp [Ideal.ofBits, Ideal.ieee, -EReal.coe_mul]; norm_num
  obtain ⟨ε, hε, h2⟩ := eps_pos
  rw [h1, h2]
  exact (scaled_real x (by norm_num) hε k).mul (hg k)

theorem rmsHead_real (x g : Fin 128 → EReal) (hg : ∀ k, IsReal (g k)) (k : Fin 128) : IsReal (rmsHead x g k) := by
  unfold rmsHead
  have h1 : Ideal.ofBits .f32 0x43000000#32 = ((128 : ℝ) : EReal) := by
    simp [Ideal.ofBits, Ideal.ieee, -EReal.coe_mul]; norm_num
  obtain ⟨ε, hε, h2⟩ := eps_pos
  rw [h1, h2]
  exact (scaled_real x (by norm_num) hε k).mul (hg k)

end Cert.Rms

end
-- ==== Proof.InprojV.lean ====
/-
  The input projection at the ideal instance: each output array after the run is the reference's
  result for it.
-/
module

public import proofs.«01_k».proof.Proof.Gen.InprojIdeal.Value
public import proofs.«01_k».proof.Proof.Gen.InprojRefIdeal.Run
public import proofs.«01_k».proof.Proof.Gen.InprojRefIdeal.Read
public import proofs.«01_k».proof.Proof.Rms
public import Idealize.ShloMosaic.Lib.Pointwise
public import Idealize.ShloMosaic.Lib.Pipeline.ValueKit

@[expose] public section

set_option maxRecDepth 16384

noncomputable section

namespace Cert.InprojV

open Idealize.ShloMosaic Idealize.ShloMosaic.TcCoe Idealize.SL.Sem
open Cert.Rms
open Idealize.ShloMosaic.Pipeline

section Kernel
open Cert.InprojIdeal Cert.InprojIdeal.Gen

/-- The normalised rows of a block. -/
theorem pay2_at (x0 : Vec Ideal S1024x1024 .f32) (x1 : Vec Ideal S1x1024 .f32) (r k : Fin 1024) :
    k0_pay2 x0 x1 (ix2 r k) = rms (fun j => x0 (ix2 r j)) (fun j => x1 (ix2 0 j)) k := by
  pointwise [k0_pay2, rms]

theorem pay4_at (x0 : Vec Ideal S1024x1024 .f32) (x1 : Vec Ideal S1x1024 .f32) (w : Vec Ideal S1024x512 .bf16)
    (r : Fin 1024) (j : Fin 512) :
    k0_pay4 x0 x1 w (ix2 r j) = ∑ k, rms (fun j => x0 (ix2 r j)) (fun j => x1 (ix2 0 j)) k * w (ix2 k j) := by
  pointwise [k0_pay4, k0_pay3, pay2_at]

theorem pay14_at (x0 : Vec Ideal S1024x1024 .f32) (w : Vec Ideal S1024x128 .f32)
    (r : Fin 1024) (j : Fin 128) :
    k0_pay1 (k0_pay14 x0 w) (k0_pay15 x0 w) (k0_pay16 x0 w) (ix2 r j) = (∑ k, x0 (ix2 r k) * w (ix2 k j)) +
      ((∑ k, x0 (ix2 r k) * (w (ix2 k j) - w (ix2 k j))) + ∑ k, (x0 (ix2 r k) - x0 (ix2 r k)) * w (ix2 k j)) := by
  pointwise [k0_pay1, k0_pay14, k0_pay15, k0_pay16, k0_pay12, k0_pay13, k0_pay11]

end Kernel

section Ref
open Cert.InprojRefIdeal Cert.InprojRefIdeal.Gen Cert.InprojRefIdeal.Read

theorem ref_row (x0 : (⟨S8x4096x1024, .f32⟩ : BufTy).Contents (Elt Ideal)) (x1 : (⟨S1024, .f32⟩ : BufTy).Contents (Elt Ideal))
    (b : Fin 8) (s : Fin 4096) (k : Fin 1024) :
    val_main_v12 x0 x1 (ix3 b s k) = rms (fun j => x0 (ix3 b s j)) (fun j => x1 (ix1 j)) k := by
  pointwise [val_main_v12, val_main_v11, val_main_v10, val_main_v9, val_main_v8, val_main_v7, val_main_v6, val_main_v5, val_main_cst_1,
    val_main_v4, val_main_v3, val_main_cst_0, val_main_v2, val_main_v1, val_main_cst, val_main_v0, rms]

theorem ref_proj (x0 : (⟨S8x4096x1024, .f32⟩ : BufTy).Contents (Elt Ideal)) (x1 : (⟨S1024, .f32⟩ : BufTy).Contents (Elt Ideal))
    (x2 : (⟨S1024x3592, .f32⟩ : BufTy).Contents (Elt Ideal)) (r : Fin 32768) (j : Fin 3592) :
    val_main_v14 x0 x1 x2 (ix2 r j) = ∑ k, rms (fun j => x0 (ix3 (⟨r.val / 4096, by omega⟩ : Fin 8) (⟨r.val % 4096, by omega⟩ : Fin 4096) j)) (fun j => x1 (ix1 j)) k * x2 (ix2 k j) := by
  pointwise [val_main_v14, val_main_v13, ref_row]

end Ref

section Arrays
open Cert.InprojIdeal Cert.InprojIdeal.Gen
variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The three arguments. -/
abbrev a0 (c : Dev nD) : Vec Ideal S8x4096x1024 .f32 := m ((c.tc : Thread nD τ).loc main_arg0)
abbrev a1 (c : Dev nD) : Vec Ideal S1024 .f32 := m ((c.tc : Thread nD τ).loc main_arg1)
abbrev a2 (c : Dev nD) : Vec Ideal S1024x3592 .f32 := m ((c.tc : Thread nD τ).loc main_arg2)

theorem V0 (c : Dev nD) : V m c main_v0 = shapeCast S32768x1024 (a0 m c) shapeCasts_S8x4096x1024_S32768x1024 := by
  unfold_abbrev_sides
  after_results
  rfl

theorem V7 (c : Dev nD) : V m c main_v7 = shapeCast S1x1024 (a1 m c) shapeCasts_S1024_S1x1024 := by
  unfold_abbrev_sides
  after_results
  rfl

theorem V2 (c : Dev nD) : V m c main_v2 = truncf (F := Ideal) .bf16 (extractStridedSlice S1024x3584 ![0, 0] (a2 m c) slices_S1024x3592_S1024x3584_0_0) bitsLt_bf16_f32 := by
  unfold_abbrev_sides
  after_results
  try rfl

/-- The narrow projections' columns, padded to a tile of lanes. -/
def wsmall (w : Vec Ideal S1024x3592 .f32) : Vec Ideal S1024x128 .f32 :=
  Host.scatter scatter_S1024x128_S1_S1024x8_01_n_1_0 (fun _ b => b)
    (broadcastInDim S1024x128 ![] bcast_S_S1024x128 (constant (F := Ideal) S_ .f32 0x00000000#32)) (broadcastInDim S1 ![] bcast_S_S1 (constantI S_ 32 0#32))
    (extractStridedSlice S1024x8 ![0, 3584] w slices_S1024x3592_S1024x8_0_3584)

theorem V6 (c : Dev nD) : V m c main_v6 = wsmall (a2 m c) := by
  unfold wsmall
  unfold_abbrev_sides
  after_results
  try rfl

theorem blk0 (c : Dev nD) (t : Fin cfg0.N) (R : Fin 32768) (r k : Fin 1024) (h : R.val = t.val * 1024 + r.val) :
    iblk m c 0 t (ix2 r k) = a0 m c (ix3 (⟨R.val / 4096, by omega⟩ : Fin 8) (⟨R.val % 4096, by omega⟩ : Fin 4096) k) := by
  have e : iblk m c 0 t (ix2 r k) = V m c main_v0 (ix2 R k) := by blk_ext [iblk, idx t]
  rw [e, V0]
  generalize a0 m c = X
  pointwise

theorem blk1 (c : Dev nD) (t : Fin cfg0.N) (k : Fin 1024) :
    iblk m c 1 t (ix2 (0 : Fin 1) k) = a1 m c (ix1 k) := by
  have e : iblk m c 1 t (ix2 (0 : Fin 1) k) = V m c main_v7 (ix2 (0 : Fin 1) k) := by blk_ext [iblk, idx t]
  rw [e, V7]
  generalize a1 m c = X
  pointwise

theorem blk2 (c : Dev nD) (t : Fin cfg0.N) (k : Fin 1024) (J : Fin 3584) :
    iblk m c 2 t (ix2 k J) = a2 m c (ix2 k (⟨J.val, by omega⟩ : Fin 3592)) := by
  have e : iblk m c 2 t (ix2 k J) = V m c main_v2 (ix2 k J) := by blk_ext [iblk, idx t]
  rw [e, V2]
  generalize a2 m c = X
  pointwise

theorem blk3 (c : Dev nD) (t : Fin cfg0.N) (k : Fin 1024) (J : Fin 128) :
    iblk m c 3 t (ix2 k J) = V m c main_v6 (ix2 k J) := by
  blk_ext [iblk, idx t]

theorem ld0 (x : Vec Ideal S1024x1024 .f32) : View.ld x r0_0 = x := View.ld_unit_lit _ x (by decide)
theorem ld1 (x : Vec Ideal S1x1024 .f32) : View.ld x r0_1 = x := View.ld_unit_lit _ x (by decide)
theorem ld14 (x : Vec Ideal S1024x128 .f32) : View.ld x r0_14 = x := View.ld_unit_lit _ x (by decide)

end Arrays

end Cert.InprojV

end
-- ==== Proof.InprojO.lean ====
/-
  The input projection's output arrays, tile by tile.
-/
module

public import proofs.«01_k».proof.Proof.InprojV
public import Idealize.ShloMosaic.Lib.Routing.OpsSet
public import Idealize.ShloMosaic.Lib.Routing.OpsPair
public import Idealize.ShloMosaic.Lib.Pointwise.IndexBridge

@[expose] public section

set_option maxRecDepth 16384

noncomputable section

namespace Cert.InprojV

open Idealize.ShloMosaic Idealize.ShloMosaic.TcCoe Idealize.SL.Sem
open Cert.Rms
open Idealize.ShloMosaic.Pipeline

section Tiles
open Cert.InprojIdeal Cert.InprojIdeal.Gen

/-- A tile's payload at a row and a column: the other six tiles are the first one's. -/
theorem pay5_at (x0 : Vec Ideal S1024x1024 .f32) (x1 : Vec Ideal S1x1024 .f32) (w : Vec Ideal S1024x512 .bf16)
    (r : Fin 1024) (j : Fin 512) :
    k0_pay5 x0 x1 w (ix2 r j) = ∑ k, rms (fun j => x0 (ix2 r j)) (fun j => x1 (ix2 0 j)) k * w (ix2 k j) := by
  pointwise [k0_pay5, k0_pay3, pay2_at]

theorem pay6_at (x0 : Vec Ideal S1024x1024 .f32) (x1 : Vec Ideal S1x1024 .f32) (w : Vec Ideal S1024x512 .bf16)
    (r : Fin 1024) (j : Fin 512) :
    k0_pay6 x0 x1 w (ix2 r j) = ∑ k, rms (fun j => x0 (ix2 r j)) (fun j => x1 (ix2 0 j)) k * w (ix2 k j) := by
  pointwise [k0_pay6, k0_pay3, pay2_at]

theorem pay7_at (x0 : Vec Ideal S1024x1024 .f32) (x1 : Vec Ideal S1x1024 .f32) (w : Vec Ideal S1024x512 .bf16)
    (r : Fin 1024) (j : Fin 512) :
    k0_pay7 (k0_pay3 x0 x1) w (ix2 r j) = ∑ k, rms (fun j => x0 (ix2 r j)) (fun j => x1 (ix2 0 j)) k * w (ix2 k j) := by
  pointwise [k0_pay7, k0_pay3, pay2_at]

theorem pay8_at (x0 : Vec Ideal S1024x1024 .f32) (x1 : Vec Ideal S1x1024 .f32) (w : Vec Ideal S1024x512 .bf16)
    (r : Fin 1024) (j : Fin 512) :
    k0_pay8 (k0_pay3 x0 x1) w (ix2 r j) = ∑ k, rms (fun j => x0 (ix2 r j)) (fun j => x1 (ix2 0 j)) k * w (ix2 k j) := by
  pointwise [k0_pay8, k0_pay3, pay2_at]

theorem pay9_at (x0 : Vec Ideal S1024x1024 .f32) (x1 : Vec Ideal S1x1024 .f32) (w : Vec Ideal S1024x512 .bf16)
    (r : Fin 1024) (j : Fin 512) :
    k0_pay9 (k0_pay3 x0 x1) w (ix2 r j) = ∑ k, rms (fun j => x0 (ix2 r j)) (fun j => x1 (ix2 0 j)) k * w (ix2 k j) := by
  pointwise [k0_pay9, k0_pay3, pay2_at]

theorem pay10_at (x0 : Vec Ideal S1024x1024 .f32) (x1 : Vec Ideal S1x1024 .f32) (w : Vec Ideal S1024x512 .bf16)
    (r : Fin 1024) (j : Fin 512) :
    k0_pay10 (k0_pay3 x0 x1) w (ix2 r j) = ∑ k, rms (fun j => x0 (ix2 r j)) (fun j => x1 (ix2 0 j)) k * w (ix2 k j) := by
  pointwise [k0_pay10, k0_pay3, pay2_at]

/-- A tile of 512 of the weight's columns, read at a column. -/
theorem ldw (X : Vec Ideal S1024x3584 .bf16) (off : Nat) (inb) (k : Fin 1024) (j : Fin 512) (h : off + j.val < 3584) :
    (View.ld X (Rect.unit (s := S1024x3584) ![0, off] S1024x512.size inb) : Vec Ideal S1024x512 .bf16) (ix2 k j) = X (ix2 k (⟨off + j.val, h⟩ : Fin 3584)) := by
  refine View.ld_unit_apply_of X _ _ inb _ _ fun a => ?_
  match a with
  | ⟨0, _⟩ => exact (Nat.zero_add _).symm
  | ⟨1, _⟩ => rfl

variable (m : (ℓ : Loc nD τ sig) → Buf (Elt Ideal) ℓ)

/-- A tile's sum over the block's rows is the reference's projection at the row and the column it stands for. -/
theorem tile (c : Dev nD) (t : Fin cfg0.N) (R : Fin 32768) (r : Fin 1024) (h : R.val = t.val * 1024 + r.val)
    (w : Fin 1024 → EReal) (J : Fin 3592) (hw : ∀ k, w k = a2 m c (ix2 k J)) :
    ∑ k, rms (fun j => iblk m c 0 t (ix2 r j)) (fun j => iblk m c 1 t (ix2 (0 : Fin 1) j)) k * w k
      = Cert.InprojRefIdeal.Read.val_main_v14 (F := Ideal) (a0 m c) (a1 m c) (a2 m c) (ix2 R J) := by
  rw [ref_proj]
  have e0 : (fun j => iblk m c 0 t (ix2 r j)) = fun j => a0 m c (ix3 (⟨R.val / 4096, by omega⟩ : Fin 8) (⟨R.val % 4096, by omega⟩ : Fin 4096) j) :=
    funext fun j => blk0 m c t R r j h
  have e1 : (fun j => iblk m c 1 t (ix2 (0 : Fin 1) j)) = fun j => a1 m c (ix1 j) := funext fun j => blk1 m c t j
  rw [e0, e1]
  exact Finset.sum_congr rfl fun k _ => by rw [hw]

/-- The reference's first result at a row and a column. -/
theorem v19_at (x0 : Vec Ideal S8x4096x1024 .f32) (x1 : Vec Ideal S1024 .f32) (x2 : Vec Ideal S1024x3592 .f32) (R : Fin 32768) (j : Fin 1024) :
    Cert.InprojRefIdeal.Read.val_main_v19 (F := Ideal) x0 x1 x2 (ix2 R j)
      = Cert.InprojRefIdeal.Read.val_main_v14 (F := Ideal) x0 x1 x2 (ix2 R (⟨j.val, by omega⟩ : Fin 3592)) := by
  pointwise [Cert.InprojRefIdeal.Read.val_main_v19, Cert.InprojRefIdeal.Read.val_main_v15]

theorem v20_at (x0 : Vec Ideal S8x4096x1024 .f32) (x1 : Vec Ideal S1024 .f32) (x2 : Vec Ideal S1024x3592 .f32) (R : Fin 32768) (j : Fin 1536) :
    Cert.InprojRefIdeal.Read.val_main_v20 (F := Ideal) x0 x1 x2 (ix2 R j)
      = Cert.InprojRefIdeal.Read.val_main_v14 (F := Ideal) x0 x1 x2 (ix2 R (⟨1024 + j.val, by omega⟩ : Fin 3592)) := by
  pointwise [Cert.InprojRefIdeal.Read.val_main_v20, Cert.InprojRefIdeal.Read.val_main_v16]

theorem v21_at (x0 : Vec Ideal S8x4096x1024 .f32) (x1 : Vec Ideal S1024 .f32) (x2 : Vec Ideal S1024x3592 .f32) (R : Fin 32768) (j : Fin 1024) :
    Cert.InprojRefIdeal.Read.val_main_v21 (F := Ideal) x0 x1 x2 (ix2 R j)
      = Cert.InprojRefIdeal.Read.val_main_v14 (F := Ideal) x0 x1 x2 (ix2 R (⟨2560 + j.val, by omega⟩ : Fin 3592)) := by
  pointwise [Cert.InprojRefIdeal.Read.val_main_v21, Cert.InprojRefIdeal.Read.val_main_v17]

/-- The tile of 512 columns from `off` of the block of rows at grid point `t` is the reference's projection there. -/
theorem tile_at (c : Dev nD) (t : Fin cfg0.N) (off : Nat) (inb) (R : Fin 32768) (r : Fin 1024) (j : Fin 512) (J : Fin 3592)
    (hR : R.val = t.val * 1024 + r.val) (hJ : J.val = off + j.val) (ho : off ≤ 3072) :
    ∑ k, rms (fun j => View.ld (iblk m c 0 t) r0_0 (ix2 r j)) (fun j => View.ld (iblk m c 1 t) r0_1 (ix2 (0 : Fin 1) j)) k
        * (View.ld (iblk m c 2 t) (Rect.unit (s := S1024x3584) ![0, off] S1024x512.size inb) : Vec Ideal S1024x512 .bf16) (ix2 k j)
      = Cert.InprojRefIdeal.Read.val_main_v14 (F := Ideal) (a0 m c) (a1 m c) (a2 m c) (ix2 R J) := by
  rw [ld0, ld1]
  refine tile m c t R r hR _ J fun k => ?_
  rw [ldw _ off inb k j (by omega), blk2]
  exact congrArg (fun z => a2 m c (ix2 k z)) (Fin.ext hJ.symm)

theorem out4 (c : Dev nD) : (dats m 0 c).arrAt 4 cfg0.N
    = Cert.InprojRefIdeal.Read.val_main_v19 (F := Ideal) (a0 m c) (a1 m c) (a2 m c) := by
  refine (dats m 0 c).arrAt_eq_of_covers 4 _ (by decide +kernel) fun t hf y => ?_
  have ht : t.val < 32 := t.isLt
  blk_simp
  rw [after0_4]
  unfold_out out0_4
  canon_tiles x h
  · rw [show (((cfg0.win 4).blk t).view.emb y) = ix2 (⟨t.val * 1024 + (x 0).val, by omega⟩ : Fin 32768) (⟨512 + (x 1).val, by omega⟩ : Fin 1024) from by blk_ext [idx t], v19_at]
    obtain ⟨r, j, rfl⟩ : ∃ (r : Fin 1024) (j : Fin 512), x = ix2 r j := ⟨x 0, x 1, by idx_ext⟩
    exact (pay5_at _ _ _ r j).trans (tile_at m c t 512 _ _ r j _ rfl rfl (by omega))
  · rw [show (((cfg0.win 4).blk t).view.emb y) = ix2 (⟨t.val * 1024 + (x 0).val, by omega⟩ : Fin 32768) (⟨0 + (x 1).val, by omega⟩ : Fin 1024) from by blk_ext [idx t], v19_at]
    obtain ⟨r, j, rfl⟩ : ∃ (r : Fin 1024) (j : Fin 512), x = ix2 r j := ⟨x 0, x 1, by idx_ext⟩
    exact (pay4_at _ _ _ r j).trans (tile_at m c t 0 _ _ r j _ rfl rfl (by omega))

theorem out5 (c : Dev nD) : (dats m 0 c).arrAt 5 cfg0.N
    = Cert.InprojRefIdeal.Read.val_main_v20 (F := Ideal) (a0 m c) (a1 m c) (a2 m c) := by
  refine (dats m 0 c).arrAt_eq_of_covers 5 _ (by decide +kernel) fun t hf y => ?_
  have ht : t.val < 32 := t.isLt
  blk_simp
  rw [after0_5]
  unfold_out out0_5
  canon_tiles x h
  · rw [show (((cfg0.win 5).blk t).view.emb y) = ix2 (⟨t.val * 1024 + (x 0).val, by omega⟩ : Fin 32768) (⟨1024 + (x 1).val, by omega⟩ : Fin 1536) from by blk_ext [idx t], v20_at]
    obtain ⟨r, j, rfl⟩ : ∃ (r : Fin 1024) (j : Fin 512), x = ix2 r j := ⟨x 0, x 1, by idx_ext⟩
    exact (pay8_at _ _ _ r j).trans (tile_at m c t 2048 _ _ r j _ rfl (Nat.add_assoc 1024 1024 j.val).symm (by omega))
  · rw [show (((cfg0.win 5).blk t).view.emb y) = ix2 (⟨t.val * 1024 + (x 0).val, by omega⟩ : Fin 32768) (⟨512 + (x 1).val, by omega⟩ : Fin 1536) from by blk_ext [idx t], v20_at]
    obtain ⟨r, j, rfl⟩ : ∃ (r : Fin 1024) (j : Fin 512), x = ix2 r j := ⟨x 0, x 1, by idx_ext⟩
    exact (pay7_at _ _ _ r j).trans (tile_at m c t 1536 _ _ r j _ rfl (Nat.add_assoc 1024 512 j.val).symm (by omega))
  · rw [show (((cfg0.win 5).blk t).view.emb y) = ix2 (⟨t.val * 1024 + (x 0).val, by omega⟩ : Fin 32768) (⟨0 + (x 1).val, by omega⟩ : Fin 1536) from by blk_ext [idx t], v20_at]
    obtain ⟨r, j, rfl⟩ : ∃ (r : Fin 1024) (j : Fin 512), x = ix2 r j := ⟨x 0, x 1, by idx_ext⟩
    exact (pay6_at _ _ _ r j).trans (tile_at m c t 1024 _ _ r j _ rfl (Nat.add_assoc 1024 0 j.val).symm (by omega))

theorem out6 (c : Dev nD) : (dats m 0 c).arrAt 6 cfg0.N
    = Cert.InprojRefIdeal.Read.val_main_v21 (F := Ideal) (a0 m c) (a1 m c) (a2 m c) := by
  refine (dats m 0 c).arrAt_eq_of_covers 6 _ (by decide +kernel) fun t hf y => ?_
  have ht : t.val < 32 := t.isLt
  blk_simp
  rw [after0_6]
  unfold_out out0_6
  canon_tiles x h
  · rw [show (((cfg0.win 6).blk t).view.emb y) = ix2 (⟨t.val * 1024 + (x 0).val, by omega⟩ : Fin 32768) (⟨512 + (x 1).val, by omega⟩ : Fin 1024) from by blk_ext [idx t], v21_at]
    obtain ⟨r, j, rfl⟩ : ∃ (r : Fin 1024) (j : Fin 512), x = ix2 r j := ⟨x 0, x 1, by idx_ext⟩
    exact (pay10_at _ _ _ r j).trans (tile_at m c t 3072 _ _ r j _ rfl (Nat.add_assoc 2560 512 j.val).symm (by omega))
  · rw [show (((cfg0.win 6).blk t).view.emb y) = ix2 (⟨t.val * 1024 + (x 0).val, by omega⟩ : Fin 32768) (⟨0 + (x 1).val, by omega⟩ : Fin 1024) from by blk_ext [idx t], v21_at]
    obtain ⟨r, j, rfl⟩ : ∃ (r : Fin 1024) (j : Fin 512), x = ix2 r j := ⟨x 0, x 1, by idx_ext⟩
    exact (pay9_at _ _ _ r j).trans (tile_at m c t 2560 _ _ r j _ rfl (Nat.add_assoc 2560 0 j.val).symm (by omega))

end Tiles

end Cert.InprojV

end
-- ==== Proof.InprojS.lean ====
/-
  The input projection's narrow output: the gates' columns at full width, padded to a tile of lanes.
-/
module

public import proofs.«01_k».proof.Proof.InprojO
public import proofs.«01_k».proof.Defs
public import proofs.«01_k».proof.Proof.Gen.Inproj.Frame
public import proofs.«01_k».proof.Proof.Gen.Pre_finite

@[expose] public section

set_option maxRecDepth 16384

noncomputable section

namespace Cert.InprojV

open Idealize.ShloMosaic Idealize.ShloMosaic.TcCoe Idealize.SL.Sem
open Cert.Rms
open Idealize.ShloMosaic.Pipeline

section Scatter
open Cert.InprojIdeal Cert.InprojIdeal.Gen

/-- The scatter's one start index, zero. -/
abbrev at0 : IVec S1 32 := broadcastInDim S1 ![] bcast_S_S1 (constantI S_ 32 0#32)

theorem start0 (u : S1024x8.Idx) (a : Fin 2) : scatter_S1024x128_S1_S1024x8_01_n_1_0.start u at0 a = 0 := by
  unfold ScatterDims.start
  split
  · rfl
  · rfl

theorem window0 (u : S1024x8.Idx) : scatter_S1024x128_S1_S1024x8_01_n_1_0.window u 0 = (u 0).val := by
  unfold ScatterDims.window
  rw [dif_pos (by decide)]
  rfl

theorem window1 (u : S1024x8.Idx) : scatter_S1024x128_S1_S1024x8_01_n_1_0.window u 1 = (u 1).val := by
  unfold ScatterDims.window
  rw [dif_pos (by decide)]
  rfl

theorem lands (u : S1024x8.Idx) (k : Fin 1024) (J : Fin 128) :
    scatter_S1024x128_S1_S1024x8_01_n_1_0.resultIdx? u at0 = some (ix2 k J) ↔ (u 0).val = k.val ∧ (u 1).val = J.val := by
  rw [Routing.resultIdx?_eq_some]
  constructor
  · intro h
    have h0 := h 0
    have h1 := h 1
    rw [start0, window0] at h0
    rw [start0, window1] at h1
    have e0 : ((ix2 k J 0 : Fin 1024)).val = k.val := rfl
    have e1 : ((ix2 k J 1 : Fin 128)).val = J.val := rfl
    exact ⟨by omega, by omega⟩
  · rintro ⟨h0, h1⟩ a
    match a with
    | ⟨0, _⟩ =>
      refine (congrArg₂ (· + ·) (start0 u 0) (congrArg Nat.cast (window0 u))).trans ?_
      show (0 : Int) + _ = _
      rw [h0]; exact Int.zero_add _
    | ⟨1, _⟩ =>
      refine (congrArg₂ (· + ·) (start0 u 1) (congrArg Nat.cast (window1 u))).trans ?_
      show (0 : Int) + _ = _
      rw [h1]; exact Int.zero_add _

theorem wsmall_hit (w : Vec Ideal S1024x3592 .f32) (k : Fin 1024) (J : Fin 128) (h : J.val < 8) :
    wsmall w (ix2 k J) = w (ix2 k (⟨3584 + J.val, by omega⟩ : Fin 3592)) := by
  unfold wsmall
  refine Routing.scatter_set_hit _ _ _ _ _ _ (fun u hu => ?_) (ix2 k (⟨J.val, h⟩ : Fin 8)) ((lands _ k J).2 ⟨rfl, rfl⟩)
  obtain ⟨h0, h1⟩ := (lands u k J).1 hu
  obtain ⟨a, b, rfl⟩ : ∃ (a : Fin 1024) (b : Fin 8), u = ix2 a b := ⟨u 0, u 1, by idx_ext⟩
  obtain rfl : a = k := Fin.ext h0
  obtain rfl : b = ⟨J.val, h⟩ := Fin.ext h1
  pointwise

theorem wsmall_miss (w : Vec Ideal S1024x3592 .f32) (k : Fin 1024) (J : Fin 128) (h : 8 ≤ J.val) :
    wsmall w (ix2 k J) = 0 := by
  unfold wsmall
  rw [Routing.scatter_set_miss _ _ _ _ _ fun u hu => ?_]
  · pointwise
  · have := ((lands u k J).1 hu).2
    have : (u 1).val < 8 := (u 1).isLt
    omega

end Scatter

section Real

/-- The two compensating products vanish over real numbers. -/
theorem split_sum (x w : Fin 1024 → EReal) (hx : ∀ k, IsReal (x k)) (hw : ∀ k, IsReal (w k)) :
    (∑ k, x k * w k) + ((∑ k, x k * (w k - w k)) + ∑ k, (x k - x k) * w k) = ∑ k, x k * w k := by
  have e1 : ∑ k, x k * (w k - w k) = 0 := Finset.sum_eq_zero fun k _ => by rw [(hw k).sub_self, mul_zero]
  have e2 : ∑ k, (x k - x k) * w k = 0 := Finset.sum_eq_zero fun k _ => by rw [(hx k).sub_self, zero_mul]
  rw [e1, e2, add_zero, add_zero]

theorem split_zero (x w : Fin 1024 → EReal) (hw : ∀ k, w k = 0) :
    (∑ k, x k * w k) + ((∑ k, x k * (w k - w k)) + ∑ k, (x k - x k) * w k) = 0 := by
  simp [hw]

end Real

section Small
open Cert.InprojIdeal Cert.InprojIdeal.Gen

theorem v22_in (x0 : Vec Ideal S8x4096x1024 .f32) (x1 : Vec Ideal S1024 .f32) (x2 : Vec Ideal S1024x3592 .f32) (R : Fin 32768) (J : Fin 128) (h : J.val < 8) :
    Cert.InprojRefIdeal.Read.val_main_v22 (F := Ideal) x0 x1 x2 (ix2 R J)
      = Cert.InprojRefIdeal.Read.val_main_v14 (F := Ideal) x0 x1 x2 (ix2 R (⟨3584 + J.val, by omega⟩ : Fin 3592)) := by
  pointwise [Cert.InprojRefIdeal.Read.val_main_v22, Cert.InprojRefIdeal.Read.val_main_v18]
  rw [dif_pos h]

theorem v22_out (x0 : Vec Ideal S8x4096x1024 .f32) (x1 : Vec Ideal S1024 .f32) (x2 : Vec Ideal S1024x3592 .f32) (R : Fin 32768) (J : Fin 128) (h : 8 ≤ J.val) :
    Cert.InprojRefIdeal.Read.val_main_v22 (F := Ideal) x0 x1 x2 (ix2 R J) = 0 := by
  pointwise [Cert.InprojRefIdeal.Read.val_main_v22, Cert.InprojRefIdeal.Read.val_main_v18, Cert.InprojRefIdeal.Read.val_main_call0_v0, Cert.InprojRefIdeal.Read.val_main_c]
  rw [dif_neg (by omega)]
  show ((((0#32).toInt : ℤ) : ℝ) : EReal) = 0
  simp

variable (m : (ℓ : Loc nD τ sig) → Buf (Elt Ideal) ℓ)

theorem out7 (c : Dev nD) (q1 : ∀ i, IsReal (a1 m c i))
    (q2 : ∀ (k : Fin 1024) (j : Fin 8), IsReal (a2 m c (ix2 k (⟨3584 + j.val, by omega⟩ : Fin 3592)))) : (dats m 0 c).arrAt 7 cfg0.N
    = Cert.InprojRefIdeal.Read.val_main_v22 (F := Ideal) (a0 m c) (a1 m c) (a2 m c) := by
  refine (dats m 0 c).arrAt_eq_of_covers 7 _ (by decide +kernel) fun t hf y => ?_
  have ht : t.val < 32 := t.isLt
  blk_simp
  rw [after0_7]
  unfold_out out0_7
  canon_tiles x h
  rw [show (((cfg0.win 7).blk t).view.emb y) = ix2 (⟨t.val * 1024 + (x 0).val, by omega⟩ : Fin 32768) (⟨(x 1).val, by omega⟩ : Fin 128) from by blk_ext [idx t]]
  obtain ⟨r, J, rfl⟩ : ∃ (r : Fin 1024) (j : Fin 128), x = ix2 r j := ⟨x 0, x 1, by idx_ext⟩
  refine (pay14_at _ _ r J).trans ?_
  have ew : ∀ k, View.ld (iblk m c 3 t) r0_14 (ix2 k J) = wsmall (a2 m c) (ix2 k J) := fun k => by rw [ld14, blk3, V6]
  simp only [ew]
  by_cases hJ : J.val < 8
  · rw [split_sum _ _ (fun k => ?_) (fun k => ?_)]
    · refine Eq.trans ?_ (v22_in _ _ _ _ _ hJ).symm
      simp only [pay2_at, ld0, ld1]
      exact tile m c t _ r rfl _ _ fun k => wsmall_hit _ k J hJ
    · rw [pay2_at, ld0, ld1]
      refine rms_real _ _ (fun j => ?_) k
      rw [blk1]; exact q1 _
    · rw [wsmall_hit _ k J hJ]; exact q2 k ⟨J.val, hJ⟩
  · refine (split_zero _ _ fun k => wsmall_miss _ k J (by omega)).trans (v22_out _ _ _ _ _ ?_).symm
    exact Nat.le_of_not_lt hJ

end Small

section Pre
open Cert.InprojIdeal Cert.InprojIdeal.Gen

variable [Cert.Pre_finite.Facts] (m : (ℓ : Loc nD τ sig) → Buf (Elt Ideal) ℓ)

theorem pre_real (h : Cert.Pre_InprojIdeal_finite m) (c : Dev nD) :
    (∀ i, IsReal (a1 m c i)) ∧ ∀ (k : Fin 1024) (j : Fin 8), IsReal (a2 m c (ix2 k (⟨3584 + j.val, by omega⟩ : Fin 3592))) := by
  obtain ⟨p1, p2⟩ := h c
  unfold a1 a2
  generalize m _ = X1 at p1 p2 ⊢
  generalize m _ = X2 at p1 p2 ⊢
  refine ⟨fun i => ?_, fun k j => ?_⟩
  · have e := congrFun p1 i
    pointwise [Cert.Pre_finite.fn] at e
    exact real_of_olt e
  · have e := congrFun p2 (ix2 k j)
    pointwise [Cert.Pre_finite.fn] at e
    exact real_of_olt e

end Pre

section Claims

theorem frame_p : Cert.quiescent_Inproj := fun m ρ _ => Cert.Inproj.Gen.frame m ρ

theorem frame_pi : Cert.quiescent_InprojIdeal := fun m ρ _ => Cert.InprojIdeal.Gen.frame m ρ

theorem frame_ri : Cert.quiescent_InprojRefIdeal := fun m ρ _ =>
  (θ_run Cert.InprojRefIdeal.defs _ _).mono (fun r h => ⟨fun c => (h c).2.2.2.2, sem_eq_zero_of_no_sems (by decide) r.2⟩)
    (Cert.InprojRefIdeal.Value.run (F := Ideal) m ρ)

/-- The four arrays of the input projection, from gains and narrow columns without an infinity. -/
theorem algebraic : Cert.algebraic_InprojIdeal_InprojRefIdeal_pre_finite := by
  intro m ρ m' ρ' hpre hagree
  refine ⟨_, _, _, _, Cert.InprojIdeal.Value.run_blocks (F := Ideal) m ρ, ?_⟩
  refine (θ_run Cert.InprojRefIdeal.defs _ _).mono (fun r h c => ?_) (Cert.InprojRefIdeal.Value.run (F := Ideal) m' ρ')
  obtain ⟨g0, g1, g2⟩ := hagree c
  obtain ⟨q1, q2⟩ := pre_real m hpre c
  obtain ⟨h0, h1, h2, h3, h4⟩ := h c
  rw [g0, g1, g2] at h0 h1 h2 h3
  exact ⟨h0.trans (out4 m c).symm, h1.trans (out5 m c).symm, h2.trans (out6 m c).symm, h3.trans (out7 m c q1 q2).symm, h4⟩

end Claims

end Cert.InprojV

end
-- ==== Proof.FfnA.lean ====
/-
  The feed-forward block: what one run of its kernel leaves in the output block, as one expression per chunk of the
  hidden width.
-/
module

public import proofs.«01_k».proof.Defs
public import proofs.«01_k».proof.Proof.Gen.FfnIdeal.Value
public import Idealize.ShloMosaic.Lib.Pipeline.ReadBack
public import Idealize.ShloMosaic.Lib.Pipeline.ValueKit
public import Idealize.ShloMosaic.Lib.Pointwise

@[expose] public section

set_option maxRecDepth 16384

noncomputable section

namespace Cert.FfnV

open Idealize.ShloMosaic Idealize.ShloMosaic.TcCoe Idealize.SL.Sem
open Idealize.ShloMosaic.Pipeline
open Cert.FfnIdeal Cert.FfnIdeal.Gen

variable {F : FTy → Type} [FloatOps F]

theorem inbU : ∀ (c : Fin 11) (a : Fin 3), (![c.val, 0, 0] : Fin 3 → Nat) a + S1x1024x256.size a ≤ S11x1024x256.size a := by
  decide

theorem inbC : ∀ (c : Fin 11) (a : Fin 3), (![c.val, 0, 0] : Fin 3 → Nat) a + S1x3x256.size a ≤ S11x3x256.size a := by
  decide

theorem inbB : ∀ (c : Fin 11) (a : Fin 3), (![c.val, 0, 0] : Fin 3 → Nat) a + S1x1x256.size a ≤ S11x1x256.size a := by
  decide

theorem inbD : ∀ (c : Fin 11) (a : Fin 3), (![c.val, 0, 0] : Fin 3 → Nat) a + S1x256x1024.size a ≤ S11x256x1024.size a := by
  decide

/-- A chunk's up-projection weights. -/
def ldU (X : Vec F S11x1024x256 .bf16) (c : Fin 11) : Vec F S1x1024x256 .bf16 :=
  View.ld X (Rect.unit (s := S11x1024x256) ![c.val, 0, 0] S1x1024x256.size (inbU c))

/-- A chunk's filter. -/
def ldC (X : Vec F S11x3x256 .f32) (c : Fin 11) : Vec F S1x3x256 .f32 :=
  View.ld X (Rect.unit (s := S11x3x256) ![c.val, 0, 0] S1x3x256.size (inbC c))

/-- A chunk's bias. -/
def ldB (X : Vec F S11x1x256 .f32) (c : Fin 11) : Vec F S1x1x256 .f32 :=
  View.ld X (Rect.unit (s := S11x1x256) ![c.val, 0, 0] S1x1x256.size (inbB c))

/-- A chunk's down-projection weights. -/
def ldD (X : Vec F S11x256x1024 .bf16) (c : Fin 11) : Vec F S1x256x1024 .bf16 :=
  View.ld X (Rect.unit (s := S11x256x1024) ![c.val, 0, 0] S1x256x1024.size (inbD c))

/-- The down-projection of a chunk's activations. -/
def dn (a : FVec F S512x256 .bf16) (w : Vec F S1x256x1024 .bf16) : FVec F S512x1024 .f32 :=
  matmul dot_S512x256_S256x1024_S512x1024_1_0_0_1_n_n none a (shapeCast S256x1024 w shapeCasts_S1x256x1024_S256x1024)
    (constant S512x1024 .f32 0x00000000#32)

/-- A chunk's activations: the gated product of the two filtered up-projections. -/
def act (h : FVec F S512x1024 .bf16) (hp : FVec F S16x1024 .bf16) (keep : F .f32) (wg wv : Vec F S1x1024x256 .bf16)
    (cg cv : Vec F S1x3x256 .f32) (bg bv : Vec F S1x1x256 .f32) : FVec F S512x256 .bf16 :=
  k0_pay109 (k0_pay45 h wv) (k0_pay46 keep hp wv) (k0_pay65 (k0_pay43 h wg) (k0_pay44 keep hp wg) cg bg) cv bv

/-- What a chunk adds to the output block. -/
def chunk (i : grid0.Coords) (x0 : Vec F S512x1024 .f32) (x1 : Vec F S16x1024 .f32) (x2 : Vec F S1x1024 .f32) (x3 : Vec F S11x1024x256 .bf16) (x4 : Vec F S11x1024x256 .bf16) (x5 : Vec F S11x3x256 .f32) (x6 : Vec F S11x3x256 .f32) (x7 : Vec F S11x1x256 .f32) (x8 : Vec F S11x1x256 .f32) (x9 : Vec F S11x256x1024 .bf16) (c : Fin 11) : FVec F S512x1024 .f32 :=
  dn (act (k0_pay4 x0 x2) (k0_pay8 (k0_pay3 x2) (k0_pay6 x1) (k0_pay7 x1)) (k0_pay5 i)
    (ldU x3 c) (ldU x4 c) (ldC x5 c) (ldC x6 c) (ldB x7 c) (ldB x8 c)) (ldD x9 c)

/-- A value added to the output block as it is loaded. -/
def acc (o p : FVec F S512x1024 .f32) : FVec F S512x1024 .f32 :=
  addf (shapeCast S512x1024 o shapeCasts_S512x1024_S512x1024) p

set_option maxHeartbeats 4000000 in
theorem out_eq (c : Dev nD) (i : grid0.Coords) (arg1 : Memref sig .tc .vmem S512x1024 .f32) (harg1 : arg1.IsWhole) (arg2 : Memref sig .tc .vmem S16x1024 .f32) (harg2 : arg2.IsWhole) (arg3 : Memref sig .tc .vmem S1x1024 .f32) (harg3 : arg3.IsWhole) (arg4 : Memref sig .tc .vmem S11x1024x256 .bf16) (harg4 : arg4.IsWhole) (arg5 : Memref sig .tc .vmem S11x1024x256 .bf16) (harg5 : arg5.IsWhole) (arg6 : Memref sig .tc .vmem S11x3x256 .f32) (harg6 : arg6.IsWhole) (arg7 : Memref sig .tc .vmem S11x3x256 .f32) (harg7 : arg7.IsWhole) (arg8 : Memref sig .tc .vmem S11x1x256 .f32) (harg8 : arg8.IsWhole) (arg9 : Memref sig .tc .vmem S11x1x256 .f32) (harg9 : arg9.IsWhole) (arg10 : Memref sig .tc .vmem S11x256x1024 .bf16) (harg10 : arg10.IsWhole) (arg11 : Memref sig .tc .vmem S512x1024 .f32) (harg11 : arg11.IsWhole)
    (x0 : Vec F S512x1024 .f32) (x1 : Vec F S16x1024 .f32) (x2 : Vec F S1x1024 .f32) (x3 : Vec F S11x1024x256 .bf16) (x4 : Vec F S11x1024x256 .bf16) (x5 : Vec F S11x3x256 .f32) (x6 : Vec F S11x3x256 .f32) (x7 : Vec F S11x1x256 .f32) (x8 : Vec F S11x1x256 .f32) (x9 : Vec F S11x256x1024 .bf16) :
    out0_A_10 c i arg1 harg1 arg2 harg2 arg3 harg3 arg4 harg4 arg5 harg5 arg6 harg6 arg7 harg7 arg8 harg8 arg9 harg9 arg10 harg10 arg11 harg11 x0 x1 x2 x3 x4 x5 x6 x7 x8 x9
      = acc (acc (acc (k0_pay2 x0)
          (addf (addf (addf (chunk i x0 x1 x2 x3 x4 x5 x6 x7 x8 x9 0) (chunk i x0 x1 x2 x3 x4 x5 x6 x7 x8 x9 1)) (chunk i x0 x1 x2 x3 x4 x5 x6 x7 x8 x9 2)) (chunk i x0 x1 x2 x3 x4 x5 x6 x7 x8 x9 3)))
          (addf (addf (addf (chunk i x0 x1 x2 x3 x4 x5 x6 x7 x8 x9 4) (chunk i x0 x1 x2 x3 x4 x5 x6 x7 x8 x9 5)) (chunk i x0 x1 x2 x3 x4 x5 x6 x7 x8 x9 6)) (chunk i x0 x1 x2 x3 x4 x5 x6 x7 x8 x9 7)))
          (addf (addf (chunk i x0 x1 x2 x3 x4 x5 x6 x7 x8 x9 8) (chunk i x0 x1 x2 x3 x4 x5 x6 x7 x8 x9 9)) (chunk i x0 x1 x2 x3 x4 x5 x6 x7 x8 x9 10)) := by
  frame_open
  simp (disch := decide) only [↓ View.readCov_skip, ↓ View.readCov_cons_toLoadRect, ↓ View.readCov_fill]
  frame_out
  rfl

end Cert.FfnV

end
-- ==== Proof.FfnR.lean ====
/-
  The feed-forward block's reference, index by index.
-/
module

public import proofs.«01_k».proof.Defs
public import proofs.«01_k».proof.Proof.Rms
public import proofs.«01_k».proof.Proof.Gen.FfnRefIdeal.Run
public import proofs.«01_k».proof.Proof.Gen.FfnRefIdeal.Read
public import Idealize.ShloMosaic.Lib.Pipeline.ValueKit
public import Idealize.ShloMosaic.Lib.Pointwise

@[expose] public section

set_option maxRecDepth 16384

noncomputable section

namespace Cert.FfnV

open Idealize.ShloMosaic Idealize.ShloMosaic.TcCoe Idealize.SL.Sem
open Cert.Rms

/-- A gate's activation. -/
def silu (g : EReal) : EReal :=
  g * Ideal.div (Ideal.ofBits .f32 0x3F800000#32) (Ideal.ofBits .f32 0x3F800000#32 + Ideal.exp (-g))

section Ref
open Cert.FfnRefIdeal Cert.FfnRefIdeal.Gen Cert.FfnRefIdeal.Read

variable (x0 : (⟨S8x4096x1024, .f32⟩ : BufTy).Contents (Elt Ideal)) (x1 : (⟨S1024, .f32⟩ : BufTy).Contents (Elt Ideal))
  (x2 : (⟨S1024x5632, .f32⟩ : BufTy).Contents (Elt Ideal)) (x3 : (⟨S3x5632, .f32⟩ : BufTy).Contents (Elt Ideal))
  (x4 : (⟨S5632, .f32⟩ : BufTy).Contents (Elt Ideal)) (x5 : (⟨S2816x1024, .f32⟩ : BufTy).Contents (Elt Ideal))

/-- The up-projection of a position. -/
def up (b : Fin 8) (s : Fin 4096) (J : Fin 5632) : EReal :=
  ∑ k, rms (fun j => x0 (ix3 b s j)) (fun j => x1 (ix1 j)) k * x2 (ix2 k J)

/-- The up-projection of the position `k` before, nothing before the sequence starts. -/
def upPrev (k : Nat) (b : Fin 8) (s : Fin 4096) (J : Fin 5632) : EReal :=
  if k ≤ s.val then up x0 x1 x2 b ⟨s.val - k, by omega⟩ J else 0

/-- The filtered up-projection of a position. -/
def filt (b : Fin 8) (s : Fin 4096) (J : Fin 5632) : EReal :=
  up x0 x1 x2 b s J * x3 (ix2 2 J) + x4 (ix1 J) + upPrev x0 x1 x2 1 b s J * x3 (ix2 1 J) + upPrev x0 x1 x2 2 b s J * x3 (ix2 0 J)

theorem ref_row (b : Fin 8) (s : Fin 4096) (k : Fin 1024) :
    val_main_v12 x0 x1 (ix3 b s k) = rms (fun j => x0 (ix3 b s j)) (fun j => x1 (ix1 j)) k := by
  pointwise [val_main_v12, val_main_v11, val_main_v10, val_main_v9, val_main_v8, val_main_v7, val_main_v6, val_main_v5, val_main_cst_1,
    val_main_v4, val_main_v3, val_main_cst_0, val_main_v2, val_main_v1, val_main_cst, val_main_v0, rms]

theorem ref_up (b : Fin 8) (s : Fin 4096) (J : Fin 5632) : val_main_v13 x0 x1 x2 (ix3 b s J) = up x0 x1 x2 b s J := by
  pointwise [val_main_v13, ref_row, up]

theorem pad_zero : (FloatOps.sitofp (F := Ideal) FTy.f32 0#32 : EReal) = 0 := by
  show (((0#32).toInt : ℝ) : EReal) = 0
  simp

theorem ref_pad (b : Fin 8) (s : Fin 4098) (J : Fin 5632) :
    val_main_v14 x0 x1 x2 (ix3 b s J) = if h : 2 ≤ s.val then up x0 x1 x2 b ⟨s.val - 2, by omega⟩ J else 0 := by
  pointwise [val_main_v14, ref_up, val_main_call0_v0, val_main_c]
  rw [pad_zero]
  by_cases h : 2 ≤ s.val
  · rw [dif_pos h, dif_pos ⟨h, by omega⟩]
  · rw [dif_neg h, dif_neg fun q => h q.1]

theorem ref_filt (b : Fin 8) (s : Fin 4096) (J : Fin 5632) : val_main_v39 x0 x1 x2 x3 x4 (ix3 b s J) = filt x0 x1 x2 x3 x4 b s J := by
  pointwise [val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_cst_2, ref_pad]
  unfold filt upPrev
  have e : (if h : 2 ≤ 1 + s.val then up x0 x1 x2 b ⟨1 + s.val - 2, by omega⟩ J else 0) = if 1 ≤ s.val then up x0 x1 x2 b ⟨s.val - 1, by omega⟩ J else 0 := by
    by_cases h : 1 ≤ s.val
    · rw [dif_pos (by omega), if_pos h]
      exact congrArg (fun q => up x0 x1 x2 b q J) (Fin.ext (by show 1 + s.val - 2 = s.val - 1; omega))
    · rw [dif_neg (by omega), if_neg h]
  have e2 : (if h : 2 ≤ s.val then up x0 x1 x2 b ⟨s.val - 2, by omega⟩ J else 0) = if 2 ≤ s.val then up x0 x1 x2 b ⟨s.val - 2, by omega⟩ J else 0 := by
    by_cases h : 2 ≤ s.val
    · rw [dif_pos h, if_pos h]
    · rw [dif_neg h, if_neg h]
  rw [e, e2]
  rw [mul_comm (x3 (ix2 0 J)), mul_comm (x3 (ix2 1 J)), mul_comm (x3 (ix2 2 J))]
  generalize up x0 x1 x2 b s J * x3 (ix2 2 J) = A
  generalize _ * x3 (ix2 1 J) = B
  generalize _ * x3 (ix2 0 J) = C
  abel

theorem ref_act (b : Fin 8) (s : Fin 4096) (J : Fin 2816) :
    val_main_v43 x0 x1 x2 x3 x4 (ix3 b s J) = silu (filt x0 x1 x2 x3 x4 b s ⟨J.val, by omega⟩) * filt x0 x1 x2 x3 x4 b s ⟨2816 + J.val, by omega⟩ := by
  pointwise [val_main_v43, val_main_v42, val_main_call1_v5, val_main_call1_v4, val_main_call1_cst_0, val_main_call1_v3, val_main_call1_v2, val_main_call1_cst, val_main_call1_v1, val_main_call1_v0, val_main_v41, val_main_v40, ref_filt, silu]

theorem ref_out (R : Fin 32768) (n : Fin 1024) :
    val_main_v46 x0 x1 x2 x3 x4 x5 (ix2 R n) = x0 (ix3 (⟨R.val / 4096, by omega⟩ : Fin 8) (⟨R.val % 4096, by omega⟩ : Fin 4096) n)
      + ∑ J : Fin 2816, (silu (filt x0 x1 x2 x3 x4 (⟨R.val / 4096, by omega⟩ : Fin 8) (⟨R.val % 4096, by omega⟩ : Fin 4096) ⟨J.val, by omega⟩)
        * filt x0 x1 x2 x3 x4 (⟨R.val / 4096, by omega⟩ : Fin 8) (⟨R.val % 4096, by omega⟩ : Fin 4096) ⟨2816 + J.val, by omega⟩) * x5 (ix2 J n) := by
  pointwise [val_main_v46, val_main_v45, val_main_v44, ref_act]

end Ref

end Cert.FfnV

end
-- ==== Proof.FfnB.lean ====
/-
  The feed-forward block's chunks, index by index.
-/
module

public import proofs.«01_k».proof.Proof.FfnA
public import proofs.«01_k».proof.Proof.FfnR

@[expose] public section

set_option maxRecDepth 16384

noncomputable section

namespace Cert.FfnV

open Idealize.ShloMosaic Idealize.ShloMosaic.TcCoe Idealize.SL.Sem
open Idealize.ShloMosaic.Pipeline
open Cert.Rms
open Cert.FfnIdeal Cert.FfnIdeal.Gen

theorem row_at (x0 : Vec Ideal S512x1024 .f32) (x2 : Vec Ideal S1x1024 .f32) (r : Fin 512) (k : Fin 1024) :
    k0_pay4 x0 x2 (ix2 r k) = rms (fun j => x0 (ix2 r j)) (fun j => x2 (ix2 0 j)) k := by
  pointwise [k0_pay4, k0_pay3, k0_pay2, rms]

theorem halo_at (x1 : Vec Ideal S16x1024 .f32) (x2 : Vec Ideal S1x1024 .f32) (r : Fin 16) (k : Fin 1024) :
    k0_pay8 (k0_pay3 x2) (k0_pay6 x1) (k0_pay7 x1) (ix2 r k) = rms (fun j => x1 (ix2 r j)) (fun j => x2 (ix2 0 j)) k := by
  pointwise [k0_pay8, k0_pay7, k0_pay6, k0_pay3, rms]

theorem ug_at (h : FVec Ideal S512x1024 .bf16) (w : Vec Ideal S1x1024x256 .bf16) (r : Fin 512) (j : Fin 256) :
    k0_pay43 h w (ix2 r j) = ∑ k, h (ix2 r k) * w (ix3 0 k j) := by
  pointwise [k0_pay43, k0_pay41]

theorem uv_at (h : FVec Ideal S512x1024 .bf16) (w : Vec Ideal S1x1024x256 .bf16) (r : Fin 512) (j : Fin 256) :
    k0_pay45 h w (ix2 r j) = ∑ k, h (ix2 r k) * w (ix3 0 k j) := by
  pointwise [k0_pay45, k0_pay42]

theorem ugp_at (keep : EReal) (h : FVec Ideal S16x1024 .bf16) (w : Vec Ideal S1x1024x256 .bf16) (r : Fin 16) (j : Fin 256) :
    k0_pay44 (F := Ideal) keep h w (ix2 r j) = (∑ k, h (ix2 r k) * w (ix3 0 k j)) * keep := by
  pointwise [k0_pay44, k0_pay41]

theorem uvp_at (keep : EReal) (h : FVec Ideal S16x1024 .bf16) (w : Vec Ideal S1x1024x256 .bf16) (r : Fin 16) (j : Fin 256) :
    k0_pay46 (F := Ideal) keep h w (ix2 r j) = (∑ k, h (ix2 r k) * w (ix3 0 k j)) * keep := by
  pointwise [k0_pay46, k0_pay42]

/-- A block's rows shifted down by some rows, the rows before it taken from the halo's last. -/
def shiftRows (k : BitVec 32) (u : FVec Ideal S512x256 .f32) (p : FVec Ideal S16x256 .f32) : FVec Ideal S512x256 .f32 :=
  concatenate S512x256 0
    [⟨S8x256, select (cmpi .slt (iota .tc S8x256 32 [0] iota_S8x256_d0_w32) (broadcast S8x256 k))
        (extractStridedSlice S8x256 ![0, 0] (dynamicRotate 0 k none p rotates_S16x256_d0) slices_S16x256_o0_0_S8x256)
        (extractStridedSlice S8x256 ![0, 0] (dynamicRotate 0 k none u rotates_S512x256_d0) slices_S512x256_o0_0_S8x256)⟩,
      ⟨S504x256, extractStridedSlice S504x256 ![8, 0] (dynamicRotate 0 k none u rotates_S512x256_d0) slices_S512x256_o8_0_S504x256⟩]
    concatenates_S8x256_S504x256_S512x256_d0

/-- The filter over a block's rows. -/
def conv (u : FVec Ideal S512x256 .f32) (p : FVec Ideal S16x256 .f32) (cw : Vec Ideal S1x3x256 .f32) (b : Vec Ideal S1x1x256 .f32) :
    FVec Ideal S512x256 .f32 :=
  addf (addf (addf (mulf u (broadcastTo S512x256 (extractStridedSlice S1x256 ![2, 0] (shapeCast S3x256 cw shapeCasts_S1x3x256_S3x256) slices_S3x256_o2_0_S1x256) broadcasts_S1x256_S512x256))
        (broadcastTo S512x256 (shapeCast S1x256 b shapeCasts_S1x1x256_S1x256) broadcasts_S1x256_S512x256))
      (mulf (shiftRows 1#32 u p) (broadcastTo S512x256 (extractStridedSlice S1x256 ![1, 0] (shapeCast S3x256 cw shapeCasts_S1x3x256_S3x256) slices_S3x256_o1_0_S1x256) broadcasts_S1x256_S512x256)))
    (mulf (shiftRows 2#32 u p) (broadcastTo S512x256 (extractStridedSlice S1x256 ![0, 0] (shapeCast S3x256 cw shapeCasts_S1x3x256_S3x256) slices_S3x256_o0_0_S1x256) broadcasts_S1x256_S512x256))

theorem pay65_eq (u : FVec Ideal S512x256 .f32) (p : FVec Ideal S16x256 .f32) (cw : Vec Ideal S1x3x256 .f32) (b : Vec Ideal S1x1x256 .f32) :
    k0_pay65 u p cw b = conv u p cw b := rfl

theorem pay109_eq (u : FVec Ideal S512x256 .f32) (p : FVec Ideal S16x256 .f32) (g : FVec Ideal S512x256 .f32) (cw : Vec Ideal S1x3x256 .f32) (b : Vec Ideal S1x1x256 .f32) :
    k0_pay109 u p g cw b = truncf .bf16 (mulf (mulf g (divf (broadcast S512x256 (Scalar.ofBits .f32 0x3F800000#32))
      (addf (broadcast S512x256 (Scalar.ofBits .f32 0x3F800000#32)) (exp (subf (broadcast S512x256 (Scalar.ofBits .f32 0x00000000#32)) g))))) (conv u p cw b)) bitsLt_bf16_f32 := rfl

theorem slt1 : ∀ r : Fin 8, IntOp.cmpi CmpIPredicate.slt (BitVec.ofNat 32 r.val) 1#32 = if 1 ≤ r.val then 0#1 else 1#1 := by
  decide

theorem slt2 : ∀ r : Fin 8, IntOp.cmpi CmpIPredicate.slt (BitVec.ofNat 32 r.val) 2#32 = if 2 ≤ r.val then 0#1 else 1#1 := by
  decide

theorem shift1_at (u : FVec Ideal S512x256 .f32) (p : FVec Ideal S16x256 .f32) (r : Fin 512) (j : Fin 256) :
    shiftRows 1#32 u p (ix2 r j) = if h : 1 ≤ r.val then u (ix2 (⟨r.val - 1, by omega⟩ : Fin 512) j) else p (ix2 (⟨15 + r.val, by omega⟩ : Fin 16) j) := by
  pointwise [shiftRows]
  by_cases h8 : r.val < 8
  · rw [dif_pos h8, slt1 ⟨r.val, h8⟩]
    by_cases h : 1 ≤ r.val
    · rw [dif_pos h, if_pos h]
      show u _ = _
      exact congrArg (fun q => u (ix2 q j)) (Fin.ext (by show (r.val + 512 - 1) % 512 = r.val - 1; omega))
    · rw [dif_neg h, if_neg h]
      show p _ = _
      exact congrArg (fun q => p (ix2 q j)) (Fin.ext (by show (r.val + 16 - 1) % 16 = 15 + r.val; omega))
  · rw [dif_neg h8, dif_pos (by omega)]
    exact congrArg (fun q => u (ix2 q j)) (Fin.ext (by show (8 + (r.val - 8) + 512 - 1) % 512 = r.val - 1; omega))

theorem shift2_at (u : FVec Ideal S512x256 .f32) (p : FVec Ideal S16x256 .f32) (r : Fin 512) (j : Fin 256) :
    shiftRows 2#32 u p (ix2 r j) = if h : 2 ≤ r.val then u (ix2 (⟨r.val - 2, by omega⟩ : Fin 512) j) else p (ix2 (⟨14 + r.val, by omega⟩ : Fin 16) j) := by
  pointwise [shiftRows]
  by_cases h8 : r.val < 8
  · rw [dif_pos h8, slt2 ⟨r.val, h8⟩]
    by_cases h : 2 ≤ r.val
    · rw [dif_pos h, if_pos h]
      show u _ = _
      exact congrArg (fun q => u (ix2 q j)) (Fin.ext (by show (r.val + 512 - 2) % 512 = r.val - 2; omega))
    · rw [dif_neg h, if_neg h]
      show p _ = _
      exact congrArg (fun q => p (ix2 q j)) (Fin.ext (by show (r.val + 16 - 2) % 16 = 14 + r.val; omega))
  · rw [dif_neg h8, dif_pos (by omega)]
    exact congrArg (fun q => u (ix2 q j)) (Fin.ext (by show (8 + (r.val - 8) + 512 - 2) % 512 = r.val - 2; omega))

theorem conv_at (u : FVec Ideal S512x256 .f32) (p : FVec Ideal S16x256 .f32) (cw : Vec Ideal S1x3x256 .f32) (b : Vec Ideal S1x1x256 .f32) (r : Fin 512) (j : Fin 256) :
    conv u p cw b (ix2 r j) = u (ix2 r j) * cw (ix3 0 2 j) + b (ix3 0 0 j) + shiftRows 1#32 u p (ix2 r j) * cw (ix3 0 1 j) + shiftRows 2#32 u p (ix2 r j) * cw (ix3 0 0 j) := by
  unfold conv
  generalize shiftRows 1#32 u p = s1
  generalize shiftRows 2#32 u p = s2
  pointwise

theorem pay109_at (u : FVec Ideal S512x256 .f32) (p : FVec Ideal S16x256 .f32) (g : FVec Ideal S512x256 .f32) (cw : Vec Ideal S1x3x256 .f32) (b : Vec Ideal S1x1x256 .f32) (r : Fin 512) (j : Fin 256) :
    k0_pay109 u p g cw b (ix2 r j) = silu (g (ix2 r j)) * conv u p cw b (ix2 r j) := by
  rw [pay109_eq]
  generalize conv u p cw b = v
  pointwise [silu]
  rw [zero_sub]

theorem dn_at (a : FVec Ideal S512x256 .bf16) (w : Vec Ideal S1x256x1024 .bf16) (r : Fin 512) (n : Fin 1024) :
    dn a w (ix2 r n) = ∑ k, a (ix2 r k) * w (ix3 0 k n) := by
  pointwise [dn]

theorem ldU_at (X : Vec Ideal S11x1024x256 .bf16) (c : Fin 11) (k : Fin 1024) (j : Fin 256) : ldU X c (ix3 0 k j) = X (ix3 c k j) := by
  refine View.ld_unit_apply_of X _ _ (inbU c) _ _ fun a => ?_
  match a with
  | ⟨0, _⟩ => rfl
  | ⟨1, _⟩ => exact (Nat.zero_add _).symm
  | ⟨2, _⟩ => exact (Nat.zero_add _).symm

theorem ldC_at (X : Vec Ideal S11x3x256 .f32) (c : Fin 11) (k : Fin 3) (j : Fin 256) : ldC X c (ix3 0 k j) = X (ix3 c k j) := by
  refine View.ld_unit_apply_of X _ _ (inbC c) _ _ fun a => ?_
  match a with
  | ⟨0, _⟩ => rfl
  | ⟨1, _⟩ => exact (Nat.zero_add _).symm
  | ⟨2, _⟩ => exact (Nat.zero_add _).symm

theorem ldB_at (X : Vec Ideal S11x1x256 .f32) (c : Fin 11) (j : Fin 256) : ldB X c (ix3 0 0 j) = X (ix3 c 0 j) := by
  refine View.ld_unit_apply_of X _ _ (inbB c) _ _ fun a => ?_
  match a with
  | ⟨0, _⟩ => rfl
  | ⟨1, _⟩ => rfl
  | ⟨2, _⟩ => exact (Nat.zero_add _).symm

theorem ldD_at (X : Vec Ideal S11x256x1024 .bf16) (c : Fin 11) (k : Fin 256) (n : Fin 1024) : ldD X c (ix3 0 k n) = X (ix3 c k n) := by
  refine View.ld_unit_apply_of X _ _ (inbD c) _ _ fun a => ?_
  match a with
  | ⟨0, _⟩ => rfl
  | ⟨1, _⟩ => exact (Nat.zero_add _).symm
  | ⟨2, _⟩ => exact (Nat.zero_add _).symm

end Cert.FfnV

end
-- ==== Proof.FfnC.lean ====
/-
  The feed-forward block's output block, as the reference's sum.
-/
module

public import proofs.«01_k».proof.Proof.FfnB

@[expose] public section

set_option maxRecDepth 16384

noncomputable section

namespace Cert.FfnV

open Idealize.ShloMosaic Idealize.ShloMosaic.TcCoe Idealize.SL.Sem
open Idealize.ShloMosaic.Pipeline
open Cert.Rms
open Cert.FfnIdeal Cert.FfnIdeal.Gen

variable (x0 : Vec Ideal S512x1024 .f32) (x1 : Vec Ideal S16x1024 .f32) (x2 : Vec Ideal S1x1024 .f32)
  (X0 : Vec Ideal S8x4096x1024 .f32) (X1 : Vec Ideal S1024 .f32) (X2 : Vec Ideal S1024x5632 .f32) (X3 : Vec Ideal S3x5632 .f32)
  (X4 : Vec Ideal S5632 .f32) (X5 : Vec Ideal S2816x1024 .f32)

/-- A block of 512 positions with the sixteen before it: the block starts at `s0` of its sequence. -/
structure Rows (b : Fin 8) (s0 : Nat) (hs : s0 + 512 ≤ 4096) (keep : EReal) : Prop where
  row : ∀ (r : Fin 512) (k : Fin 1024), x0 (ix2 r k) = X0 (ix3 b (⟨s0 + r.val, by omega⟩ : Fin 4096) k)
  halo : ∀ (_ : 16 ≤ s0) (r : Fin 16) (k : Fin 1024), x1 (ix2 r k) = X0 (ix3 b (⟨s0 - 16 + r.val, by omega⟩ : Fin 4096) k)
  gain : ∀ k : Fin 1024, x2 (ix2 0 k) = X1 (ix1 k)
  start : s0 = 0 ∨ 16 ≤ s0
  keep : keep = if s0 = 0 then 0 else 1

variable {x0 x1 x2 X0 X1}

theorem up_row {b : Fin 8} {s0 : Nat} {hs : s0 + 512 ≤ 4096} {keep : EReal} (H : Rows x0 x1 x2 X0 X1 b s0 hs keep)
    (w : Vec Ideal S1x1024x256 .bf16) (j : Fin 256) (J : Fin 5632) (hw : ∀ k, w (ix3 0 k j) = X2 (ix2 k J)) (r : Fin 512) :
    k0_pay43 (k0_pay4 x0 x2) w (ix2 r j) = up X0 X1 X2 b ⟨s0 + r.val, by omega⟩ J := by
  rw [ug_at]
  unfold up
  refine Finset.sum_congr rfl fun k _ => ?_
  rw [row_at, hw]
  have e0 : (fun j => x0 (ix2 r j)) = fun j => X0 (ix3 b (⟨s0 + r.val, by omega⟩ : Fin 4096) j) := funext fun j => H.row r j
  have e1 : (fun j => x2 (ix2 0 j)) = fun j => X1 (ix1 j) := funext fun j => H.gain j
  rw [e0, e1]

theorem up_halo {b : Fin 8} {s0 : Nat} {hs : s0 + 512 ≤ 4096} {keep : EReal} (H : Rows x0 x1 x2 X0 X1 b s0 hs keep)
    (w : Vec Ideal S1x1024x256 .bf16) (j : Fin 256) (J : Fin 5632) (hw : ∀ k, w (ix3 0 k j) = X2 (ix2 k J)) (r : Fin 16) :
    k0_pay44 (F := Ideal) keep (k0_pay8 (k0_pay3 x2) (k0_pay6 x1) (k0_pay7 x1)) w (ix2 r j)
      = if s0 = 0 then 0 else up X0 X1 X2 b ⟨s0 - 16 + r.val, by omega⟩ J := by
  rw [ugp_at, H.keep]
  by_cases h : s0 = 0
  · rw [if_pos h, if_pos h, mul_zero]
  · rw [if_neg h, if_neg h, mul_one]
    unfold up
    refine Finset.sum_congr rfl fun k _ => ?_
    rw [halo_at, hw]
    have e0 : (fun j => x1 (ix2 r j)) = fun j => X0 (ix3 b (⟨s0 - 16 + r.val, by omega⟩ : Fin 4096) j) :=
      funext fun j => H.halo (H.start.resolve_left h) r j
    have e1 : (fun j => x2 (ix2 0 j)) = fun j => X1 (ix1 j) := funext fun j => H.gain j
    rw [e0, e1]

/-- The filtered up-projection of a block's row is the reference's. -/
theorem conv_row {b : Fin 8} {s0 : Nat} {hs : s0 + 512 ≤ 4096} {keep : EReal} (H : Rows x0 x1 x2 X0 X1 b s0 hs keep)
    (w : Vec Ideal S1x1024x256 .bf16) (cw : Vec Ideal S1x3x256 .f32) (bb : Vec Ideal S1x1x256 .f32) (j : Fin 256) (J : Fin 5632)
    (hw : ∀ k, w (ix3 0 k j) = X2 (ix2 k J)) (hc : ∀ q, cw (ix3 0 q j) = X3 (ix2 q J)) (hb : bb (ix3 0 0 j) = X4 (ix1 J)) (r : Fin 512) :
    conv (k0_pay43 (k0_pay4 x0 x2) w) (k0_pay44 (F := Ideal) keep (k0_pay8 (k0_pay3 x2) (k0_pay6 x1) (k0_pay7 x1)) w) cw bb (ix2 r j)
      = filt X0 X1 X2 X3 X4 b ⟨s0 + r.val, by omega⟩ J := by
  rw [conv_at, shift1_at, shift2_at, hc, hc, hc, hb, up_row X2 H w j J hw r]
  unfold filt
  have p1 : (if h : 1 ≤ r.val then k0_pay43 (k0_pay4 x0 x2) w (ix2 (⟨r.val - 1, by omega⟩ : Fin 512) j)
      else k0_pay44 (F := Ideal) keep (k0_pay8 (k0_pay3 x2) (k0_pay6 x1) (k0_pay7 x1)) w (ix2 (⟨15 + r.val, by omega⟩ : Fin 16) j))
        = upPrev X0 X1 X2 1 b ⟨s0 + r.val, by omega⟩ J := by
    unfold upPrev
    by_cases h : 1 ≤ r.val
    · rw [dif_pos h, up_row X2 H w j J hw, if_pos (by show 1 ≤ s0 + r.val; omega)]
      exact congrArg (fun q => up X0 X1 X2 b q J) (Fin.ext (by show s0 + (r.val - 1) = s0 + r.val - 1; omega))
    · rw [dif_neg h, up_halo X2 H w j J hw]
      have hst := H.start
      by_cases h0 : s0 = 0
      · rw [if_pos h0, if_neg (by show ¬ 1 ≤ s0 + r.val; omega)]
      · rw [if_neg h0, if_pos (by show 1 ≤ s0 + r.val; omega)]
        exact congrArg (fun q => up X0 X1 X2 b q J) (Fin.ext (by show s0 - 16 + (15 + r.val) = s0 + r.val - 1; omega))
  have p2 : (if h : 2 ≤ r.val then k0_pay43 (k0_pay4 x0 x2) w (ix2 (⟨r.val - 2, by omega⟩ : Fin 512) j)
      else k0_pay44 (F := Ideal) keep (k0_pay8 (k0_pay3 x2) (k0_pay6 x1) (k0_pay7 x1)) w (ix2 (⟨14 + r.val, by omega⟩ : Fin 16) j))
        = upPrev X0 X1 X2 2 b ⟨s0 + r.val, by omega⟩ J := by
    unfold upPrev
    by_cases h : 2 ≤ r.val
    · rw [dif_pos h, up_row X2 H w j J hw, if_pos (by show 2 ≤ s0 + r.val; omega)]
      exact congrArg (fun q => up X0 X1 X2 b q J) (Fin.ext (by show s0 + (r.val - 2) = s0 + r.val - 2; omega))
    · rw [dif_neg h, up_halo X2 H w j J hw]
      have hst := H.start
      by_cases h0 : s0 = 0
      · rw [if_pos h0, if_neg (by show ¬ 2 ≤ s0 + r.val; omega)]
      · rw [if_neg h0, if_pos (by show 2 ≤ s0 + r.val; omega)]
        exact congrArg (fun q => up X0 X1 X2 b q J) (Fin.ext (by show s0 - 16 + (14 + r.val) = s0 + r.val - 2; omega))
  rw [p1, p2]

variable {x3 x4 : Vec Ideal S11x1024x256 .bf16} {x5 x6 : Vec Ideal S11x3x256 .f32} {x7 x8 : Vec Ideal S11x1x256 .f32} {x9 : Vec Ideal S11x256x1024 .bf16}

/-- A hidden unit's column among the gates, and among the values. -/
def gcol (q : Fin 2816) : Fin 5632 := ⟨q.val, by omega⟩
def vcol (q : Fin 2816) : Fin 5632 := ⟨2816 + q.val, by omega⟩

/-- A chunk's column, of all the hidden units. -/
def col (c : Fin 11) (j : Fin 256) : Fin 2816 := ⟨c.val * 256 + j.val, by omega⟩

variable {X2 X3 X4 X5}

/-- The weights as the kernel takes them, chunk by chunk. -/
structure Wts (x3 x4 : Vec Ideal S11x1024x256 .bf16) (x5 x6 : Vec Ideal S11x3x256 .f32) (x7 x8 : Vec Ideal S11x1x256 .f32) (x9 : Vec Ideal S11x256x1024 .bf16)
    (X2 : Vec Ideal S1024x5632 .f32) (X3 : Vec Ideal S3x5632 .f32) (X4 : Vec Ideal S5632 .f32) (X5 : Vec Ideal S2816x1024 .f32) : Prop where
  g : ∀ c k j, x3 (ix3 c k j) = X2 (ix2 k (gcol (col c j)))
  v : ∀ c k j, x4 (ix3 c k j) = X2 (ix2 k (vcol (col c j)))
  cg : ∀ c q j, x5 (ix3 c q j) = X3 (ix2 q (gcol (col c j)))
  cv : ∀ c q j, x6 (ix3 c q j) = X3 (ix2 q (vcol (col c j)))
  bg : ∀ c j, x7 (ix3 c 0 j) = X4 (ix1 (gcol (col c j)))
  bv : ∀ c j, x8 (ix3 c 0 j) = X4 (ix1 (vcol (col c j)))
  d : ∀ c k n, x9 (ix3 c k n) = X5 (ix2 (col c k) n)

/-- A hidden unit's part of the reference's output. -/
def unit (X0 : Vec Ideal S8x4096x1024 .f32) (X1 : Vec Ideal S1024 .f32) (X2 : Vec Ideal S1024x5632 .f32) (X3 : Vec Ideal S3x5632 .f32)
    (X4 : Vec Ideal S5632 .f32) (X5 : Vec Ideal S2816x1024 .f32) (b : Fin 8) (s : Fin 4096) (n : Fin 1024) (q : Fin 2816) : EReal :=
  (silu (filt X0 X1 X2 X3 X4 b s (gcol q)) * filt X0 X1 X2 X3 X4 b s (vcol q)) * X5 (ix2 q n)

theorem chunk_at {i : grid0.Coords} {b : Fin 8} {s0 : Nat} {hs : s0 + 512 ≤ 4096} (H : Rows x0 x1 x2 X0 X1 b s0 hs (k0_pay5 (F := Ideal) i))
    (W : Wts x3 x4 x5 x6 x7 x8 x9 X2 X3 X4 X5) (c : Fin 11) (r : Fin 512) (n : Fin 1024) :
    chunk i x0 x1 x2 x3 x4 x5 x6 x7 x8 x9 c (ix2 r n) = ∑ k : Fin 256, unit X0 X1 X2 X3 X4 X5 b ⟨s0 + r.val, by omega⟩ n (col c k) := by
  unfold chunk
  rw [dn_at]
  refine Finset.sum_congr rfl fun k _ => ?_
  unfold act
  rw [pay109_at, pay65_eq, ldD_at, W.d]
  unfold unit
  rw [conv_row X2 X3 X4 H (ldU x3 c) (ldC x5 c) (ldB x7 c) k (gcol (col c k)) (fun q => by rw [ldU_at, W.g]) (fun q => by rw [ldC_at, W.cg]) (by rw [ldB_at, W.bg]) r]
  have e := conv_row X2 X3 X4 H (ldU x4 c) (ldC x6 c) (ldB x8 c) k (vcol (col c k)) (fun q => by rw [ldU_at, W.v]) (fun q => by rw [ldC_at, W.cv]) (by rw [ldB_at, W.bv]) r
  exact congrArg (fun q => silu _ * q * _) e

theorem acc_at (o p : FVec Ideal S512x1024 .f32) (r : Fin 512) (n : Fin 1024) : acc o p (ix2 r n) = o (ix2 r n) + p (ix2 r n) := by
  pointwise [acc]

theorem pay2_at (x : Vec Ideal S512x1024 .f32) (r : Fin 512) (n : Fin 1024) : k0_pay2 x (ix2 r n) = x (ix2 r n) := by
  pointwise [k0_pay2]

/-- The eleven chunks in the order the kernel adds them. -/
theorem sum_chunks (a : EReal) (f : Fin 11 → EReal) :
    a + (f 0 + f 1 + f 2 + f 3) + (f 4 + f 5 + f 6 + f 7) + (f 8 + f 9 + f 10) = a + ∑ c, f c := by
  simp only [Fin.sum_univ_succ, Fin.sum_univ_zero]
  show _ = a + (f 0 + (f 1 + (f 2 + (f 3 + (f 4 + (f 5 + (f 6 + (f 7 + (f 8 + (f 9 + (f 10 + 0)))))))))))
  abel

theorem block_at {i : grid0.Coords} {b : Fin 8} {s0 : Nat} {hs : s0 + 512 ≤ 4096} (H : Rows x0 x1 x2 X0 X1 b s0 hs (k0_pay5 (F := Ideal) i))
    (W : Wts x3 x4 x5 x6 x7 x8 x9 X2 X3 X4 X5) (r : Fin 512) (n : Fin 1024) :
    acc (acc (acc (k0_pay2 x0)
        (addf (addf (addf (chunk i x0 x1 x2 x3 x4 x5 x6 x7 x8 x9 0) (chunk i x0 x1 x2 x3 x4 x5 x6 x7 x8 x9 1)) (chunk i x0 x1 x2 x3 x4 x5 x6 x7 x8 x9 2)) (chunk i x0 x1 x2 x3 x4 x5 x6 x7 x8 x9 3)))
        (addf (addf (addf (chunk i x0 x1 x2 x3 x4 x5 x6 x7 x8 x9 4) (chunk i x0 x1 x2 x3 x4 x5 x6 x7 x8 x9 5)) (chunk i x0 x1 x2 x3 x4 x5 x6 x7 x8 x9 6)) (chunk i x0 x1 x2 x3 x4 x5 x6 x7 x8 x9 7)))
        (addf (addf (chunk i x0 x1 x2 x3 x4 x5 x6 x7 x8 x9 8) (chunk i x0 x1 x2 x3 x4 x5 x6 x7 x8 x9 9)) (chunk i x0 x1 x2 x3 x4 x5 x6 x7 x8 x9 10)) (ix2 r n)
      = X0 (ix3 b (⟨s0 + r.val, by omega⟩ : Fin 4096) n) + ∑ q : Fin 2816, unit X0 X1 X2 X3 X4 X5 b ⟨s0 + r.val, by omega⟩ n q := by
  rw [acc_at, acc_at, acc_at, pay2_at, H.row]
  have e := sum_chunks (X0 (ix3 b (⟨s0 + r.val, by omega⟩ : Fin 4096) n)) fun c => chunk i x0 x1 x2 x3 x4 x5 x6 x7 x8 x9 c (ix2 r n)
  refine Eq.trans e (congrArg (X0 (ix3 b (⟨s0 + r.val, by omega⟩ : Fin 4096) n) + ·) ?_)
  rw [Finset.sum_congr rfl fun c _ => chunk_at H W c r n]
  exact Fin.sum_mul_add_fin (S := 11) (n := 256) (L := 2816) (unit X0 X1 X2 X3 X4 X5 b ⟨s0 + r.val, by omega⟩ n)

end Cert.FfnV

end
-- ==== Proof.FfnV.lean ====
/-
  The feed-forward block: its claims.
-/
module

public import proofs.«01_k».proof.Defs
public import proofs.«01_k».proof.Proof.Gen.Ffn.Frame
public import proofs.«01_k».proof.Proof.Gen.FfnIdeal.Value
public import proofs.«01_k».proof.Proof.Gen.FfnRefIdeal.Run
public import proofs.«01_k».proof.Proof.Gen.FfnRefIdeal.Read

@[expose] public section

noncomputable section

namespace Cert.FfnV

open Idealize.ShloMosaic Idealize.SL.Sem

theorem frame_p : Cert.quiescent_Ffn := fun m ρ _ => Cert.Ffn.Gen.frame m ρ

theorem frame_pi : Cert.quiescent_FfnIdeal := fun m ρ _ => Cert.FfnIdeal.Gen.frame m ρ

theorem frame_ri : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

end Cert.FfnV

end
-- ==== Proof.FfnD.lean ====
/-
  The feed-forward block's output array, and its value.
-/
module

public import proofs.«01_k».proof.Proof.FfnC
public import proofs.«01_k».proof.Proof.FfnR
public import proofs.«01_k».proof.Proof.FfnV

@[expose] public section

set_option maxRecDepth 16384

noncomputable section

namespace Cert.FfnV

open Idealize.ShloMosaic Idealize.ShloMosaic.TcCoe Idealize.SL.Sem
open Idealize.ShloMosaic.Pipeline
open Cert.Rms

section Arrays
open Cert.FfnIdeal Cert.FfnIdeal.Gen
variable (m : (ℓ : Loc nD τ sig) → Buf (Elt Ideal) ℓ)

theorem idx : ∀ t : Fin cfg0.N, win0_0.index t = ![t.val, 0] ∧ win0_1.index t = ![t.val * 32 - 1, 0] ∧ win0_2.index t = ![0, 0]
    ∧ win0_3.index t = ![0, 0, 0] ∧ win0_4.index t = ![0, 0, 0] ∧ win0_5.index t = ![0, 0, 0] ∧ win0_6.index t = ![0, 0, 0]
    ∧ win0_7.index t = ![0, 0, 0] ∧ win0_8.index t = ![0, 0, 0] ∧ win0_9.index t = ![0, 0, 0] ∧ win0_10.index t = ![t.val, 0] :=
  (by decide +kernel : ∀ t : Fin grid0.N, _)

/-- The six arguments. -/
abbrev a0 (c : Dev nD) : Vec Ideal S8x4096x1024 .f32 := m ((c.tc : Thread nD τ).loc main_arg0)
abbrev a1 (c : Dev nD) : Vec Ideal S1024 .f32 := m ((c.tc : Thread nD τ).loc main_arg1)
abbrev a2 (c : Dev nD) : Vec Ideal S1024x5632 .f32 := m ((c.tc : Thread nD τ).loc main_arg2)
abbrev a3 (c : Dev nD) : Vec Ideal S3x5632 .f32 := m ((c.tc : Thread nD τ).loc main_arg3)
abbrev a4 (c : Dev nD) : Vec Ideal S5632 .f32 := m ((c.tc : Thread nD τ).loc main_arg4)
abbrev a5 (c : Dev nD) : Vec Ideal S2816x1024 .f32 := m ((c.tc : Thread nD τ).loc main_arg5)

theorem V0 (c : Dev nD) : V m c main_v0 = shapeCast S32768x1024 (a0 m c) shapeCasts_S8x4096x1024_S32768x1024 := by
  unfold_abbrev_sides
  after_results
  try rfl

theorem V25 (c : Dev nD) : V m c main_v25 = shapeCast S1x1024 (a1 m c) shapeCasts_S1024_S1x1024 := by
  unfold_abbrev_sides
  after_results
  try rfl

theorem V4 (c : Dev nD) : V m c main_v4 = transpose S11x1024x256 [1, 0, 2] (shapeCast S1024x11x256 (truncf (F := Ideal) .bf16 (extractStridedSlice S1024x2816 ![0, 0] (a2 m c) slices_S1024x5632_S1024x2816_0_0) bitsLt_bf16_f32) shapeCasts_S1024x2816_S1024x11x256) transposes_S1024x11x256_S11x1024x256_1_0_2 := by
  unfold_abbrev_sides
  after_results
  try rfl

theorem V8 (c : Dev nD) : V m c main_v8 = transpose S11x1024x256 [1, 0, 2] (shapeCast S1024x11x256 (truncf (F := Ideal) .bf16 (extractStridedSlice S1024x2816 ![0, 2816] (a2 m c) slices_S1024x5632_S1024x2816_0_2816) bitsLt_bf16_f32) shapeCasts_S1024x2816_S1024x11x256) transposes_S1024x11x256_S11x1024x256_1_0_2 := by
  unfold_abbrev_sides
  after_results
  try rfl

theorem V11 (c : Dev nD) : V m c main_v11 = transpose S11x3x256 [1, 0, 2] (shapeCast S3x11x256 (extractStridedSlice S3x2816 ![0, 0] (a3 m c) slices_S3x5632_S3x2816_0_0) shapeCasts_S3x2816_S3x11x256) transposes_S3x11x256_S11x3x256_1_0_2 := by
  unfold_abbrev_sides
  after_results
  try rfl

theorem V14 (c : Dev nD) : V m c main_v14 = transpose S11x3x256 [1, 0, 2] (shapeCast S3x11x256 (extractStridedSlice S3x2816 ![0, 2816] (a3 m c) slices_S3x5632_S3x2816_0_2816) shapeCasts_S3x2816_S3x11x256) transposes_S3x11x256_S11x3x256_1_0_2 := by
  unfold_abbrev_sides
  after_results
  try rfl

theorem V18 (c : Dev nD) : V m c main_v18 = transpose S11x1x256 [1, 0, 2] (shapeCast S1x11x256 (broadcastInDim S1x2816 ![1] bcast_S2816_S1x2816_1 (extractStridedSlice S2816 ![0] (a4 m c) slices_S5632_S2816_0)) shapeCasts_S1x2816_S1x11x256) transposes_S1x11x256_S11x1x256_1_0_2 := by
  unfold_abbrev_sides
  after_results
  try rfl

theorem V22 (c : Dev nD) : V m c main_v22 = transpose S11x1x256 [1, 0, 2] (shapeCast S1x11x256 (broadcastInDim S1x2816 ![1] bcast_S2816_S1x2816_1 (extractStridedSlice S2816 ![2816] (a4 m c) slices_S5632_S2816_2816)) shapeCasts_S1x2816_S1x11x256) transposes_S1x11x256_S11x1x256_1_0_2 := by
  unfold_abbrev_sides
  after_results
  try rfl

theorem V24 (c : Dev nD) : V m c main_v24 = shapeCast S11x256x1024 (truncf (F := Ideal) .bf16 (a5 m c) bitsLt_bf16_f32) shapeCasts_S2816x1024_S11x256x1024 := by
  unfold_abbrev_sides
  after_results
  try rfl

theorem blk0 (c : Dev nD) (t : Fin cfg0.N) (R : Fin 32768) (r : Fin 512) (k : Fin 1024) (h : R.val = t.val * 512 + r.val) :
    iblk m c 0 t (ix2 r k) = a0 m c (ix3 (⟨R.val / 4096, by omega⟩ : Fin 8) (⟨R.val % 4096, by omega⟩ : Fin 4096) k) := by
  have e : iblk m c 0 t (ix2 r k) = V m c main_v0 (ix2 R k) := by blk_ext [iblk, idx t]
  rw [e, V0]
  generalize a0 m c = X
  pointwise

theorem blk1 (c : Dev nD) (t : Fin cfg0.N) (R : Fin 32768) (r : Fin 16) (k : Fin 1024) (h : R.val = (t.val * 32 - 1) * 16 + r.val) :
    iblk m c 1 t (ix2 r k) = a0 m c (ix3 (⟨R.val / 4096, by omega⟩ : Fin 8) (⟨R.val % 4096, by omega⟩ : Fin 4096) k) := by
  have e : iblk m c 1 t (ix2 r k) = V m c main_v0 (ix2 R k) := by blk_ext [iblk, idx t]
  rw [e, V0]
  generalize a0 m c = X
  pointwise

theorem blk2 (c : Dev nD) (t : Fin cfg0.N) (k : Fin 1024) :
    iblk m c 2 t (ix2 (0 : Fin 1) k) = a1 m c (ix1 k) := by
  have e : iblk m c 2 t (ix2 (0 : Fin 1) k) = V m c main_v25 (ix2 (0 : Fin 1) k) := by blk_ext [iblk, idx t]
  rw [e, V25]
  generalize a1 m c = X
  pointwise

theorem blk3 (c : Dev nD) (t : Fin cfg0.N) (d : Fin 11) (k : Fin 1024) (j : Fin 256) :
    iblk m c 3 t (ix3 d k j) = a2 m c (ix2 k (gcol (col d j))) := by
  have e : iblk m c 3 t (ix3 d k j) = V m c main_v4 (ix3 d k j) := by blk_ext [iblk, idx t]
  rw [e, V4]
  generalize a2 m c = X
  pointwise [gcol, vcol, col]

theorem blk4 (c : Dev nD) (t : Fin cfg0.N) (d : Fin 11) (k : Fin 1024) (j : Fin 256) :
    iblk m c 4 t (ix3 d k j) = a2 m c (ix2 k (vcol (col d j))) := by
  have e : iblk m c 4 t (ix3 d k j) = V m c main_v8 (ix3 d k j) := by blk_ext [iblk, idx t]
  rw [e, V8]
  generalize a2 m c = X
  pointwise [gcol, vcol, col]

theorem blk5 (c : Dev nD) (t : Fin cfg0.N) (d : Fin 11) (q : Fin 3) (j : Fin 256) :
    iblk m c 5 t (ix3 d q j) = a3 m c (ix2 q (gcol (col d j))) := by
  have e : iblk m c 5 t (ix3 d q j) = V m c main_v11 (ix3 d q j) := by blk_ext [iblk, idx t]
  rw [e, V11]
  generalize a3 m c = X
  pointwise [gcol, vcol, col]

theorem blk6 (c : Dev nD) (t : Fin cfg0.N) (d : Fin 11) (q : Fin 3) (j : Fin 256) :
    iblk m c 6 t (ix3 d q j) = a3 m c (ix2 q (vcol (col d j))) := by
  have e : iblk m c 6 t (ix3 d q j) = V m c main_v14 (ix3 d q j) := by blk_ext [iblk, idx t]
  rw [e, V14]
  generalize a3 m c = X
  pointwise [gcol, vcol, col]

theorem blk7 (c : Dev nD) (t : Fin cfg0.N) (d : Fin 11) (j : Fin 256) :
    iblk m c 7 t (ix3 d (0 : Fin 1) j) = a4 m c (ix1 (gcol (col d j))) := by
  have e : iblk m c 7 t (ix3 d (0 : Fin 1) j) = V m c main_v18 (ix3 d (0 : Fin 1) j) := by blk_ext [iblk, idx t]
  rw [e, V18]
  generalize a4 m c = X
  pointwise [gcol, vcol, col]

theorem blk8 (c : Dev nD) (t : Fin cfg0.N) (d : Fin 11) (j : Fin 256) :
    iblk m c 8 t (ix3 d (0 : Fin 1) j) = a4 m c (ix1 (vcol (col d j))) := by
  have e : iblk m c 8 t (ix3 d (0 : Fin 1) j) = V m c main_v22 (ix3 d (0 : Fin 1) j) := by blk_ext [iblk, idx t]
  rw [e, V22]
  generalize a4 m c = X
  pointwise [gcol, vcol, col]

theorem blk9 (c : Dev nD) (t : Fin cfg0.N) (d : Fin 11) (k : Fin 256) (j : Fin 1024) :
    iblk m c 9 t (ix3 d k j) = a5 m c (ix2 (col d k) j) := by
  have e : iblk m c 9 t (ix3 d k j) = V m c main_v24 (ix3 d k j) := by blk_ext [iblk, idx t]
  rw [e, V24]
  generalize a5 m c = X
  pointwise [gcol, vcol, col]

/-- Whether a grid point's block starts a sequence. -/
def startBit (a : BitVec 32) : BitVec 1 :=
  let d : BitVec 32 := Scalar.select (Scalar.cmpi .eq 8#32 0#32) 1#32 8#32
  let q : BitVec 32 := Scalar.remsi a d
  Scalar.cmpi .eq (Scalar.select (Scalar.andi (Scalar.xori (Scalar.cmpi .slt q 0#32) (Scalar.cmpi .slt d 0#32)) (Scalar.cmpi .ne q 0#32)) (Scalar.addi q d) q) 0#32

theorem startBit_at : ∀ t : Fin grid0.N, startBit (BitVec.ofNat 32 (grid0.coords t 0).val) = if t.val % 8 = 0 then 1#1 else 0#1 := by
  decide +kernel

theorem keep_at (t : Fin grid0.N) : k0_pay5 (F := Ideal) (grid0.coords t) = if 512 * (t.val % 8) = 0 then 0 else 1 := by
  have e : k0_pay5 (F := Ideal) (grid0.coords t) = Scalar.select (startBit (BitVec.ofNat 32 (grid0.coords t 0).val)) (Scalar.ofBits (F := Ideal) .f32 0x00000000#32) (Scalar.ofBits (F := Ideal) .f32 0x3F800000#32) := rfl
  rw [e, startBit_at]
  by_cases h : t.val % 8 = 0
  · rw [if_pos h, if_pos (by omega)]
    show Scalar.ofBits (F := Ideal) .f32 0x00000000#32 = 0
    exact Ideal.ofBits_zero_f32
  · rw [if_neg h, if_neg (by omega)]
    show Scalar.ofBits (F := Ideal) .f32 0x3F800000#32 = 1
    exact Idealize.ShloMosaic.Ideal.ofBits_one_f32

theorem rows (c : Dev nD) (t : Fin cfg0.N) (ht : t.val < 64) :
    Rows (iblk m c 0 t) (iblk m c 1 t) (iblk m c 2 t) (a0 m c) (a1 m c) (⟨t.val / 8, by omega⟩ : Fin 8) (512 * (t.val % 8)) (by omega)
      (k0_pay5 (F := Ideal) (grid0.coords t)) where
  row r k := by
    rw [blk0 m c t (⟨t.val * 512 + r.val, by omega⟩ : Fin 32768) r k rfl]
    exact congrArg₂ (fun b s => a0 m c (ix3 b s k)) (Fin.ext (by show (t.val * 512 + r.val) / 4096 = t.val / 8; omega))
      (Fin.ext (by show (t.val * 512 + r.val) % 4096 = 512 * (t.val % 8) + r.val; omega))
  halo h r k := by
    rw [blk1 m c t (⟨(t.val * 32 - 1) * 16 + r.val, by omega⟩ : Fin 32768) r k rfl]
    exact congrArg₂ (fun b s => a0 m c (ix3 b s k)) (Fin.ext (by show ((t.val * 32 - 1) * 16 + r.val) / 4096 = t.val / 8; omega))
      (Fin.ext (by show ((t.val * 32 - 1) * 16 + r.val) % 4096 = 512 * (t.val % 8) - 16 + r.val; omega))
  gain k := blk2 m c t k
  start := by omega
  keep := keep_at t

theorem wts (c : Dev nD) (t : Fin cfg0.N) :
    Wts (iblk m c 3 t) (iblk m c 4 t) (iblk m c 5 t) (iblk m c 6 t) (iblk m c 7 t) (iblk m c 8 t) (iblk m c 9 t) (a2 m c) (a3 m c) (a4 m c) (a5 m c) where
  g := blk3 m c t
  v := blk4 m c t
  cg := blk5 m c t
  cv := blk6 m c t
  bg := blk7 m c t
  bv := blk8 m c t
  d := blk9 m c t

/-- The output array after the launch is the reference's. -/
theorem out10 (c : Dev nD) : (dats m 0 c).arrAt 10 cfg0.N
    = Cert.FfnRefIdeal.Read.val_main_v46 (F := Ideal) (a0 m c) (a1 m c) (a2 m c) (a3 m c) (a4 m c) (a5 m c) := by
  refine (dats m 0 c).arrAt_eq_of_covers 10 _ (by decide +kernel) fun t hf y => ?_
  have ht : t.val < 64 := t.isLt
  blk_simp
  rw [after0_10]
  unfold outsAt0
  rw [out_eq]
  obtain ⟨r, n, rfl⟩ : ∃ (r : Fin 512) (n : Fin 1024), y = ix2 r n := ⟨y 0, y 1, by idx_ext⟩
  rw [show (((cfg0.win 10).blk t).view.emb (ix2 r n)) = ix2 (⟨t.val * 512 + r.val, by omega⟩ : Fin 32768) n from by blk_ext [idx t]]
  refine (block_at (rows m c t ht) (wts m c t) r n).trans (Eq.trans ?_ (ref_out (a0 m c) (a1 m c) (a2 m c) (a3 m c) (a4 m c) (a5 m c) _ n).symm)
  have eb : (⟨(t.val * 512 + r.val) / 4096, by omega⟩ : Fin 8) = ⟨t.val / 8, by omega⟩ := Fin.ext (by show (t.val * 512 + r.val) / 4096 = t.val / 8; omega)
  have es : (⟨(t.val * 512 + r.val) % 4096, by omega⟩ : Fin 4096) = ⟨512 * (t.val % 8) + r.val, by omega⟩ :=
    Fin.ext (by show (t.val * 512 + r.val) % 4096 = 512 * (t.val % 8) + r.val; omega)
  show _ = a0 m c (ix3 (⟨(t.val * 512 + r.val) / 4096, _⟩ : Fin 8) (⟨(t.val * 512 + r.val) % 4096, _⟩ : Fin 4096) n) + _
  simp only [eb, es]
  rfl

end Arrays

/-- The feed-forward block's array, for every argument. -/
theorem algebraic : Cert.algebraic_FfnIdeal_FfnRefIdeal := by
  intro m ρ m' ρ' _ hagree
  refine ⟨_, Cert.FfnIdeal.Value.run_blocks (F := Ideal) m ρ, ?_⟩
  refine (θ_run Cert.FfnRefIdeal.defs _ _).mono (fun r h c => ?_) (Cert.FfnRefIdeal.Value.run (F := Ideal) m' ρ')
  obtain ⟨g0, g1, g2, g3, g4, g5⟩ := hagree c
  obtain ⟨h0, h1⟩ := h c
  rw [Cert.FfnRefIdeal.Read.val_main_v46_eq, g0, g1, g2, g3, g4, g5] at h0
  exact ⟨h0.trans (out10 m c).symm, h1⟩

end Cert.FfnV

end
-- ==== Proof.Soft.lean ====
/-
  Softmax over a row of scores, and the parts of a cross-attention row.
-/
module

public import proofs.«01_k».proof.Proof.Rms

@[expose] public section

noncomputable section

namespace Cert.CrossV

open Idealize.ShloMosaic
open Cert.Rms

/-- The largest of 256 scores. -/
def smax (s : Fin 256 → EReal) : EReal := Finset.univ.fold max (Ideal.ofBits .f32 0xFF800000#32) s

/-- Values weighted by the exponentials of their scores, over the exponentials' sum. -/
def soft (s v : Fin 256 → EReal) : EReal :=
  Ideal.div (∑ m, Ideal.exp (s m - smax s) * v m) (∑ m, Ideal.exp (s m - smax s))

/-- The same, each weight divided before the sum. -/
def softRef (s v : Fin 256 → EReal) : EReal :=
  ∑ m, v m * Ideal.div (Ideal.exp (s m - max (Ideal.ofBits .f32 0xFF800000#32) (smax s)))
    (∑ m, Ideal.exp (s m - max (Ideal.ofBits .f32 0xFF800000#32) (smax s)))

theorem lowest : Ideal.ofBits .f32 0xFF800000#32 = ⊥ := by simp [Ideal.ofBits, Ideal.ieee]

theorem smax_real (s : Fin 256 → EReal) (hs : ∀ m, IsReal (s m)) : IsReal (smax s) := by
  unfold smax
  rw [lowest]
  refine isReal_of_between ((Finset.lt_fold_max _).2 (Or.inr ⟨0, Finset.mem_univ _, ?_⟩)) ((Finset.fold_max_lt _).2 ⟨bot_lt_top, fun m _ => ?_⟩)
  · obtain ⟨a, ha⟩ := hs 0
    rw [ha]; exact EReal.bot_lt_coe a
  · obtain ⟨a, ha⟩ := hs m
    rw [ha]; exact EReal.coe_lt_top a

theorem sum_mul_real {ι : Type} (s : Finset ι) (f : ι → EReal) {r : ℝ} (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, ← ih, EReal.right_distrib_of_nonneg_of_ne_top (EReal.coe_nonneg.2 hr) (EReal.coe_ne_top r)]

theorem soft_eq (s v : Fin 256 → EReal) (hs : ∀ m, IsReal (s m)) : soft s v = softRef s v := by
  unfold soft softRef
  obtain ⟨M, hM⟩ := smax_real s hs
  rw [lowest, max_eq_right bot_le, hM]
  choose a ha using hs
  obtain rfl : s = fun k => (a k : EReal) := funext ha
  have he : ∀ m, Ideal.exp ((a m : EReal) - (M : EReal)) = ((Real.exp (a m - M) : ℝ) : EReal) := fun m => by
    rw [← EReal.coe_sub]; rfl
  simp only [he]
  rw [sum_coe]
  have hL : (0 : ℝ) < ∑ m : Fin 256, Real.exp (a m - M) := Finset.sum_pos (fun _ _ => Real.exp_pos _) ⟨0, Finset.mem_univ _⟩
  rw [Ideal.div_coe hL.ne', sum_mul_real _ _ (by positivity)]
  refine Finset.sum_congr rfl fun m _ => ?_
  rw [Ideal.div_coe hL.ne', ← mul_assoc, mul_comm (v m)]

/-- A head's column. -/
def hcol (h : Fin 4) (j : Fin 128) : Fin 512 := ⟨h.val * 128 + j.val, by omega⟩

theorem hcol_split (J : Fin 512) : ∃ h j, J = hcol h j :=
  ⟨⟨J.val / 128, by omega⟩, ⟨J.val % 128, by omega⟩, Fin.ext (by show J.val = J.val / 128 * 128 + J.val % 128; omega)⟩

/-- A row's score of a memory slot under one head. -/
def score (q : Fin 512 → EReal) (g : Fin 128 → EReal) (K : Fin 256 → Fin 512 → EReal) (h : Fin 4) (m : Fin 256) : EReal :=
  (∑ j, rmsHead (fun j => q (hcol h j)) g j * K m (hcol h j)) * Ideal.ofBits .f32 0x3DB504F3#32

theorem score_real (q : Fin 512 → EReal) (g : Fin 128 → EReal) (K : Fin 256 → Fin 512 → EReal) (h : Fin 4) (m : Fin 256)
    (hg : ∀ j, IsReal (g j)) (hK : ∀ m J, IsReal (K m J)) : IsReal (score q g K h m) := by
  refine IsReal.mul (isReal_sum _ _ fun j => (rmsHead_real _ _ hg j).mul (hK m _)) ?_
  refine ⟨11863283 / 134217728, ?_⟩
  simp [Ideal.ofBits, Ideal.ieee, -EReal.coe_mul]; norm_num

/-- A row's query columns. -/
def query (x g : Fin 1024 → EReal) (w : Fin 1024 → Fin 512 → EReal) (J : Fin 512) : EReal := ∑ k, rms x g k * w k J

/-- The mixer's three outputs side by side. -/
def side (a : Fin 256 → EReal) (b : Fin 512 → EReal) (c : Fin 256 → EReal) (k : Fin 1024) : EReal :=
  if h : k.val < 256 then a ⟨k.val, h⟩ else if h' : k.val - 256 < 512 then b ⟨k.val - 256, h'⟩ else c ⟨k.val - 256 - 512, by omega⟩

theorem side_sum (a : Fin 256 → EReal) (b : Fin 512 → EReal) (c : Fin 256 → EReal) (w : Fin 1024 → EReal) :
    ∑ k, side a b c k * w k = (∑ k : Fin 256, a k * w ⟨k.val, by omega⟩) + (∑ k : Fin 512, b k * w ⟨256 + k.val, by omega⟩)
      + ∑ k : Fin 256, c k * w ⟨768 + k.val, by omega⟩ := by
  refine (Fin.sum_univ_add (a := 768) (b := 256) fun k => side a b c k * w k).trans ?_
  refine congrArg₂ (· + ·) ((Fin.sum_univ_add (a := 256) (b := 512) fun k => side a b c (Fin.castAdd 256 k) * w (Fin.castAdd 256 k)).trans (congrArg₂ (· + ·) ?_ ?_)) ?_
  · refine Finset.sum_congr rfl fun k _ => congrArg₂ (· * ·) ?_ rfl
    unfold side
    exact dif_pos k.isLt
  · refine Finset.sum_congr rfl fun k _ => congrArg₂ (· * ·) ?_ rfl
    unfold side
    rw [dif_neg (by show ¬ (256 + k.val < 256); omega), dif_pos (by show 256 + k.val - 256 < 512; omega)]
    exact congrArg b (Fin.ext (by show 256 + k.val - 256 = k.val; omega))
  · refine Finset.sum_congr rfl fun k _ => congrArg₂ (· * ·) ?_ rfl
    unfold side
    rw [dif_neg (by show ¬ (768 + k.val < 256); omega), dif_neg (by show ¬ (768 + k.val - 256 < 512); omega)]
    exact congrArg c (Fin.ext (by show 768 + k.val - 256 - 512 = k.val; omega))

end Cert.CrossV

end
-- ==== Proof.MemkvV.lean ====
/-
  The memory's keys and values: the block and the reference index by index, and the two arrays.
-/
module

public import proofs.«01_k».proof.Defs
public import proofs.«01_k».proof.Proof.Soft
public import proofs.«01_k».proof.Proof.Gen.Memkv.Frame
public import proofs.«01_k».proof.Proof.Gen.MemkvIdeal.Value
public import proofs.«01_k».proof.Proof.Gen.MemkvRefIdeal.Run
public import proofs.«01_k».proof.Proof.Gen.MemkvRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.MemkvV

open Idealize.ShloMosaic Idealize.ShloMosaic.TcCoe Idealize.SL.Sem
open Idealize.ShloMosaic.Pipeline
open Cert.Rms
open Cert.CrossV (hcol hcol_split)

section Ref
open Cert.MemkvRefIdeal Cert.MemkvRefIdeal.Gen Cert.MemkvRefIdeal.Read

variable (x0 : (⟨S8x256x1024, .f32⟩ : BufTy).Contents (Elt Ideal)) (x1 : (⟨S1024, .f32⟩ : BufTy).Contents (Elt Ideal))
  (x2 : (⟨S1024x1024, .f32⟩ : BufTy).Contents (Elt Ideal)) (x3 : (⟨S128, .f32⟩ : BufTy).Contents (Elt Ideal))

/-- A memory slot's projection. -/
def prj (b : Fin 8) (s : Fin 256) (J : Fin 1024) : EReal := ∑ k, rms (fun j => x0 (ix3 b s j)) (fun j => x1 (ix1 j)) k * x2 (ix2 k J)

/-- A head's key column among the projection's columns. -/
def kcol (h : Fin 4) (j : Fin 128) : Fin 1024 := ⟨h.val * 128 + j.val, by omega⟩

/-- A value column among the projection's columns. -/
def vcol (J : Fin 512) : Fin 1024 := ⟨512 + J.val, by omega⟩

theorem ref_row (b : Fin 8) (s : Fin 256) (k : Fin 1024) : val_main_v12 x0 x1 (ix3 b s k) = rms (fun j => x0 (ix3 b s j)) (fun j => x1 (ix1 j)) k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1, rms]

theorem ref_prj (b : Fin 8) (s : Fin 256) (J : Fin 1024) : val_main_v13 x0 x1 x2 (ix3 b s J) = prj x0 x1 x2 b s J := by
  pointwise [val_main_v13, ref_row, prj]

theorem ref_head (b : Fin 8) (s : Fin 256) (h : Fin 4) (j : Fin 128) : val_main_v16 x0 x1 x2 (ix4 b s h j) = prj x0 x1 x2 b s (kcol h j) := by
  pointwise [val_main_v16, val_main_v14, ref_prj, kcol]

theorem ref_kn (b : Fin 8) (s : Fin 256) (h : Fin 4) (j : Fin 128) : val_main_v29 x0 x1 x2 x3 (ix4 b s h j)
    = rmsHead (fun j => prj x0 x1 x2 b s (kcol h j)) (fun j => x3 (ix1 j)) j := by
  pointwise [val_main_v29, val_main_v28, val_main_v27, val_main_v26, val_main_v25, val_main_v24, val_main_v23, val_main_v22, val_main_v21, val_main_v20, val_main_v19, val_main_v18, val_main_v17, val_main_cst_2, val_main_cst_3, val_main_cst_4, ref_head, rmsHead]

theorem ref_k (b : Fin 8) (s : Fin 256) (h : Fin 4) (j : Fin 128) (R : Fin 2048) (hR : R.val = b.val * 256 + s.val) : val_main_v31 x0 x1 x2 x3 (ix2 R (hcol h j))
    = rmsHead (fun j => prj x0 x1 x2 b s (kcol h j)) (fun j => x3 (ix1 j)) j := by
  obtain rfl : R = ⟨b.val * 256 + s.val, by clear hR; omega⟩ := Fin.ext hR
  unfold hcol
  pointwise [val_main_v31, val_main_v30, ref_kn]

theorem ref_v (b : Fin 8) (s : Fin 256) (J : Fin 512) (R : Fin 2048) (hR : R.val = b.val * 256 + s.val) : val_main_v33 x0 x1 x2 (ix2 R J)
    = prj x0 x1 x2 b s (vcol J) := by
  obtain rfl : R = ⟨b.val * 256 + s.val, by clear hR; omega⟩ := Fin.ext hR
  pointwise [val_main_v33, val_main_v32, val_main_v15, ref_prj, vcol]

end Ref

section Block
open Cert.MemkvIdeal Cert.MemkvIdeal.Gen
variable (x0 : Vec Ideal S256x1024 .f32) (x1 : Vec Ideal S1x1024 .f32) (x2 : Vec Ideal S1024x1024 .bf16) (x3 : Vec Ideal S1x128 .f32) (P : FVec Ideal S256x1024 .f32)

theorem pay3_at (r : Fin 256) (J : Fin 1024) : k0_pay3 x0 x1 x2 (ix2 r J) = ∑ k, rms (fun j => x0 (ix2 r j)) (fun j => x1 (ix2 0 j)) k * x2 (ix2 k J) := by
  pointwise [k0_pay3, rms]

theorem pay2_at (r : Fin 256) (J : Fin 512) : k0_pay2 P (ix2 r J) = P (ix2 r (vcol J)) := by
  pointwise [k0_pay2, vcol]

/-- A head's keys in the block: its columns start at `o`. -/
def bkey (o : Nat) (ho : o + 128 ≤ 512) (r : Fin 256) (j : Fin 128) : EReal :=
  rmsHead (fun j => P (ix2 r (⟨o + j.val, by omega⟩ : Fin 1024))) (fun j => x3 (ix2 0 j)) j

theorem key0_at (r : Fin 256) (j : Fin 128) : k0_pay4 x0 x1 x2 x3 (ix2 r j) = bkey x3 (k0_pay3 x0 x1 x2) 0 (by omega) r j := by
  pointwise [k0_pay4, bkey, rmsHead]

theorem key1_at (r : Fin 256) (j : Fin 128) : k0_pay6 (k0_pay5 x0 x1 x2) x3 (ix2 r j) = bkey x3 (k0_pay3 x0 x1 x2) 128 (by omega) r j := by
  pointwise [k0_pay6, k0_pay5, bkey, rmsHead]

theorem key2_at (r : Fin 256) (j : Fin 128) : k0_pay7 P x3 (ix2 r j) = bkey x3 P 256 (by omega) r j := by
  pointwise [k0_pay7, bkey, rmsHead]

theorem key3_at (r : Fin 256) (j : Fin 128) :
    k0_pay1 (k0_pay8 P) (k0_pay9 x3) (k0_pay10 P) (k0_pay11 (F := Ideal)) (ix2 r j) = bkey x3 P 384 (by omega) r j := by
  pointwise [k0_pay1, k0_pay8, k0_pay9, k0_pay10, k0_pay11, bkey, rmsHead]

theorem ld0 (x : Vec Ideal S256x1024 .f32) : View.ld x r0_0 = x := View.ld_unit_lit _ x (by decide)
theorem ld1 (x : Vec Ideal S1x1024 .f32) : View.ld x r0_1 = x := View.ld_unit_lit _ x (by decide)
theorem ld2 (x : Vec Ideal S1024x1024 .bf16) : View.ld x r0_2 = x := View.ld_unit_lit _ x (by decide)
theorem ld3 (x : Vec Ideal S1x128 .f32) : View.ld x r0_3 = x := View.ld_unit_lit _ x (by decide)

end Block

section Arrays
open Cert.MemkvIdeal Cert.MemkvIdeal.Gen
variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] :=
  (by decide +kernel : ∀ t : Fin grid0.N, _)

/-- The four arguments. -/
abbrev a0 (c : Dev nD) : Vec Ideal S8x256x1024 .f32 := m ((c.tc : Thread nD τ).loc main_arg0)
abbrev a1 (c : Dev nD) : Vec Ideal S1024 .f32 := m ((c.tc : Thread nD τ).loc main_arg1)
abbrev a2 (c : Dev nD) : Vec Ideal S1024x1024 .f32 := m ((c.tc : Thread nD τ).loc main_arg2)
abbrev a3 (c : Dev nD) : Vec Ideal S128 .f32 := m ((c.tc : Thread nD τ).loc main_arg3)

theorem V0 (c : Dev nD) : V m c main_v0 = shapeCast S2048x1024 (a0 m c) shapeCasts_S8x256x1024_S2048x1024 := by
  unfold_abbrev_sides
  after_results
  try rfl

theorem V1 (c : Dev nD) : V m c main_v1 = shapeCast S1x1024 (a1 m c) shapeCasts_S1024_S1x1024 := by
  unfold_abbrev_sides
  after_results
  try rfl

theorem V2 (c : Dev nD) : V m c main_v2 = truncf (F := Ideal) .bf16 (a2 m c) bitsLt_bf16_f32 := by
  unfold_abbrev_sides
  after_results
  try rfl

theorem V3 (c : Dev nD) : V m c main_v3 = shapeCast S1x128 (a3 m c) shapeCasts_S128_S1x128 := by
  unfold_abbrev_sides
  after_results
  try rfl

theorem blk0 (c : Dev nD) (t : Fin cfg0.N) (ht : t.val < 8) (r : Fin 256) (k : Fin 1024) :
    iblk m c 0 t (ix2 r k) = a0 m c (ix3 (⟨t.val, ht⟩ : Fin 8) r k) := by
  have e : iblk m c 0 t (ix2 r k) = V m c main_v0 (ix2 (⟨t.val * 256 + r.val, by omega⟩ : Fin 2048) k) := by blk_ext [iblk, idx t]
  rw [e, V0]
  generalize a0 m c = X
  obtain ⟨b, hb⟩ := t
  pointwise
  exact congrArg (fun q => X (ix3 q r k)) (Fin.ext (by show (b * 256 + r.val) / 256 = b; omega))

theorem blk1 (c : Dev nD) (t : Fin cfg0.N) (k : Fin 1024) :
    iblk m c 1 t (ix2 (0 : Fin 1) k) = a1 m c (ix1 k) := by
  have e : iblk m c 1 t (ix2 (0 : Fin 1) k) = V m c main_v1 (ix2 (0 : Fin 1) k) := by blk_ext [iblk, idx t]
  rw [e, V1]
  generalize a1 m c = X
  pointwise

theorem blk2 (c : Dev nD) (t : Fin cfg0.N) (k J : Fin 1024) :
    iblk m c 2 t (ix2 k J) = a2 m c (ix2 k J) := by
  have e : iblk m c 2 t (ix2 k J) = V m c main_v2 (ix2 k J) := by blk_ext [iblk, idx t]
  rw [e, V2]
  generalize a2 m c = X
  pointwise

theorem blk3 (c : Dev nD) (t : Fin cfg0.N) (k : Fin 128) :
    iblk m c 3 t (ix2 (0 : Fin 1) k) = a3 m c (ix1 k) := by
  have e : iblk m c 3 t (ix2 (0 : Fin 1) k) = V m c main_v3 (ix2 (0 : Fin 1) k) := by blk_ext [iblk, idx t]
  rw [e, V3]
  generalize a3 m c = X
  pointwise

theorem prj_row (c : Dev nD) (t : Fin cfg0.N) (ht : t.val < 8) (r : Fin 256) (J : Fin 1024) :
    k0_pay3 (View.ld (iblk m c 0 t) r0_0) (View.ld (iblk m c 1 t) r0_1) (View.ld (iblk m c 2 t) r0_2) (ix2 r J) = prj (a0 m c) (a1 m c) (a2 m c) ⟨t.val, ht⟩ r J := by
  rw [ld0, ld1, ld2, pay3_at]
  unfold prj
  refine Finset.sum_congr rfl fun k _ => congrArg₂ (· * ·) ?_ (blk2 m c t k J)
  exact congrArg₂ (fun x g => rms x g k) (funext fun j => blk0 m c t ht r j) (funext fun j => blk1 m c t j)

theorem key_row (c : Dev nD) (t : Fin cfg0.N) (ht : t.val < 8) (h : Fin 4) (o : Nat) (ho : o + 128 ≤ 512) (ho' : o = h.val * 128) (r : Fin 256) (j : Fin 128)
    (R : Fin 2048) (hR : R.val = t.val * 256 + r.val) :
    bkey (View.ld (iblk m c 3 t) r0_3) (k0_pay3 (View.ld (iblk m c 0 t) r0_0) (View.ld (iblk m c 1 t) r0_1) (View.ld (iblk m c 2 t) r0_2)) o ho r j
      = Cert.MemkvRefIdeal.Read.val_main_v31 (F := Ideal) (a0 m c) (a1 m c) (a2 m c) (a3 m c) (ix2 R (⟨o + j.val, by omega⟩ : Fin 512)) := by
  subst ho'
  refine Eq.trans ?_ (ref_k (a0 m c) (a1 m c) (a2 m c) (a3 m c) ⟨t.val, ht⟩ r h j R hR).symm
  rw [ld3]
  unfold bkey
  simp only [prj_row m c t ht, blk3]
  rfl

/-- The keys after the launch are the reference's. -/
theorem out4 (c : Dev nD) : (dats m 0 c).arrAt 4 cfg0.N
    = Cert.MemkvRefIdeal.Read.val_main_v31 (F := Ideal) (a0 m c) (a1 m c) (a2 m c) (a3 m c) := by
  refine (dats m 0 c).arrAt_eq_of_covers 4 _ (by decide +kernel) fun t hf y => ?_
  have ht : t.val < 8 := t.isLt
  blk_simp
  rw [after0_4]
  unfold_out out0_4
  canon_tiles x h
  · rw [show (((cfg0.win 4).blk t).view.emb y) = ix2 (⟨t.val * 256 + (x 0).val, by omega⟩ : Fin 2048) (⟨384 + (x 1).val, by omega⟩ : Fin 512) from by blk_ext [idx t]]
    obtain ⟨r, j, rfl⟩ : ∃ (r : Fin 256) (j : Fin 128), x = ix2 r j := ⟨x 0, x 1, by idx_ext⟩
    exact (key3_at _ _ r j).trans (key_row m c t ht 3 384 (by omega) rfl r j _ rfl)
  · rw [show (((cfg0.win 4).blk t).view.emb y) = ix2 (⟨t.val * 256 + (x 0).val, by omega⟩ : Fin 2048) (⟨256 + (x 1).val, by omega⟩ : Fin 512) from by blk_ext [idx t]]
    obtain ⟨r, j, rfl⟩ : ∃ (r : Fin 256) (j : Fin 128), x = ix2 r j := ⟨x 0, x 1, by idx_ext⟩
    exact (key2_at _ _ r j).trans (key_row m c t ht 2 256 (by omega) rfl r j _ rfl)
  · rw [show (((cfg0.win 4).blk t).view.emb y) = ix2 (⟨t.val * 256 + (x 0).val, by omega⟩ : Fin 2048) (⟨128 + (x 1).val, by omega⟩ : Fin 512) from by blk_ext [idx t]]
    obtain ⟨r, j, rfl⟩ : ∃ (r : Fin 256) (j : Fin 128), x = ix2 r j := ⟨x 0, x 1, by idx_ext⟩
    exact (key1_at _ _ _ _ r j).trans (key_row m c t ht 1 128 (by omega) rfl r j _ rfl)
  · rw [show (((cfg0.win 4).blk t).view.emb y) = ix2 (⟨t.val * 256 + (x 0).val, by omega⟩ : Fin 2048) (⟨0 + (x 1).val, by omega⟩ : Fin 512) from by blk_ext [idx t]]
    obtain ⟨r, j, rfl⟩ : ∃ (r : Fin 256) (j : Fin 128), x = ix2 r j := ⟨x 0, x 1, by idx_ext⟩
    exact (key0_at _ _ _ _ r j).trans (key_row m c t ht 0 0 (by omega) rfl r j _ rfl)

/-- The values after the launch are the reference's. -/
theorem out5 (c : Dev nD) : (dats m 0 c).arrAt 5 cfg0.N
    = Cert.MemkvRefIdeal.Read.val_main_v33 (F := Ideal) (a0 m c) (a1 m c) (a2 m c) := by
  refine (dats m 0 c).arrAt_eq_of_covers 5 _ (by decide +kernel) fun t hf y => ?_
  have ht : t.val < 8 := t.isLt
  blk_simp
  rw [after0_5]
  unfold_out out0_5
  canon_tiles x h
  rw [show (((cfg0.win 5).blk t).view.emb y) = ix2 (⟨t.val * 256 + (x 0).val, by omega⟩ : Fin 2048) (⟨(x 1).val, by omega⟩ : Fin 512) from by blk_ext [idx t]]
  obtain ⟨r, J, rfl⟩ : ∃ (r : Fin 256) (J : Fin 512), x = ix2 r J := ⟨x 0, x 1, by idx_ext⟩
  exact ((pay2_at _ r J).trans (prj_row m c t ht r _)).trans (ref_v (a0 m c) (a1 m c) (a2 m c) ⟨t.val, ht⟩ r J _ rfl).symm

end Arrays

section Claims

theorem frame_p : Cert.quiescent_Memkv := fun m ρ _ => Cert.Memkv.Gen.frame m ρ

theorem frame_pi : Cert.quiescent_MemkvIdeal := fun m ρ _ => Cert.MemkvIdeal.Gen.frame m ρ

theorem frame_ri : Cert.quiescent_MemkvRefIdeal := fun m ρ _ =>
  (θ_run Cert.MemkvRefIdeal.defs _ _).mono (fun r h => ⟨fun c => (h c).2.2, sem_eq_zero_of_no_sems (by decide) r.2⟩)
    (Cert.MemkvRefIdeal.Value.run (F := Ideal) m ρ)

/-- The memory's keys and values, for every argument. -/
theorem algebraic : Cert.algebraic_MemkvIdeal_MemkvRefIdeal := by
  intro m ρ m' ρ' _ hagree
  refine ⟨_, _, Cert.MemkvIdeal.Value.run_blocks (F := Ideal) m ρ, ?_⟩
  refine (θ_run Cert.MemkvRefIdeal.defs _ _).mono (fun r h c => ?_) (Cert.MemkvRefIdeal.Value.run (F := Ideal) m' ρ')
  obtain ⟨g0, g1, g2, g3⟩ := hagree c
  obtain ⟨h0, h1, h2⟩ := h c
  rw [Cert.MemkvRefIdeal.Read.val_main_v31_eq, g0, g1, g2, g3] at h0
  rw [Cert.MemkvRefIdeal.Read.val_main_v33_eq, g0, g1, g2] at h1
  exact ⟨h0.trans (out4 m c).symm, h1.trans (out5 m c).symm, h2⟩

end Claims

end Cert.MemkvV

end
-- ==== Proof.CrossK.lean ====
/-
  The cross-attention's block, index by index.
-/
module

public import proofs.«01_k».proof.Defs
public import proofs.«01_k».proof.Proof.Soft
public import proofs.«01_k».proof.Proof.Gen.CrossIdeal.Value
public import Idealize.ShloMosaic.Lib.Pipeline.ValueKit
public import Idealize.ShloMosaic.Lib.Pointwise

@[expose] public section

set_option maxRecDepth 16384

noncomputable section

namespace Cert.CrossV

open Idealize.ShloMosaic Idealize.ShloMosaic.TcCoe Idealize.SL.Sem
open Cert.Rms
open Cert.CrossIdeal Cert.CrossIdeal.Gen

section Row
variable (x : Vec Ideal S512x1024 .f32) (yr : Vec Ideal S512x256 .bf16) (wr : Vec Ideal S256x1024 .bf16) (ym : Vec Ideal S512x512 .bf16)
  (wm : Vec Ideal S512x1024 .bf16) (yg : Vec Ideal S512x256 .bf16) (wg : Vec Ideal S256x1024 .bf16) (g : Vec Ideal S1x1024 .f32)

theorem pay2_at (r : Fin 512) (n : Fin 1024) : k0_pay2 x yr wr ym wm yg wg (ix2 r n)
    = x (ix2 r n) + ((∑ k, yr (ix2 r k) * wr (ix2 k n)) + (∑ k, ym (ix2 r k) * wm (ix2 k n)) + ∑ k, yg (ix2 r k) * wg (ix2 k n)) := by
  pointwise [k0_pay2]

theorem pay3_at (r : Fin 512) (k : Fin 1024) : k0_pay3 x yr wr ym wm yg wg g (ix2 r k)
    = rms (fun j => k0_pay2 x yr wr ym wm yg wg (ix2 r j)) (fun j => g (ix2 0 j)) k := by
  pointwise [k0_pay3, rms]

end Row

section Scores
variable (h : Vec Ideal S512x1024 .bf16) (w : Vec Ideal S1024x512 .bf16) (g : Vec Ideal S1x128 .f32) (K : Vec Ideal S256x128 .bf16)

theorem pay4_at (r : Fin 512) (J : Fin 512) : k0_pay4 (F := Ideal) h w (ix2 r J) = ∑ k, h (ix2 r k) * w (ix2 k J) := by
  pointwise [k0_pay4]

/-- A head's score in the block: its query columns start at `o`. -/
def bscore (o : Nat) (ho : o + 128 ≤ 512) (r : Fin 512) (m : Fin 256) : EReal :=
  (∑ j, rmsHead (fun j => k0_pay4 (F := Ideal) h w (ix2 r (⟨o + j.val, by omega⟩ : Fin 512))) (fun j => g (ix2 0 j)) j * K (ix2 m j)) * Ideal.ofBits .f32 0x3DB504F3#32

theorem score0_at (r : Fin 512) (m : Fin 256) : k0_pay10 (F := Ideal) (k0_pay5 h w g) K (ix2 r m) = bscore h w g K 0 (by omega) r m := by
  pointwise [k0_pay10, k0_pay5, bscore, rmsHead]

theorem score1_at (r : Fin 512) (m : Fin 256) : k0_pay11 (F := Ideal) (k0_pay6 h w g) K (ix2 r m) = bscore h w g K 128 (by omega) r m := by
  pointwise [k0_pay11, k0_pay6, bscore, rmsHead]

theorem score2_at (r : Fin 512) (m : Fin 256) :
    k0_pay12 (F := Ideal) (k0_pay7 h w) (k0_pay8 g) (k0_pay9 h w) K (ix2 r m) = bscore h w g K 256 (by omega) r m := by
  pointwise [k0_pay12, k0_pay7, k0_pay8, k0_pay9, bscore, rmsHead]

/-- The last head's scores. -/
def score3 : FVec Ideal S512x256 .f32 :=
  mulf (matmul dot_S512x128_S256x128_S512x256_1_1_0_0_n_n none (k0_pay14 (F := Ideal) (k0_pay4 h w) g) (k0_pay13 K) (constant S512x256 .f32 0x00000000#32))
    (broadcast S512x256 (Scalar.ofBits .f32 0x3DB504F3#32))

theorem score3_at (r : Fin 512) (m : Fin 256) : score3 h w g K (ix2 r m) = bscore h w g K 384 (by omega) r m := by
  pointwise [score3, k0_pay13, k0_pay14, bscore, rmsHead]

end Scores

section Soft
variable (S : Vec Ideal S512x256 .f32) (v : Vec Ideal S256x128 .bf16)

theorem pay15_at (r : Fin 512) (m : Fin 256) : k0_pay15 (F := Ideal) S (ix2 r m) = Ideal.exp (S (ix2 r m) - smax fun m => S (ix2 r m)) := by
  pointwise [k0_pay15, smax]

theorem pay17_at (r : Fin 512) : k0_pay17 (F := Ideal) S (ix2 r (0 : Fin 1)) = ∑ m, k0_pay15 (F := Ideal) S (ix2 r m) := by
  pointwise [k0_pay17]

/-- A head's columns of the output. -/
def head : FVec Ideal S512x128 .f32 :=
  divf (matmul dot_S512x256_S256x128_S512x128_1_0_0_1_n_n none (truncf .bf16 (k0_pay15 (F := Ideal) S) bitsLt_bf16_f32)
    (shapeCast S256x128 v shapeCasts_S256x128_S256x128 : FVec Ideal S256x128 .bf16) (constant S512x128 .f32 0x00000000#32)) (broadcastTo S512x128 (k0_pay17 (F := Ideal) S) broadcasts_S512x1_S512x128)

theorem head_at (r : Fin 512) (j : Fin 128) : head S v (ix2 r j) = soft (fun m => S (ix2 r m)) (fun m => v (ix2 m j)) := by
  have e : head S v (ix2 r j) = Ideal.div (∑ m, k0_pay15 (F := Ideal) S (ix2 r m) * v (ix2 m j)) (k0_pay17 (F := Ideal) S (ix2 r (0 : Fin 1))) := by
    pointwise [head]
  rw [e, pay17_at]
  unfold soft
  simp only [pay15_at]

/-- The four heads side by side. -/
def heads (o0 o1 o2 o3 : FVec Ideal S512x128 .f32) : FVec Ideal S512x512 .f32 :=
  concatenate S512x512 1 [⟨S512x128, o0⟩, ⟨S512x128, o1⟩, ⟨S512x128, o2⟩, ⟨S512x128, o3⟩] concatenates_S512x128_S512x128_S512x128_S512x128_S512x512_d1

variable (o0 o1 o2 o3 : FVec Ideal S512x128 .f32)

theorem heads_if (r : Fin 512) (J : Fin 512) : heads o0 o1 o2 o3 (ix2 r J)
    = if h : J.val < 128 then o0 (ix2 r ⟨J.val, h⟩) else if h : J.val - 128 < 128 then o1 (ix2 r ⟨J.val - 128, h⟩)
      else if h : J.val - 128 - 128 < 128 then o2 (ix2 r ⟨J.val - 128 - 128, h⟩) else o3 (ix2 r ⟨J.val - 128 - 128 - 128, by omega⟩) := by
  pointwise [heads]

theorem heads_at (r : Fin 512) (h : Fin 4) (j : Fin 128) : heads o0 o1 o2 o3 (ix2 r (hcol h j)) = (![o0, o1, o2, o3] h) (ix2 r j) := by
  rw [heads_if]
  have hj := j.isLt
  match h with
  | 0 =>
    rw [dif_pos (by show 0 * 128 + j.val < 128; omega)]
    exact congrArg (fun q => o0 (ix2 r q)) (Fin.ext (by show 0 * 128 + j.val = j.val; omega))
  | 1 =>
    rw [dif_neg (by show ¬ (1 * 128 + j.val < 128); omega), dif_pos (by show 1 * 128 + j.val - 128 < 128; omega)]
    exact congrArg (fun q => o1 (ix2 r q)) (Fin.ext (by show 1 * 128 + j.val - 128 = j.val; omega))
  | 2 =>
    rw [dif_neg (by show ¬ (2 * 128 + j.val < 128); omega), dif_neg (by show ¬ (2 * 128 + j.val - 128 < 128); omega),
      dif_pos (by show 2 * 128 + j.val - 128 - 128 < 128; omega)]
    exact congrArg (fun q => o2 (ix2 r q)) (Fin.ext (by show 2 * 128 + j.val - 128 - 128 = j.val; omega))
  | 3 =>
    rw [dif_neg (by show ¬ (3 * 128 + j.val < 128); omega), dif_neg (by show ¬ (3 * 128 + j.val - 128 < 128); omega),
      dif_neg (by show ¬ (3 * 128 + j.val - 128 - 128 < 128); omega)]
    exact congrArg (fun q => o3 (ix2 r q)) (Fin.ext (by show 3 * 128 + j.val - 128 - 128 - 128 = j.val; omega))

/-- The rows with the attention's projection added. -/
def fin (x : FVec Ideal S512x1024 .f32) (wo : Vec Ideal S512x1024 .bf16) : FVec Ideal S512x1024 .f32 :=
  addf x (matmul dot_S512x512_S512x1024_S512x1024_1_0_0_1_n_n none (truncf .bf16 (heads o0 o1 o2 o3) bitsLt_bf16_f32)
    (shapeCast S512x1024 wo shapeCasts_S512x1024_S512x1024 : FVec Ideal S512x1024 .bf16) (constant S512x1024 .f32 0x00000000#32))

theorem fin_at (x : FVec Ideal S512x1024 .f32) (wo : Vec Ideal S512x1024 .bf16) (r : Fin 512) (n : Fin 1024) :
    fin o0 o1 o2 o3 x wo (ix2 r n) = x (ix2 r n) + ∑ J, heads o0 o1 o2 o3 (ix2 r J) * wo (ix2 J n) := by
  pointwise [fin]

theorem pay1_eq (x : FVec Ideal S512x1024 .f32) (h : Vec Ideal S512x1024 .bf16) (w : Vec Ideal S1024x512 .bf16) (g : Vec Ideal S1x128 .f32) (K : Vec Ideal S256x128 .bf16)
    (S0 S1 S2 : FVec Ideal S512x256 .f32) (V0 V1 V2 V3 : Vec Ideal S256x128 .bf16) (wo : Vec Ideal S512x1024 .bf16) :
    k0_pay1 (F := Ideal) x (k0_pay15 S2) (k0_pay16 (k0_pay13 K) (k0_pay14 (k0_pay4 h w) g)) (k0_pay17 S2) (k0_pay18 (k0_pay13 K) (k0_pay14 (k0_pay4 h w) g))
      (k0_pay19 S0 V0) (k0_pay20 S1 V1) V2 V3 wo
      = fin (head S0 V0) (head S1 V1) (head S2 V2) (head (score3 h w g K) V3) x wo := rfl

end Soft

section Block
variable (h : Vec Ideal S512x1024 .bf16) (w : Vec Ideal S1024x512 .bf16) (g : Vec Ideal S1x128 .f32) (x10 x11 : Vec Ideal S256x512 .bf16)

theorem ld_heads (y : Vec Ideal S256x512 .bf16) (m : Fin 256) (j : Fin 128) :
    View.ld y r0_7 (ix2 m j) = y (ix2 m (hcol 0 j)) ∧ View.ld y r0_8 (ix2 m j) = y (ix2 m (hcol 1 j))
      ∧ View.ld y r0_9 (ix2 m j) = y (ix2 m (hcol 2 j)) ∧ View.ld y r0_10 (ix2 m j) = y (ix2 m (hcol 3 j)) := by
  refine ⟨?_, ?_, ?_, ?_⟩ <;>
  exact View.ld_unit_apply_of y _ _ _ _ _ fun a => match a with
    | ⟨0, _⟩ => (Nat.zero_add _).symm
    | ⟨1, _⟩ => rfl

/-- The block's query columns of a row. -/
abbrev bq (r : Fin 512) (J : Fin 512) : EReal := k0_pay4 (F := Ideal) h w (ix2 r J)

theorem score_of (hd : Fin 4) (o : Nat) (ho : o + 128 ≤ 512) (ho' : o = hd.val * 128) (K : Vec Ideal S256x128 .bf16)
    (hK : ∀ m j, K (ix2 m j) = x10 (ix2 m (hcol hd j))) (r : Fin 512) (m : Fin 256) :
    bscore h w g K o ho r m = score (bq h w r) (fun j => g (ix2 0 j)) (fun m J => x10 (ix2 m J)) hd m := by
  subst ho'
  unfold bscore score
  simp only [hK]
  rfl

/-- A block's attention columns of a row. -/
theorem heads_block (r : Fin 512) (hd : Fin 4) (j : Fin 128) :
    heads (head (k0_pay10 (F := Ideal) (k0_pay5 h w g) (View.ld x10 r0_7)) (View.ld x11 r0_7))
      (head (k0_pay11 (F := Ideal) (k0_pay6 h w g) (View.ld x10 r0_8)) (View.ld x11 r0_8))
      (head (k0_pay12 (F := Ideal) (k0_pay7 h w) (k0_pay8 g) (k0_pay9 h w) (View.ld x10 r0_9)) (View.ld x11 r0_9))
      (head (score3 h w g (View.ld x10 r0_10)) (View.ld x11 r0_10)) (ix2 r (hcol hd j))
    = soft (score (bq h w r) (fun j => g (ix2 0 j)) (fun m J => x10 (ix2 m J)) hd) (fun m => x11 (ix2 m (hcol hd j))) := by
  rw [heads_at]
  match hd with
  | 0 =>
    refine (head_at _ _ r j).trans (congrArg₂ soft (funext fun m => (score0_at h w g _ r m).trans ?_) (funext fun m => (ld_heads x11 m j).1))
    exact score_of h w g x10 0 0 _ rfl _ (fun m j => (ld_heads x10 m j).1) r m
  | 1 =>
    refine (head_at _ _ r j).trans (congrArg₂ soft (funext fun m => (score1_at h w g _ r m).trans ?_) (funext fun m => (ld_heads x11 m j).2.1))
    exact score_of h w g x10 1 128 _ rfl _ (fun m j => (ld_heads x10 m j).2.1) r m
  | 2 =>
    refine (head_at _ _ r j).trans (congrArg₂ soft (funext fun m => (score2_at h w g _ r m).trans ?_) (funext fun m => (ld_heads x11 m j).2.2.1))
    exact score_of h w g x10 2 256 _ rfl _ (fun m j => (ld_heads x10 m j).2.2.1) r m
  | 3 =>
    refine (head_at _ _ r j).trans (congrArg₂ soft (funext fun m => (score3_at h w g _ r m).trans ?_) (funext fun m => (ld_heads x11 m j).2.2.2))
    exact score_of h w g x10 3 384 _ rfl _ (fun m j => (ld_heads x10 m j).2.2.2) r m

theorem ld_a (x : Vec Ideal S512x1024 .f32) : View.ld x r0_0 = x := View.ld_unit_lit _ x (by decide)
theorem ld_b (x : Vec Ideal S512x1024 .bf16) : View.ld x r0_0 = x := View.ld_unit_lit _ x (by decide)
theorem ld_c (x : Vec Ideal S512x256 .bf16) : View.ld x r0_1 = x := View.ld_unit_lit _ x (by decide)
theorem ld_d (x : Vec Ideal S256x1024 .bf16) : View.ld x r0_2 = x := View.ld_unit_lit _ x (by decide)
theorem ld_e (x : Vec Ideal S512x512 .bf16) : View.ld x r0_3 = x := View.ld_unit_lit _ x (by decide)
theorem ld_f (x : Vec Ideal S1x1024 .f32) : View.ld x r0_4 = x := View.ld_unit_lit _ x (by decide)
theorem ld_g (x : Vec Ideal S1024x512 .bf16) : View.ld x r0_5 = x := View.ld_unit_lit _ x (by decide)
theorem ld_h (x : Vec Ideal S1x128 .f32) : View.ld x r0_6 = x := View.ld_unit_lit _ x (by decide)

/-- A row of the block the body stores. -/
theorem block_at (x0 : Vec Ideal S512x256 .bf16) (x1 : Vec Ideal S512x512 .bf16) (x2 : Vec Ideal S512x256 .bf16) (x3 : Vec Ideal S256x1024 .bf16) (x4 : Vec Ideal S512x1024 .bf16) (x5 : Vec Ideal S256x1024 .bf16) (x6 : Vec Ideal S512x1024 .f32) (x7 : Vec Ideal S1x1024 .f32) (x8 : Vec Ideal S1024x512 .bf16) (x9 : Vec Ideal S1x128 .f32) (x10 : Vec Ideal S256x512 .bf16) (x11 : Vec Ideal S256x512 .bf16) (x12 : Vec Ideal S512x1024 .bf16) (r : Fin 512) (n : Fin 1024) :
    k0_pay1 (F := Ideal) (k0_pay2 (View.ld x6 r0_0) (View.ld x0 r0_1) (View.ld x3 r0_2) (View.ld x1 r0_3) (View.ld x4 r0_0) (View.ld x2 r0_1) (View.ld x5 r0_2)) (k0_pay15 (k0_pay12 (k0_pay7 (k0_pay3 (View.ld x6 r0_0) (View.ld x0 r0_1) (View.ld x3 r0_2) (View.ld x1 r0_3) (View.ld x4 r0_0) (View.ld x2 r0_1) (View.ld x5 r0_2) (View.ld x7 r0_4)) (View.ld x8 r0_5)) (k0_pay8 (View.ld x9 r0_6)) (k0_pay9 (k0_pay3 (View.ld x6 r0_0) (View.ld x0 r0_1) (View.ld x3 r0_2) (View.ld x1 r0_3) (View.ld x4 r0_0) (View.ld x2 r0_1) (View.ld x5 r0_2) (View.ld x7 r0_4)) (View.ld x8 r0_5)) (View.ld x10 r0_9))) (k0_pay16 (k0_pay13 (View.ld x10 r0_10)) (k0_pay14 (k0_pay4 (k0_pay3 (View.ld x6 r0_0) (View.ld x0 r0_1) (View.ld x3 r0_2) (View.ld x1 r0_3) (View.ld x4 r0_0) (View.ld x2 r0_1) (View.ld x5 r0_2) (View.ld x7 r0_4)) (View.ld x8 r0_5)) (View.ld x9 r0_6))) (k0_pay17 (k0_pay12 (k0_pay7 (k0_pay3 (View.ld x6 r0_0) (View.ld x0 r0_1) (View.ld x3 r0_2) (View.ld x1 r0_3) (View.ld x4 r0_0) (View.ld x2 r0_1) (View.ld x5 r0_2) (View.ld x7 r0_4)) (View.ld x8 r0_5)) (k0_pay8 (View.ld x9 r0_6)) (k0_pay9 (k0_pay3 (View.ld x6 r0_0) (View.ld x0 r0_1) (View.ld x3 r0_2) (View.ld x1 r0_3) (View.ld x4 r0_0) (View.ld x2 r0_1) (View.ld x5 r0_2) (View.ld x7 r0_4)) (View.ld x8 r0_5)) (View.ld x10 r0_9))) (k0_pay18 (k0_pay13 (View.ld x10 r0_10)) (k0_pay14 (k0_pay4 (k0_pay3 (View.ld x6 r0_0) (View.ld x0 r0_1) (View.ld x3 r0_2) (View.ld x1 r0_3) (View.ld x4 r0_0) (View.ld x2 r0_1) (View.ld x5 r0_2) (View.ld x7 r0_4)) (View.ld x8 r0_5)) (View.ld x9 r0_6)))
      (k0_pay19 (k0_pay10 (k0_pay5 (k0_pay3 (View.ld x6 r0_0) (View.ld x0 r0_1) (View.ld x3 r0_2) (View.ld x1 r0_3) (View.ld x4 r0_0) (View.ld x2 r0_1) (View.ld x5 r0_2) (View.ld x7 r0_4)) (View.ld x8 r0_5) (View.ld x9 r0_6)) (View.ld x10 r0_7)) (View.ld x11 r0_7))
      (k0_pay20 (k0_pay11 (k0_pay6 (k0_pay3 (View.ld x6 r0_0) (View.ld x0 r0_1) (View.ld x3 r0_2) (View.ld x1 r0_3) (View.ld x4 r0_0) (View.ld x2 r0_1) (View.ld x5 r0_2) (View.ld x7 r0_4)) (View.ld x8 r0_5) (View.ld x9 r0_6)) (View.ld x10 r0_8)) (View.ld x11 r0_8)) (View.ld x11 r0_9) (View.ld x11 r0_10) (View.ld x12 r0_0) (ix2 r n)
      = k0_pay2 x6 x0 x3 x1 x4 x2 x5 (ix2 r n)
        + ∑ J, heads (head (k0_pay10 (F := Ideal) (k0_pay5 (k0_pay3 x6 x0 x3 x1 x4 x2 x5 x7) x8 x9) (View.ld x10 r0_7)) (View.ld x11 r0_7))
            (head (k0_pay11 (F := Ideal) (k0_pay6 (k0_pay3 x6 x0 x3 x1 x4 x2 x5 x7) x8 x9) (View.ld x10 r0_8)) (View.ld x11 r0_8))
            (head (k0_pay12 (F := Ideal) (k0_pay7 (k0_pay3 x6 x0 x3 x1 x4 x2 x5 x7) x8) (k0_pay8 x9) (k0_pay9 (k0_pay3 x6 x0 x3 x1 x4 x2 x5 x7) x8) (View.ld x10 r0_9)) (View.ld x11 r0_9))
            (head (score3 (k0_pay3 x6 x0 x3 x1 x4 x2 x5 x7) x8 x9 (View.ld x10 r0_10)) (View.ld x11 r0_10)) (ix2 r J) * x12 (ix2 J n) := by
  rw [ld_a, ld_b, ld_b, ld_c, ld_c, ld_d, ld_d, ld_e, ld_f, ld_g, ld_h]
  exact (congrFun (pay1_eq _ _ _ _ _ _ _ _ _ _ _ _ _) _).trans (fin_at _ _ _ _ _ _ r n)

end Block

end Cert.CrossV

end
-- ==== Proof.CrossR.lean ====
/-
  The cross-attention's reference, index by index.
-/
module

public import proofs.«01_k».proof.Defs
public import proofs.«01_k».proof.Proof.Soft
public import proofs.«01_k».proof.Proof.Gen.CrossRefIdeal.Run
public import proofs.«01_k».proof.Proof.Gen.CrossRefIdeal.Read
public import Idealize.ShloMosaic.Lib.Pipeline.ValueKit
public import Idealize.ShloMosaic.Lib.Pointwise

@[expose] public section

set_option maxRecDepth 16384

noncomputable section

namespace Cert.CrossV

open Idealize.ShloMosaic Idealize.ShloMosaic.TcCoe Idealize.SL.Sem
open Cert.Rms

section Ref
open Cert.CrossRefIdeal Cert.CrossRefIdeal.Gen Cert.CrossRefIdeal.Read

variable (x0 : (⟨S8x4096x256, .bf16⟩ : BufTy).Contents (Elt Ideal)) (x1 : (⟨S8x4096x512, .bf16⟩ : BufTy).Contents (Elt Ideal))
  (x2 : (⟨S8x4096x256, .bf16⟩ : BufTy).Contents (Elt Ideal)) (x3 : (⟨S1024x1024, .f32⟩ : BufTy).Contents (Elt Ideal))
  (x4 : (⟨S8x4096x1024, .f32⟩ : BufTy).Contents (Elt Ideal)) (x5 : (⟨S1024, .f32⟩ : BufTy).Contents (Elt Ideal))
  (x6 : (⟨S1024x512, .f32⟩ : BufTy).Contents (Elt Ideal)) (x7 : (⟨S128, .f32⟩ : BufTy).Contents (Elt Ideal))
  (x8 x9 : (⟨S8x256x4x128, .bf16⟩ : BufTy).Contents (Elt Ideal)) (x10 : (⟨S512x1024, .f32⟩ : BufTy).Contents (Elt Ideal))

/-- The row after the mixer's residual. -/
def mid (b : Fin 8) (s : Fin 4096) (n : Fin 1024) : EReal :=
  x4 (ix3 b s n) + ∑ k, side (fun k => x0 (ix3 b s k)) (fun k => x1 (ix3 b s k)) (fun k => x2 (ix3 b s k)) k * x3 (ix2 k n)

/-- The row's query columns. -/
def qry (b : Fin 8) (s : Fin 4096) (J : Fin 512) : EReal :=
  query (mid x0 x1 x2 x3 x4 b s) (fun k => x5 (ix1 k)) (fun k J => x6 (ix2 k J)) J

/-- A memory array's row of all heads. -/
def mem (y : (⟨S8x256x4x128, .bf16⟩ : BufTy).Contents (Elt Ideal)) (b : Fin 8) (m : Fin 256) (J : Fin 512) : EReal :=
  y (ix4 b m (⟨J.val / 128, by omega⟩ : Fin 4) (⟨J.val % 128, by omega⟩ : Fin 128))

theorem mem_hcol (y : (⟨S8x256x4x128, .bf16⟩ : BufTy).Contents (Elt Ideal)) (b : Fin 8) (m : Fin 256) (h : Fin 4) (j : Fin 128) :
    mem y b m (hcol h j) = y (ix4 b m h j) := by
  unfold mem
  exact congrArg₂ (fun h j => y (ix4 b m h j)) (Fin.ext (by show (h.val * 128 + j.val) / 128 = h.val; omega)) (Fin.ext (by show (h.val * 128 + j.val) % 128 = j.val; omega))

theorem ref_side (b : Fin 8) (s : Fin 4096) (k : Fin 1024) :
    val_main_v1 x0 x1 x2 (ix3 b s k) = side (fun k => x0 (ix3 b s k)) (fun k => x1 (ix3 b s k)) (fun k => x2 (ix3 b s k)) k := by
  pointwise [val_main_v1, val_main_v0, side]

theorem ref_mid (b : Fin 8) (s : Fin 4096) (n : Fin 1024) : val_main_v3 x0 x1 x2 x3 x4 (ix3 b s n) = mid x0 x1 x2 x3 x4 b s n := by
  pointwise [val_main_v3, val_main_v2, ref_side, mid]

theorem ref_qry (b : Fin 8) (s : Fin 4096) (J : Fin 512) : val_main_v17 x0 x1 x2 x3 x4 x5 x6 (ix3 b s J) = qry x0 x1 x2 x3 x4 x5 x6 b s J := by
  pointwise [val_main_v17, val_main_v16, val_main_v15, val_main_v14, val_main_v13, val_main_v12, val_main_v11, val_main_v10, val_main_v9,
    val_main_v8, val_main_v7, val_main_v6, val_main_v5, val_main_v4, val_main_cst, val_main_cst_0, val_main_cst_1, ref_mid, qry, query, rms]

theorem ref_head (b : Fin 8) (s : Fin 4096) (h : Fin 4) (j : Fin 128) : val_main_v18 x0 x1 x2 x3 x4 x5 x6 (ix4 b s h j) = qry x0 x1 x2 x3 x4 x5 x6 b s (hcol h j) := by
  pointwise [val_main_v18, ref_qry, hcol]

theorem ref_qn (b : Fin 8) (s : Fin 4096) (h : Fin 4) (j : Fin 128) : val_main_v31 x0 x1 x2 x3 x4 x5 x6 x7 (ix4 b s h j)
    = rmsHead (fun j => qry x0 x1 x2 x3 x4 x5 x6 b s (hcol h j)) (fun j => x7 (ix1 j)) j := by
  pointwise [val_main_v31, val_main_v30, val_main_v29, val_main_v28, val_main_v27, val_main_v26, val_main_v25, val_main_v24, val_main_v23,
    val_main_v22, val_main_v21, val_main_v20, val_main_v19, val_main_cst_2, val_main_cst_3, val_main_cst_4, ref_head, rmsHead]

theorem ref_score (b : Fin 8) (s : Fin 4096) (h : Fin 4) (m : Fin 256) : val_main_v35 x0 x1 x2 x3 x4 x5 x6 x7 x8 (ix4 b h s m)
    = score (qry x0 x1 x2 x3 x4 x5 x6 b s) (fun j => x7 (ix1 j)) (mem x8 b) h m := by
  pointwise [val_main_v35, val_main_v34, val_main_v33, val_main_v32, val_main_cst_5, ref_qn, score, mem_hcol]

theorem ref_max (b : Fin 8) (s : Fin 4096) (h : Fin 4) : val_main_v36 x0 x1 x2 x3 x4 x5 x6 x7 x8 (ix3 b h s)
    = smax (score (qry x0 x1 x2 x3 x4 x5 x6 b s) (fun j => x7 (ix1 j)) (mem x8 b) h) := by
  pointwise [val_main_v36, val_main_cst_6, ref_score, smax]

theorem max_at (a b : EReal) : FloatOps.maximumf (F := Ideal) (φ := .f32) a b = max a b := rfl

theorem lowest_at : FloatOps.ofBits (F := Ideal) .f32 0xFF800000#32 = Ideal.ofBits .f32 0xFF800000#32 := rfl

theorem ref_top (b : Fin 8) (s : Fin 4096) (h : Fin 4) : val_main_v38 x0 x1 x2 x3 x4 x5 x6 x7 x8 (ix3 b h s)
    = max (Ideal.ofBits .f32 0xFF800000#32) (smax (score (qry x0 x1 x2 x3 x4 x5 x6 b s) (fun j => x7 (ix1 j)) (mem x8 b) h)) := by
  rw [val_main_v38_apply, max_at, val_main_v37_apply, val_main_cst_7_apply, lowest_at, ref_max]

theorem ref_exp (b : Fin 8) (s : Fin 4096) (h : Fin 4) (m : Fin 256) : val_main_v42 x0 x1 x2 x3 x4 x5 x6 x7 x8 (ix4 b h s m)
    = Ideal.exp ((score (qry x0 x1 x2 x3 x4 x5 x6 b s) (fun j => x7 (ix1 j)) (mem x8 b) h m) - max (Ideal.ofBits .f32 0xFF800000#32) (smax (score (qry x0 x1 x2 x3 x4 x5 x6 b s) (fun j => x7 (ix1 j)) (mem x8 b) h))) := by
  pointwise [val_main_v42, val_main_v41, val_main_v40, val_main_v39, ref_score, ref_top]

theorem ref_len (b : Fin 8) (s : Fin 4096) (h : Fin 4) : val_main_v43 x0 x1 x2 x3 x4 x5 x6 x7 x8 (ix3 b h s)
    = ∑ m, Ideal.exp ((score (qry x0 x1 x2 x3 x4 x5 x6 b s) (fun j => x7 (ix1 j)) (mem x8 b) h m) - max (Ideal.ofBits .f32 0xFF800000#32) (smax (score (qry x0 x1 x2 x3 x4 x5 x6 b s) (fun j => x7 (ix1 j)) (mem x8 b) h))) := by
  pointwise [val_main_v43, val_main_cst_8, ref_exp]

theorem ref_part (b : Fin 8) (s : Fin 4096) (h : Fin 4) (m : Fin 256) : val_main_v46 x0 x1 x2 x3 x4 x5 x6 x7 x8 (ix4 b h s m)
    = Ideal.div (val_main_v42 x0 x1 x2 x3 x4 x5 x6 x7 x8 (ix4 b h s m)) (val_main_v43 x0 x1 x2 x3 x4 x5 x6 x7 x8 (ix3 b h s)) := by
  pointwise [val_main_v46, val_main_v45, val_main_v44]

theorem ref_att (b : Fin 8) (s : Fin 4096) (h : Fin 4) (j : Fin 128) : val_main_v49 x0 x1 x2 x3 x4 x5 x6 x7 x8 x9 (ix4 b s h j)
    = ∑ m, mem x9 b m (hcol h j) * val_main_v46 x0 x1 x2 x3 x4 x5 x6 x7 x8 (ix4 b h s m) := by
  pointwise [val_main_v49, val_main_v48, val_main_v47, mem_hcol]

theorem ref_soft (b : Fin 8) (s : Fin 4096) (h : Fin 4) (j : Fin 128) : val_main_v49 x0 x1 x2 x3 x4 x5 x6 x7 x8 x9 (ix4 b s h j)
    = softRef (score (qry x0 x1 x2 x3 x4 x5 x6 b s) (fun j => x7 (ix1 j)) (mem x8 b) h) (fun m => mem x9 b m (hcol h j)) := by
  rw [ref_att]
  unfold softRef
  refine Finset.sum_congr rfl fun m _ => ?_
  rw [ref_part, ref_exp, ref_len]

/-- The head of a column. -/
theorem ref_col (b : Fin 8) (s : Fin 4096) (h : Fin 4) (j : Fin 128) : val_main_v50 x0 x1 x2 x3 x4 x5 x6 x7 x8 x9 (ix3 b s (hcol h j))
    = val_main_v49 x0 x1 x2 x3 x4 x5 x6 x7 x8 x9 (ix4 b s h j) := by
  unfold hcol
  pointwise [val_main_v50]

theorem ref_out (b : Fin 8) (s : Fin 4096) (n : Fin 1024) (R : Fin 32768) (hR : R.val = b.val * 4096 + s.val) :
    val_main_v53 x0 x1 x2 x3 x4 x5 x6 x7 x8 x9 x10 (ix2 R n)
      = mid x0 x1 x2 x3 x4 b s n + ∑ J, val_main_v50 x0 x1 x2 x3 x4 x5 x6 x7 x8 x9 (ix3 b s J) * x10 (ix2 J n) := by
  obtain rfl : R = ⟨b.val * 4096 + s.val, by clear hR; omega⟩ := Fin.ext hR
  pointwise [val_main_v53, val_main_v52, val_main_v51, ref_mid]

end Ref

end Cert.CrossV

end
-- ==== Proof.CrossV.lean ====
/-
  The cross-attention's output array, and its value.
-/
module

public import proofs.«01_k».proof.Defs
public import proofs.«01_k».proof.Proof.CrossK
public import proofs.«01_k».proof.Proof.CrossR
public import proofs.«01_k».proof.Proof.Gen.Cross.Frame
public import proofs.«01_k».proof.Proof.Gen.Pre_finite_keys
public import Idealize.ShloMosaic.Lib.Pipeline.ValueKit
public import Idealize.ShloMosaic.Lib.Pipeline.ReadBack
public import Idealize.ShloMosaic.Lib.Pointwise

@[expose] public section

set_option maxRecDepth 16384

noncomputable section

namespace Cert.CrossV

open Idealize.ShloMosaic Idealize.ShloMosaic.TcCoe Idealize.SL.Sem
open Idealize.ShloMosaic.Pipeline
open Cert.Rms

section Arrays
open Cert.CrossIdeal Cert.CrossIdeal.Gen
variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![0, 0] ∧ win0_6.index t = ![t.val, 0] ∧ win0_7.index t = ![0, 0] ∧ win0_8.index t = ![0, 0] ∧ win0_9.index t = ![0, 0] ∧ win0_10.index t = ![t.val / 8, 0] ∧ win0_11.index t = ![t.val / 8, 0] ∧ win0_12.index t = ![0, 0] ∧ win0_13.index t = ![t.val, 0] :=
  (by decide +kernel : ∀ t : Fin grid0.N, _)

/-- The eleven arguments. -/
abbrev a0 (c : Dev nD) : Vec Ideal S8x4096x256 .bf16 := m ((c.tc : Thread nD τ).loc main_arg0)
abbrev a1 (c : Dev nD) : Vec Ideal S8x4096x512 .bf16 := m ((c.tc : Thread nD τ).loc main_arg1)
abbrev a2 (c : Dev nD) : Vec Ideal S8x4096x256 .bf16 := m ((c.tc : Thread nD τ).loc main_arg2)
abbrev a3 (c : Dev nD) : Vec Ideal S1024x1024 .f32 := m ((c.tc : Thread nD τ).loc main_arg3)
abbrev a4 (c : Dev nD) : Vec Ideal S8x4096x1024 .f32 := m ((c.tc : Thread nD τ).loc main_arg4)
abbrev a5 (c : Dev nD) : Vec Ideal S1024 .f32 := m ((c.tc : Thread nD τ).loc main_arg5)
abbrev a6 (c : Dev nD) : Vec Ideal S1024x512 .f32 := m ((c.tc : Thread nD τ).loc main_arg6)
abbrev a7 (c : Dev nD) : Vec Ideal S128 .f32 := m ((c.tc : Thread nD τ).loc main_arg7)
abbrev a8 (c : Dev nD) : Vec Ideal S8x256x4x128 .bf16 := m ((c.tc : Thread nD τ).loc main_arg8)
abbrev a9 (c : Dev nD) : Vec Ideal S8x256x4x128 .bf16 := m ((c.tc : Thread nD τ).loc main_arg9)
abbrev a10 (c : Dev nD) : Vec Ideal S512x1024 .f32 := m ((c.tc : Thread nD τ).loc main_arg10)

theorem V0 (c : Dev nD) : V m c main_v0 = shapeCast S32768x256 (a0 m c) shapeCasts_S8x4096x256_S32768x256 := by
  unfold_abbrev_sides
  after_results
  try rfl

theorem V1 (c : Dev nD) : V m c main_v1 = shapeCast S32768x512 (a1 m c) shapeCasts_S8x4096x512_S32768x512 := by
  unfold_abbrev_sides
  after_results
  try rfl

theorem V2 (c : Dev nD) : V m c main_v2 = shapeCast S32768x256 (a2 m c) shapeCasts_S8x4096x256_S32768x256 := by
  unfold_abbrev_sides
  after_results
  try rfl

theorem V3 (c : Dev nD) : V m c main_v3 = shapeCast S32768x1024 (a4 m c) shapeCasts_S8x4096x1024_S32768x1024 := by
  unfold_abbrev_sides
  after_results
  try rfl

theorem V4 (c : Dev nD) : V m c main_v4 = shapeCast S2048x512 (a8 m c) shapeCasts_S8x256x4x128_S2048x512 := by
  unfold_abbrev_sides
  after_results
  try rfl

theorem V5 (c : Dev nD) : V m c main_v5 = shapeCast S2048x512 (a9 m c) shapeCasts_S8x256x4x128_S2048x512 := by
  unfold_abbrev_sides
  after_results
  try rfl

theorem V7 (c : Dev nD) : V m c main_v7 = extractStridedSlice S256x1024 ![0, 0] (truncf (F := Ideal) .bf16 (a3 m c) bitsLt_bf16_f32) slices_S1024x1024_S256x1024_0_0 := by
  unfold_abbrev_sides
  after_results
  try rfl

theorem V8 (c : Dev nD) : V m c main_v8 = extractStridedSlice S512x1024 ![256, 0] (truncf (F := Ideal) .bf16 (a3 m c) bitsLt_bf16_f32) slices_S1024x1024_S512x1024_256_0 := by
  unfold_abbrev_sides
  after_results
  try rfl

theorem V9 (c : Dev nD) : V m c main_v9 = extractStridedSlice S256x1024 ![768, 0] (truncf (F := Ideal) .bf16 (a3 m c) bitsLt_bf16_f32) slices_S1024x1024_S256x1024_768_0 := by
  unfold_abbrev_sides
  after_results
  try rfl

theorem V10 (c : Dev nD) : V m c main_v10 = shapeCast S1x1024 (a5 m c) shapeCasts_S1024_S1x1024 := by
  unfold_abbrev_sides
  after_results
  try rfl

theorem V11 (c : Dev nD) : V m c main_v11 = truncf (F := Ideal) .bf16 (a6 m c) bitsLt_bf16_f32 := by
  unfold_abbrev_sides
  after_results
  try rfl

theorem V12 (c : Dev nD) : V m c main_v12 = shapeCast S1x128 (a7 m c) shapeCasts_S128_S1x128 := by
  unfold_abbrev_sides
  after_results
  try rfl

theorem V13 (c : Dev nD) : V m c main_v13 = truncf (F := Ideal) .bf16 (a10 m c) bitsLt_bf16_f32 := by
  unfold_abbrev_sides
  after_results
  try rfl

theorem blk0 (c : Dev nD) (t : Fin cfg0.N) (R : Fin 32768) (r : Fin 512) (k : Fin 256) (h : R.val = t.val * 512 + r.val) :
    iblk m c 0 t (ix2 r k) = a0 m c (ix3 (⟨R.val / 4096, by omega⟩ : Fin 8) (⟨R.val % 4096, by omega⟩ : Fin 4096) k) := by
  have e : iblk m c 0 t (ix2 r k) = V m c main_v0 (ix2 R k) := by blk_ext [iblk, idx t]
  rw [e, V0]
  generalize a0 m c = X
  pointwise

theorem blk1 (c : Dev nD) (t : Fin cfg0.N) (R : Fin 32768) (r : Fin 512) (k : Fin 512) (h : R.val = t.val * 512 + r.val) :
    iblk m c 1 t (ix2 r k) = a1 m c (ix3 (⟨R.val / 4096, by omega⟩ : Fin 8) (⟨R.val % 4096, by omega⟩ : Fin 4096) k) := by
  have e : iblk m c 1 t (ix2 r k) = V m c main_v1 (ix2 R k) := by blk_ext [iblk, idx t]
  rw [e, V1]
  generalize a1 m c = X
  pointwise

theorem blk2 (c : Dev nD) (t : Fin cfg0.N) (R : Fin 32768) (r : Fin 512) (k : Fin 256) (h : R.val = t.val * 512 + r.val) :
    iblk m c 2 t (ix2 r k) = a2 m c (ix3 (⟨R.val / 4096, by omega⟩ : Fin 8) (⟨R.val % 4096, by omega⟩ : Fin 4096) k) := by
  have e : iblk m c 2 t (ix2 r k) = V m c main_v2 (ix2 R k) := by blk_ext [iblk, idx t]
  rw [e, V2]
  generalize a2 m c = X
  pointwise

theorem blk6 (c : Dev nD) (t : Fin cfg0.N) (R : Fin 32768) (r : Fin 512) (k : Fin 1024) (h : R.val = t.val * 512 + r.val) :
    iblk m c 6 t (ix2 r k) = a4 m c (ix3 (⟨R.val / 4096, by omega⟩ : Fin 8) (⟨R.val % 4096, by omega⟩ : Fin 4096) k) := by
  have e : iblk m c 6 t (ix2 r k) = V m c main_v3 (ix2 R k) := by blk_ext [iblk, idx t]
  rw [e, V3]
  generalize a4 m c = X
  pointwise

theorem blk3 (c : Dev nD) (t : Fin cfg0.N) (k : Fin 256) (n : Fin 1024) :
    iblk m c 3 t (ix2 k n) = a3 m c (ix2 (⟨k.val, by omega⟩ : Fin 1024) n) := by
  have e : iblk m c 3 t (ix2 k n) = V m c main_v7 (ix2 k n) := by blk_ext [iblk, idx t]
  rw [e, V7]
  generalize a3 m c = X
  pointwise

theorem blk4 (c : Dev nD) (t : Fin cfg0.N) (k : Fin 512) (n : Fin 1024) :
    iblk m c 4 t (ix2 k n) = a3 m c (ix2 (⟨256 + k.val, by omega⟩ : Fin 1024) n) := by
  have e : iblk m c 4 t (ix2 k n) = V m c main_v8 (ix2 k n) := by blk_ext [iblk, idx t]
  rw [e, V8]
  generalize a3 m c = X
  pointwise

theorem blk5 (c : Dev nD) (t : Fin cfg0.N) (k : Fin 256) (n : Fin 1024) :
    iblk m c 5 t (ix2 k n) = a3 m c (ix2 (⟨768 + k.val, by omega⟩ : Fin 1024) n) := by
  have e : iblk m c 5 t (ix2 k n) = V m c main_v9 (ix2 k n) := by blk_ext [iblk, idx t]
  rw [e, V9]
  generalize a3 m c = X
  pointwise

theorem blk7 (c : Dev nD) (t : Fin cfg0.N) (k : Fin 1024) :
    iblk m c 7 t (ix2 (0 : Fin 1) k) = a5 m c (ix1 k) := by
  have e : iblk m c 7 t (ix2 (0 : Fin 1) k) = V m c main_v10 (ix2 (0 : Fin 1) k) := by blk_ext [iblk, idx t]
  rw [e, V10]
  generalize a5 m c = X
  pointwise

theorem blk8 (c : Dev nD) (t : Fin cfg0.N) (k : Fin 1024) (J : Fin 512) :
    iblk m c 8 t (ix2 k J) = a6 m c (ix2 k J) := by
  have e : iblk m c 8 t (ix2 k J) = V m c main_v11 (ix2 k J) := by blk_ext [iblk, idx t]
  rw [e, V11]
  generalize a6 m c = X
  pointwise

theorem blk9 (c : Dev nD) (t : Fin cfg0.N) (k : Fin 128) :
    iblk m c 9 t (ix2 (0 : Fin 1) k) = a7 m c (ix1 k) := by
  have e : iblk m c 9 t (ix2 (0 : Fin 1) k) = V m c main_v12 (ix2 (0 : Fin 1) k) := by blk_ext [iblk, idx t]
  rw [e, V12]
  generalize a7 m c = X
  pointwise

theorem mem_cast (X : Vec Ideal S8x256x4x128 .bf16) (b : Fin 8) (k : Fin 256) (h : Fin 4) (j : Fin 128) :
    shapeCast S2048x512 X shapeCasts_S8x256x4x128_S2048x512 (ix2 (⟨b.val * 256 + k.val, by omega⟩ : Fin 2048) (⟨h.val * 128 + j.val, by omega⟩ : Fin 512))
      = X (ix4 b k h j) := by
  pointwise

theorem blk10 (c : Dev nD) (t : Fin cfg0.N) (ht : t.val < 64) (k : Fin 256) (h : Fin 4) (j : Fin 128) :
    iblk m c 10 t (ix2 k (hcol h j)) = a8 m c (ix4 (⟨t.val / 8, by omega⟩ : Fin 8) k h j) := by
  have e : iblk m c 10 t (ix2 k (hcol h j)) = V m c main_v4 (ix2 (⟨t.val / 8 * 256 + k.val, by omega⟩ : Fin 2048) (⟨h.val * 128 + j.val, by omega⟩ : Fin 512)) := by
    blk_ext [iblk, idx t]
    rfl
  rw [e, V4]
  generalize a8 m c = X
  exact mem_cast X ⟨t.val / 8, by omega⟩ k h j

theorem blk11 (c : Dev nD) (t : Fin cfg0.N) (ht : t.val < 64) (k : Fin 256) (h : Fin 4) (j : Fin 128) :
    iblk m c 11 t (ix2 k (hcol h j)) = a9 m c (ix4 (⟨t.val / 8, by omega⟩ : Fin 8) k h j) := by
  have e : iblk m c 11 t (ix2 k (hcol h j)) = V m c main_v5 (ix2 (⟨t.val / 8 * 256 + k.val, by omega⟩ : Fin 2048) (⟨h.val * 128 + j.val, by omega⟩ : Fin 512)) := by
    blk_ext [iblk, idx t]
    rfl
  rw [e, V5]
  generalize a9 m c = X
  exact mem_cast X ⟨t.val / 8, by omega⟩ k h j

theorem blk12 (c : Dev nD) (t : Fin cfg0.N) (J : Fin 512) (n : Fin 1024) :
    iblk m c 12 t (ix2 J n) = a10 m c (ix2 J n) := by
  have e : iblk m c 12 t (ix2 J n) = V m c main_v13 (ix2 J n) := by blk_ext [iblk, idx t]
  rw [e, V13]
  generalize a10 m c = X
  pointwise

/-- The rows a grid point takes: the sequence and the position. -/
abbrev sq (t : Fin cfg0.N) (ht : t.val < 64) : Fin 8 := ⟨t.val / 8, by omega⟩
abbrev ps (t : Fin cfg0.N) (ht : t.val < 64) (r : Fin 512) : Fin 4096 := ⟨t.val % 8 * 512 + r.val, by omega⟩

theorem at_row {X : Fin 8 → Fin 4096 → EReal} (t : Fin cfg0.N) (ht : t.val < 64) (r : Fin 512) :
    X (⟨(t.val * 512 + r.val) / 4096, by omega⟩ : Fin 8) (⟨(t.val * 512 + r.val) % 4096, by omega⟩ : Fin 4096) = X (sq t ht) (ps t ht r) :=
  congrArg₂ X (Fin.ext (by show (t.val * 512 + r.val) / 4096 = t.val / 8; omega))
    (Fin.ext (by show (t.val * 512 + r.val) % 4096 = t.val % 8 * 512 + r.val; omega))

theorem mid_row (c : Dev nD) (t : Fin cfg0.N) (ht : t.val < 64) (r : Fin 512) (n : Fin 1024) :
    k0_pay2 (iblk m c 6 t) (iblk m c 0 t) (iblk m c 3 t) (iblk m c 1 t) (iblk m c 4 t) (iblk m c 2 t) (iblk m c 5 t) (ix2 r n)
      = mid (a0 m c) (a1 m c) (a2 m c) (a3 m c) (a4 m c) (sq t ht) (ps t ht r) n := by
  have hR : t.val * 512 + r.val < 32768 := by omega
  rw [pay2_at, blk6 m c t ⟨_, hR⟩ r n rfl]
  unfold mid
  rw [side_sum]
  refine congrArg₂ (· + ·) (at_row (X := fun b s => a4 m c (ix3 b s n)) t ht r) (congrArg₂ (· + ·) (congrArg₂ (· + ·) ?_ ?_) ?_)
  · exact Finset.sum_congr rfl fun k _ => congrArg₂ (· * ·) ((blk0 m c t ⟨_, hR⟩ r k rfl).trans (at_row (X := fun b s => a0 m c (ix3 b s k)) t ht r)) (blk3 m c t k n)
  · exact Finset.sum_congr rfl fun k _ => congrArg₂ (· * ·) ((blk1 m c t ⟨_, hR⟩ r k rfl).trans (at_row (X := fun b s => a1 m c (ix3 b s k)) t ht r)) (blk4 m c t k n)
  · exact Finset.sum_congr rfl fun k _ => congrArg₂ (· * ·) ((blk2 m c t ⟨_, hR⟩ r k rfl).trans (at_row (X := fun b s => a2 m c (ix3 b s k)) t ht r)) (blk5 m c t k n)

theorem qry_row (c : Dev nD) (t : Fin cfg0.N) (ht : t.val < 64) (r : Fin 512) :
    bq (k0_pay3 (iblk m c 6 t) (iblk m c 0 t) (iblk m c 3 t) (iblk m c 1 t) (iblk m c 4 t) (iblk m c 2 t) (iblk m c 5 t) (iblk m c 7 t)) (iblk m c 8 t) r
      = qry (a0 m c) (a1 m c) (a2 m c) (a3 m c) (a4 m c) (a5 m c) (a6 m c) (sq t ht) (ps t ht r) := by
  funext J
  unfold bq
  rw [pay4_at]
  unfold qry query
  refine Finset.sum_congr rfl fun k _ => congrArg₂ (· * ·) ?_ (blk8 m c t k J)
  rw [pay3_at]
  exact congrArg₂ (fun x g => rms x g k) (funext fun n => mid_row m c t ht r n) (funext fun j => blk7 m c t j)

theorem score_row (c : Dev nD) (t : Fin cfg0.N) (ht : t.val < 64) (q : Fin 512 → EReal) (h : Fin 4) :
    score q (fun j => iblk m c 9 t (ix2 0 j)) (fun m' J => iblk m c 10 t (ix2 m' J)) h = score q (fun j => a7 m c (ix1 j)) (mem (a8 m c) (sq t ht)) h := by
  funext k
  unfold score
  simp only [mem_hcol, blk10 m c t ht]
  simp only [blk9]

/-- The output array after the launch is the reference's, where the queries' gains and the keys are real numbers. -/
theorem out13 (c : Dev nD) (q7 : ∀ i, IsReal (a7 m c i)) (q8 : ∀ i, IsReal (a8 m c i)) : (dats m 0 c).arrAt 13 cfg0.N
    = Cert.CrossRefIdeal.Read.val_main_v53 (F := Ideal) (a0 m c) (a1 m c) (a2 m c) (a3 m c) (a4 m c) (a5 m c) (a6 m c) (a7 m c) (a8 m c) (a9 m c) (a10 m c) := by
  refine (dats m 0 c).arrAt_eq_of_covers 13 _ (by decide +kernel) fun t hf y => ?_
  have ht : t.val < 64 := t.isLt
  blk_simp
  rw [after0_13]
  unfold_out out0_13
  canon_tiles x h
  rw [show (((cfg0.win 13).blk t).view.emb y) = ix2 (⟨t.val * 512 + (x 0).val, by omega⟩ : Fin 32768) (⟨(x 1).val, by omega⟩ : Fin 1024) from by blk_ext [idx t]]
  obtain ⟨r, n, rfl⟩ : ∃ (r : Fin 512) (n : Fin 1024), x = ix2 r n := ⟨x 0, x 1, by idx_ext⟩
  refine (block_at _ _ _ _ _ _ _ _ _ _ _ _ _ r n).trans ?_
  refine (congrArg₂ (· + ·) (mid_row m c t ht r n) (Finset.sum_congr rfl fun J _ => ?_)).trans (ref_out (a0 m c) (a1 m c) (a2 m c) (a3 m c) (a4 m c) (a5 m c) (a6 m c) (a7 m c) (a8 m c) (a9 m c) (a10 m c)
    (sq t ht) (ps t ht r) n _ (by show t.val * 512 + r.val = t.val / 8 * 4096 + (t.val % 8 * 512 + r.val); omega)).symm
  refine congrArg₂ (· * ·) ?_ (blk12 m c t J n)
  obtain ⟨h, j, rfl⟩ := hcol_split J
  rw [heads_block, ref_col, ref_soft, qry_row m c t ht r, score_row m c t ht]
  refine (soft_eq _ _ fun k => ?_).trans (congrArg (softRef _) (funext fun k => (blk11 m c t ht k h j).trans (mem_hcol _ _ _ _ _).symm))
  exact score_real _ _ _ _ k (fun j => q7 _) (fun k J => q8 _)

end Arrays

section Pre
open Cert.CrossIdeal Cert.CrossIdeal.Gen

variable [Cert.Pre_finite_keys.Facts] (m : (ℓ : Loc nD τ sig) → Buf (Elt Ideal) ℓ)

theorem pre_real (h : Cert.Pre_CrossIdeal_finite_keys m) (c : Dev nD) : (∀ i, IsReal (a7 m c i)) ∧ ∀ i, IsReal (a8 m c i) := by
  obtain ⟨p7, p8⟩ := h c
  unfold a7 a8
  generalize m _ = X7 at p7 p8 ⊢
  generalize m _ = X8 at p7 p8 ⊢
  refine ⟨fun i => ?_, fun i => ?_⟩
  · have e := congrFun p7 i
    pointwise [Cert.Pre_finite_keys.fn] at e
    exact real_of_olt e
  · have e := congrFun p8 i
    pointwise [Cert.Pre_finite_keys.fn] at e
    exact real_of_olt_bf16 e

end Pre

section Claims

theorem frame_p : Cert.quiescent_Cross := fun m ρ _ => Cert.Cross.Gen.frame m ρ

theorem frame_pi : Cert.quiescent_CrossIdeal := fun m ρ _ => Cert.CrossIdeal.Gen.frame m ρ

theorem frame_ri : Cert.quiescent_CrossRefIdeal := fun m ρ _ =>
  (θ_run Cert.CrossRefIdeal.defs _ _).mono (fun r h => ⟨fun c => (h c).2, sem_eq_zero_of_no_sems (by decide) r.2⟩)
    (Cert.CrossRefIdeal.Value.run (F := Ideal) m ρ)

/-- The cross-attention's array, from gains and keys without an infinity. -/
theorem algebraic : Cert.algebraic_CrossIdeal_CrossRefIdeal_pre_finite_keys := by
  intro m ρ m' ρ' hpre hagree
  refine ⟨_, Cert.CrossIdeal.Value.run_blocks (F := Ideal) m ρ, ?_⟩
  refine (θ_run Cert.CrossRefIdeal.defs _ _).mono (fun r h c => ?_) (Cert.CrossRefIdeal.Value.run (F := Ideal) m' ρ')
  obtain ⟨g0, g1, g2, g3, g4, g5, g6, g7, g8, g9, g10⟩ := hagree c
  obtain ⟨q7, q8⟩ := pre_real m hpre c
  obtain ⟨h0, h1⟩ := h c
  rw [Cert.CrossRefIdeal.Read.val_main_v53_eq, g0, g1, g2, g3, g4, g5, g6, g7, g8, g9, g10] at h0
  exact ⟨h0.trans (out13 m c q7 q8).symm, h1⟩

end Claims

end Cert.CrossV

end
-- ==== Proof.lean ====
module

public import proofs.«01_k».proof.Defs
public import proofs.«01_k».proof.Proof.BodyK
public import proofs.«01_k».proof.Proof.BodyI
public import proofs.«01_k».proof.Proof.InprojS
public import proofs.«01_k».proof.Proof.FfnD
public import proofs.«01_k».proof.Proof.MemkvV
public import proofs.«01_k».proof.Proof.CrossV
public import proofs.«01_k».proof.Proof.Gen.Ffn.Frame

@[expose] public section

noncomputable section

namespace Cert.Proof

open Idealize.ShloMosaic Idealize.SL.Sem

theorem frame_p : Cert.quiescent_Kernel := fun m g _ => Cert.Kernel.Hand.quiescent m g

theorem frame_pi : Cert.quiescent_KernelIdeal := fun m g _ => Cert.KernelIdeal.Hand.quiescent m g

/-- The one named literal: the certificate's table gives `"mask"` the value `⊥`. -/
theorem preserves : Cert.preserves_Kernel_KernelIdeal :=
  IdealRules.named_const.statement Cert.KernelIdeal.κ "mask" .f32 0xF149F2CA#32 ⊥ rfl

theorem claim : Cert.Claim :=
  ⟨Cert.Kernel.Gen.facts, Cert.KernelIdeal.Gen.facts, Cert.Ffn.Gen.facts, Cert.FfnIdeal.Gen.facts, Cert.FfnRefIdeal.Gen.facts,
    Cert.Inproj.Gen.facts, Cert.InprojIdeal.Gen.facts, Cert.InprojRefIdeal.Gen.facts,
    Cert.Memkv.Gen.facts, Cert.MemkvIdeal.Gen.facts, Cert.MemkvRefIdeal.Gen.facts, Cert.Cross.Gen.facts, Cert.CrossIdeal.Gen.facts,
    Cert.CrossRefIdeal.Gen.facts, Cert.Pre_finite.Gen.facts, Cert.Pre_finite_keys.Gen.facts,
    frame_p, frame_pi, FfnV.frame_p, FfnV.frame_pi, FfnV.frame_ri, InprojV.frame_p, InprojV.frame_pi, fun m ρ _ => InprojV.frame_pi m ρ trivial,
    InprojV.frame_ri, fun m ρ _ => InprojV.frame_ri m ρ trivial, MemkvV.frame_p, MemkvV.frame_pi, MemkvV.frame_ri,
    CrossV.frame_p, CrossV.frame_pi, fun m ρ _ => CrossV.frame_pi m ρ trivial, CrossV.frame_ri, fun m ρ _ => CrossV.frame_ri m ρ trivial,
    preserves, trivial, FfnV.algebraic, trivial, InprojV.algebraic, trivial, MemkvV.algebraic, trivial, CrossV.algebraic⟩

end Cert.Proof

end
